-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v50_0)) (v3 : (c : Dev Cert.KernelIdeal.nD) → Buf (Elt Ideal) ((c.tc : Thread Cert.KernelIdeal.nD Cert.KernelIdeal.τ).loc Cert.KernelIdeal.main_v50_1)) (v4 : (c : Dev Cert.KernelIdeal.nD) → Buf (Elt Ideal) ((c.tc : Thread Cert.KernelIdeal.nD Cert.KernelIdeal.τ).loc Cert.KernelIdeal.main_v50_2)) (v5 : (c : Dev Cert.KernelIdeal.nD) → Buf (Elt Ideal) ((c.tc : Thread Cert.KernelIdeal.nD Cert.KernelIdeal.τ).loc Cert.KernelIdeal.main_v50_3)) (v6 : (c : Dev Cert.KernelIdeal.nD) → Buf (Elt Ideal) ((c.tc : Thread Cert.KernelIdeal.nD Cert.KernelIdeal.τ).loc Cert.KernelIdeal.main_v50_4)) (v7 : (c : Dev Cert.KernelIdeal.nD) → Buf (Elt Ideal) ((c.tc : Thread Cert.KernelIdeal.nD Cert.KernelIdeal.τ).loc Cert.KernelIdeal.main_v60_0)) (v8 : (c : Dev Cert.KernelIdeal.nD) → Buf (Elt Ideal) ((c.tc : Thread Cert.KernelIdeal.nD Cert.KernelIdeal.τ).loc Cert.KernelIdeal.main_v60_1)) (v9 : (c : Dev Cert.KernelIdeal.nD) → Buf (Elt Ideal) ((c.tc : Thread Cert.KernelIdeal.nD Cert.KernelIdeal.τ).loc Cert.KernelIdeal.main_v60_2)) (v10 : (c : Dev Cert.KernelIdeal.nD) → Buf (Elt Ideal) ((c.tc : Thread Cert.KernelIdeal.nD Cert.KernelIdeal.τ).loc Cert.KernelIdeal.main_v60_3)) (v11 : (c : Dev Cert.KernelIdeal.nD) → Buf (Elt Ideal) ((c.tc : Thread Cert.KernelIdeal.nD Cert.KernelIdeal.τ).loc Cert.KernelIdeal.main_v60_4)) (v12 : (c : Dev Cert.KernelIdeal.nD) → Buf (Elt Ideal) ((c.tc : Thread Cert.KernelIdeal.nD Cert.KernelIdeal.τ).loc Cert.KernelIdeal.main_v70_0)) (v13 : (c : Dev Cert.KernelIdeal.nD) → Buf (Elt Ideal) ((c.tc : Thread Cert.KernelIdeal.nD Cert.KernelIdeal.τ).loc Cert.KernelIdeal.main_v70_1)) (v14 : (c : Dev Cert.KernelIdeal.nD) → Buf (Elt Ideal) ((c.tc : Thread Cert.KernelIdeal.nD Cert.KernelIdeal.τ).loc Cert.KernelIdeal.main_v70_2)) (v15 : (c : Dev Cert.KernelIdeal.nD) → Buf (Elt Ideal) ((c.tc : Thread Cert.KernelIdeal.nD Cert.KernelIdeal.τ).loc Cert.KernelIdeal.main_v70_3)) (v16 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v50_0) = v2 c
          ∧ r.2.mem ((c.tc : Thread Cert.KernelIdeal.nD Cert.KernelIdeal.τ).loc Cert.KernelIdeal.main_v50_1) = v3 c
          ∧ r.2.mem ((c.tc : Thread Cert.KernelIdeal.nD Cert.KernelIdeal.τ).loc Cert.KernelIdeal.main_v50_2) = v4 c
          ∧ r.2.mem ((c.tc : Thread Cert.KernelIdeal.nD Cert.KernelIdeal.τ).loc Cert.KernelIdeal.main_v50_3) = v5 c
          ∧ r.2.mem ((c.tc : Thread Cert.KernelIdeal.nD Cert.KernelIdeal.τ).loc Cert.KernelIdeal.main_v50_4) = v6 c
          ∧ r.2.mem ((c.tc : Thread Cert.KernelIdeal.nD Cert.KernelIdeal.τ).loc Cert.KernelIdeal.main_v60_0) = v7 c
          ∧ r.2.mem ((c.tc : Thread Cert.KernelIdeal.nD Cert.KernelIdeal.τ).loc Cert.KernelIdeal.main_v60_1) = v8 c
          ∧ r.2.mem ((c.tc : Thread Cert.KernelIdeal.nD Cert.KernelIdeal.τ).loc Cert.KernelIdeal.main_v60_2) = v9 c
          ∧ r.2.mem ((c.tc : Thread Cert.KernelIdeal.nD Cert.KernelIdeal.τ).loc Cert.KernelIdeal.main_v60_3) = v10 c
          ∧ r.2.mem ((c.tc : Thread Cert.KernelIdeal.nD Cert.KernelIdeal.τ).loc Cert.KernelIdeal.main_v60_4) = v11 c
          ∧ r.2.mem ((c.tc : Thread Cert.KernelIdeal.nD Cert.KernelIdeal.τ).loc Cert.KernelIdeal.main_v70_0) = v12 c
          ∧ r.2.mem ((c.tc : Thread Cert.KernelIdeal.nD Cert.KernelIdeal.τ).loc Cert.KernelIdeal.main_v70_1) = v13 c
          ∧ r.2.mem ((c.tc : Thread Cert.KernelIdeal.nD Cert.KernelIdeal.τ).loc Cert.KernelIdeal.main_v70_2) = v14 c
          ∧ r.2.mem ((c.tc : Thread Cert.KernelIdeal.nD Cert.KernelIdeal.τ).loc Cert.KernelIdeal.main_v70_3) = v15 c
          ∧ r.2.mem ((c.tc : Thread Cert.KernelIdeal.nD Cert.KernelIdeal.τ).loc Cert.KernelIdeal.main_v70_4) = v16 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v206) = v3 c
          ∧ r.2.mem ((c.tc : Thread Cert.ReferenceIdeal.nD Cert.ReferenceIdeal.τ).loc Cert.ReferenceIdeal.main_v207) = v4 c
          ∧ r.2.mem ((c.tc : Thread Cert.ReferenceIdeal.nD Cert.ReferenceIdeal.τ).loc Cert.ReferenceIdeal.main_v190) = v5 c
          ∧ r.2.mem ((c.tc : Thread Cert.ReferenceIdeal.nD Cert.ReferenceIdeal.τ).loc Cert.ReferenceIdeal.main_v196) = v6 c
          ∧ r.2.mem ((c.tc : Thread Cert.ReferenceIdeal.nD Cert.ReferenceIdeal.τ).loc Cert.ReferenceIdeal.main_v181) = v7 c
          ∧ r.2.mem ((c.tc : Thread Cert.ReferenceIdeal.nD Cert.ReferenceIdeal.τ).loc Cert.ReferenceIdeal.main_v232) = v8 c
          ∧ r.2.mem ((c.tc : Thread Cert.ReferenceIdeal.nD Cert.ReferenceIdeal.τ).loc Cert.ReferenceIdeal.main_v233) = v9 c
          ∧ r.2.mem ((c.tc : Thread Cert.ReferenceIdeal.nD Cert.ReferenceIdeal.τ).loc Cert.ReferenceIdeal.main_v216) = v10 c
          ∧ r.2.mem ((c.tc : Thread Cert.ReferenceIdeal.nD Cert.ReferenceIdeal.τ).loc Cert.ReferenceIdeal.main_v222) = v11 c
          ∧ r.2.mem ((c.tc : Thread Cert.ReferenceIdeal.nD Cert.ReferenceIdeal.τ).loc Cert.ReferenceIdeal.main_v167) = v12 c
          ∧ r.2.mem ((c.tc : Thread Cert.ReferenceIdeal.nD Cert.ReferenceIdeal.τ).loc Cert.ReferenceIdeal.main_v258) = v13 c
          ∧ r.2.mem ((c.tc : Thread Cert.ReferenceIdeal.nD Cert.ReferenceIdeal.τ).loc Cert.ReferenceIdeal.main_v259) = v14 c
          ∧ r.2.mem ((c.tc : Thread Cert.ReferenceIdeal.nD Cert.ReferenceIdeal.τ).loc Cert.ReferenceIdeal.main_v242) = v15 c
          ∧ r.2.mem ((c.tc : Thread Cert.ReferenceIdeal.nD Cert.ReferenceIdeal.τ).loc Cert.ReferenceIdeal.main_v248) = v16 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v32) = v0 c
          ∧ r.2.mem ((c.tc : Thread Cert.DxReferenceIdeal.nD Cert.DxReferenceIdeal.τ).loc Cert.DxReferenceIdeal.main_v22) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Dx (hDx := hDx)
    ∧ quiescent_DxIdeal (hDxIdeal := hDxIdeal)
    ∧ quiescent_DxReferenceIdeal (hDxReferenceIdeal := hDxReferenceIdeal)
    ∧ preserves_Kernel_KernelIdeal
    ∧ algebraic_KernelIdeal_ReferenceIdeal (hKernelIdeal := hKernelIdeal) (hReferenceIdeal := hReferenceIdeal)
    ∧ preserves_Dx_DxIdeal
    ∧ algebraic_DxIdeal_DxReferenceIdeal (hDxIdeal := hDxIdeal) (hDxReferenceIdeal := hDxReferenceIdeal)
-- ==== Kernel.lean ====
abbrev S3x2048x4096 : Shape := ⟨3, ![3, 2048, 4096]⟩
abbrev S4096 : Shape := ⟨1, ![4096]⟩
abbrev S11008x256 : Shape := ⟨2, ![11008, 256]⟩
abbrev S11008x16 : Shape := ⟨2, ![11008, 16]⟩
abbrev S11008x64 : Shape := ⟨2, ![11008, 64]⟩
abbrev S4096x688 : Shape := ⟨2, ![4096, 688]⟩
abbrev S4096x43 : Shape := ⟨2, ![4096, 43]⟩
abbrev S4096x172 : Shape := ⟨2, ![4096, 172]⟩
abbrev S3 : Shape := ⟨1, ![3]⟩
abbrev S_ : Shape := ⟨0, ![]⟩
abbrev S6144x4096 : Shape := ⟨2, ![6144, 4096]⟩
abbrev S256x11008 : Shape := ⟨2, ![256, 11008]⟩
abbrev S688x4096 : Shape := ⟨2, ![688, 4096]⟩
abbrev S16x11008 : Shape := ⟨2, ![16, 11008]⟩
abbrev S43x4096 : Shape := ⟨2, ![43, 4096]⟩
abbrev S64x11008 : Shape := ⟨2, ![64, 11008]⟩
abbrev S4x64x11008 : Shape := ⟨3, ![4, 64, 11008]⟩
abbrev S4x4x11008 : Shape := ⟨3, ![4, 4, 11008]⟩
abbrev S4x16x11008 : Shape := ⟨3, ![4, 16, 11008]⟩
abbrev S4096x11008 : Shape := ⟨2, ![4096, 11008]⟩
abbrev S1x64x256 : Shape := ⟨3, ![1, 64, 256]⟩
abbrev S1x4x256 : Shape := ⟨3, ![1, 4, 256]⟩
abbrev S1x16x256 : Shape := ⟨3, ![1, 16, 256]⟩
abbrev S1024x256 : Shape := ⟨2, ![1024, 256]⟩
abbrev S16x256 : Shape := ⟨2, ![16, 256]⟩
abbrev S1x1x256 : Shape := ⟨3, ![1, 1, 256]⟩
abbrev S1x256 : Shape := ⟨2, ![1, 256]⟩
abbrev S172x4096 : Shape := ⟨2, ![172, 4096]⟩
abbrev S43x16x4096 : Shape := ⟨3, ![43, 16, 4096]⟩
abbrev S43x1x4096 : Shape := ⟨3, ![43, 1, 4096]⟩
abbrev S43x4x4096 : Shape := ⟨3, ![43, 4, 4096]⟩
abbrev S11008x4096 : Shape := ⟨2, ![11008, 4096]⟩
abbrev S1x16x1024 : Shape := ⟨3, ![1, 16, 1024]⟩
abbrev S1x1x1024 : Shape := ⟨3, ![1, 1, 1024]⟩
abbrev S1x4x1024 : Shape := ⟨3, ![1, 4, 1024]⟩
abbrev S256x1024 : Shape := ⟨2, ![256, 1024]⟩
abbrev S16x1024 : Shape := ⟨2, ![16, 1024]⟩
abbrev S1x1024 : Shape := ⟨2, ![1, 1024]⟩
abbrev S1x4096 : Shape := ⟨2, ![1, 4096]⟩
abbrev S4096x6144 : Shape := ⟨2, ![4096, 6144]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S6144x11008 : Shape := ⟨2, ![6144, 11008]⟩
abbrev S1024x4096 : Shape := ⟨2, ![1024, 4096]⟩
abbrev S512x4096 : Shape := ⟨2, ![512, 4096]⟩
abbrev S512x256 : Shape := ⟨2, ![512, 256]⟩
abbrev S1024x11008 : Shape := ⟨2, ![1024, 11008]⟩
abbrev S1024x6144 : Shape := ⟨2, ![1024, 6144]⟩
abbrev S6144x256 : Shape := ⟨2, ![6144, 256]⟩
abbrev S512x6144 : Shape := ⟨2, ![512, 6144]⟩
abbrev S8x256 : Shape := ⟨2, ![8, 256]⟩
abbrev S1x8x256 : Shape := ⟨3, ![1, 8, 256]⟩
abbrev S256x512 : Shape := ⟨2, ![256, 512]⟩
abbrev S1x1x512 : Shape := ⟨3, ![1, 1, 512]⟩
abbrev S1x512 : Shape := ⟨2, ![1, 512]⟩
abbrev S1x16x512 : Shape := ⟨3, ![1, 16, 512]⟩
abbrev S16x512 : Shape := ⟨2, ![16, 512]⟩
abbrev S512 : Shape := ⟨1, ![512]⟩
abbrev S4x512 : Shape := ⟨2, ![4, 512]⟩
abbrev S1x4x512 : Shape := ⟨3, ![1, 4, 512]⟩
abbrev S1 : Shape := ⟨1, ![1]⟩
abbrev S4 : Shape := ⟨1, ![4]⟩
abbrev S64x256 : Shape := ⟨2, ![64, 256]⟩
abbrev S256x64 : Shape := ⟨2, ![256, 64]⟩
abbrev S172x256 : Shape := ⟨2, ![172, 256]⟩
abbrev S256x172 : Shape := ⟨2, ![256, 172]⟩
abbrev S3x2048x11008 : Shape := ⟨3, ![3, 2048, 11008]⟩

abbrev nBuf : Space → Nat
  | .hbm => 112
  | .vmem => 141
  | .smem => 3
  | _ => 0

abbrev vmemTy0_0 (i : Nat) : BufTy := match i % 128 with
  | 0 => ⟨S1x64x256, .i32⟩
  | 1 => ⟨S1x64x256, .i32⟩
  | 2 => ⟨S1x4x256, .i32⟩
  | 3 => ⟨S1x4x256, .i32⟩
  | 4 => ⟨S1x16x256, .f32⟩
  | 5 => ⟨S1x16x256, .f32⟩
  | 6 => ⟨S1024x256, .bf16⟩
  | 7 => ⟨S1024x256, .bf16⟩
  | 8 => ⟨S1x64x256, .i32⟩
  | 9 => ⟨S1x64x256, .i32⟩
  | 10 => ⟨S1x4x256, .i32⟩
  | 11 => ⟨S1x4x256, .i32⟩
  | 12 => ⟨S1x16x256, .f32⟩
  | 13 => ⟨S1x16x256, .f32⟩
  | 14 => ⟨S1024x256, .bf16⟩
  | 15 => ⟨S1024x256, .bf16⟩
  | 16 => ⟨S1x16x1024, .i32⟩
  | 17 => ⟨S1x16x1024, .i32⟩
  | 18 => ⟨S1x1x1024, .i32⟩
  | 19 => ⟨S1x1x1024, .i32⟩
  | 20 => ⟨S1x4x1024, .f32⟩
  | 21 => ⟨S1x4x1024, .f32⟩
  | 22 => ⟨S256x1024, .bf16⟩
  | 23 => ⟨S256x1024, .bf16⟩
  | 24 => ⟨S256x4096, .bf16⟩
  | 25 => ⟨S256x4096, .bf16⟩
  | 26 => ⟨S256x4096, .bf16⟩
  | 27 => ⟨S256x4096, .bf16⟩
  | 28 => ⟨S1x4096, .f32⟩
  | 29 => ⟨S256x4096, .bf16⟩
  | 30 => ⟨S256x4096, .bf16⟩
  | 31 => ⟨S4096x256, .bf16⟩
  | 32 => ⟨S4096x256, .bf16⟩
  | 33 => ⟨S4096x256, .bf16⟩
  | 34 => ⟨S4096x256, .bf16⟩
  | 35 => ⟨S1024x4096, .bf16⟩
  | 36 => ⟨S1024x4096, .bf16⟩
  | 37 => ⟨S1024x4096, .bf16⟩
  | 38 => ⟨S1024x4096, .bf16⟩
  | 39 => ⟨S4096x256, .bf16⟩
  | 40 => ⟨S4096x256, .bf16⟩
  | 41 => ⟨S4096x256, .bf16⟩
  | 42 => ⟨S4096x256, .bf16⟩
  | 43 => ⟨S256x4096, .bf16⟩
  | 44 => ⟨S256x4096, .bf16⟩
  | 45 => ⟨S1024x256, .bf16⟩
  | 46 => ⟨S1024x256, .bf16⟩
  | 47 => ⟨S1024x256, .bf16⟩
  | 48 => ⟨S1024x256, .bf16⟩
  | 49 => ⟨S1024x256, .bf16⟩
  | 50 => ⟨S1024x256, .bf16⟩
  | 51 => ⟨S1024x11008, .bf16⟩
  | 52 => ⟨S1024x11008, .bf16⟩
  | 53 => ⟨S11008x256, .bf16⟩
  | 54 => ⟨S11008x256, .bf16⟩
  | 55 => ⟨S1024x256, .bf16⟩
  | 56 => ⟨S1024x256, .bf16⟩
  | 57 => ⟨S1024x256, .bf16⟩
  | 58 => ⟨S1024x256, .bf16⟩
  | 59 => ⟨S1024x6144, .bf16⟩
  | 60 => ⟨S1024x6144, .bf16⟩
  | 61 => ⟨S6144x256, .bf16⟩
  | 62 => ⟨S6144x256, .bf16⟩
  | 63 => ⟨S6144x256, .bf16⟩
  | 64 => ⟨S6144x256, .bf16⟩
  | 65 => ⟨S1x64x256, .i32⟩
  | 66 => ⟨S1x64x256, .i32⟩
  | 67 => ⟨S1x4x256, .i32⟩
  | 68 => ⟨S1x4x256, .i32⟩
  | 69 => ⟨S1x64x256, .i32⟩
  | 70 => ⟨S1x64x256, .i32⟩
  | 71 => ⟨S1x4x256, .i32⟩
  | 72 => ⟨S1x4x256, .i32⟩
  | 73 => ⟨S1x16x256, .f32⟩
  | 74 => ⟨S1x16x256, .f32⟩
  | 75 => ⟨S1x16x256, .f32⟩
  | 76 => ⟨S1x16x256, .f32⟩
  | 77 => ⟨S1024x6144, .bf16⟩
  | 78 => ⟨S1024x6144, .bf16⟩
  | 79 => ⟨S6144x256, .bf16⟩
  | 80 => ⟨S6144x256, .bf16⟩
  | 81 => ⟨S1x16x1024, .i32⟩
  | 82 => ⟨S1x16x1024, .i32⟩
  | 83 => ⟨S1x1x1024, .i32⟩
  | 84 => ⟨S1x1x1024, .i32⟩
  | 85 => ⟨S1x4x1024, .f32⟩
  | 86 => ⟨S1x4x1024, .f32⟩
  | 87 => ⟨S64x256, .f32⟩
  | 88 => ⟨S64x256, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S256x64, .f32⟩
  | 104 => ⟨S256x64, .f32⟩
  | 105 => ⟨S64x256, .f32⟩
  | 106 => ⟨S64x256, .f32⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x64, .f32⟩
  | 114 => ⟨S256x64, .f32⟩
  | 115 => ⟨S256x64, .f32⟩
  | 116 => ⟨S256x64, .f32⟩
  | 117 => ⟨S256x64, .f32⟩
  | 118 => ⟨S256x64, .f32⟩
  | 119 => ⟨S256x64, .f32⟩
  | 120 => ⟨S256x64, .f32⟩
  | 121 => ⟨S256x64, .f32⟩
  | 122 => ⟨S256x64, .f32⟩
  | 123 => ⟨S172x256, .f32⟩
  | 124 => ⟨S172x256, .f32⟩
  | 125 => ⟨S256x172, .f32⟩
  | 126 => ⟨S256x172, .f32⟩
  | 127 => ⟨S256x172, .f32⟩
  | _ => ⟨S3x2048x4096, .bf16⟩

abbrev vmemTy0_1 (i : Nat) : BufTy := match i % 128 with
  | 0 => ⟨S256x172, .f32⟩
  | 1 => ⟨S256x172, .f32⟩
  | 2 => ⟨S256x172, .f32⟩
  | 3 => ⟨S256x172, .f32⟩
  | 4 => ⟨S256x172, .f32⟩
  | 5 => ⟨S256x172, .f32⟩
  | 6 => ⟨S256x172, .f32⟩
  | 7 => ⟨S256x172, .f32⟩
  | 8 => ⟨S256x172, .f32⟩
  | 9 => ⟨S256x172, .f32⟩
  | 10 => ⟨S256x172, .f32⟩
  | 11 => ⟨S256x172, .f32⟩
  | 12 => ⟨S256x172, .f32⟩
  | _ => ⟨S3x2048x4096, .bf16⟩

abbrev vmemTy (i : Nat) : BufTy := match i / 128 with
  | 0 => vmemTy0_0 i
  | 1 => vmemTy0_1 i
  | _ => ⟨S3x2048x4096, .bf16⟩

abbrev bufTy : (tb : Table) → Fin (tcTables nBuf tb) → BufTy
  | .hbm, ⟨0, _⟩ => ⟨S3x2048x4096, .bf16⟩
  | .hbm, ⟨1, _⟩ => ⟨S3x2048x4096, .bf16⟩
  | .hbm, ⟨2, _⟩ => ⟨S4096, .f32⟩
  | .hbm, ⟨3, _⟩ => ⟨S11008x256, .i32⟩
  | .hbm, ⟨4, _⟩ => ⟨S11008x16, .i8⟩
  | .hbm, ⟨5, _⟩ => ⟨S11008x64, .f32⟩
  | .hbm, ⟨6, _⟩ => ⟨S11008x64, .f32⟩
  | .hbm, ⟨7, _⟩ => ⟨S11008x64, .f32⟩
  | .hbm, ⟨8, _⟩ => ⟨S11008x256, .i32⟩
  | .hbm, ⟨9, _⟩ => ⟨S11008x16, .i8⟩
  | .hbm, ⟨10, _⟩ => ⟨S11008x64, .f32⟩
  | .hbm, ⟨11, _⟩ => ⟨S11008x64, .f32⟩
  | .hbm, ⟨12, _⟩ => ⟨S11008x64, .f32⟩
  | .hbm, ⟨13, _⟩ => ⟨S4096x688, .i32⟩
  | .hbm, ⟨14, _⟩ => ⟨S4096x43, .i8⟩
  | .hbm, ⟨15, _⟩ => ⟨S4096x172, .f32⟩
  | .hbm, ⟨16, _⟩ => ⟨S4096x172, .f32⟩
  | .hbm, ⟨17, _⟩ => ⟨S4096x172, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S6144x4096, .bf16⟩
  | .hbm, ⟨23, _⟩ => ⟨S6144x4096, .bf16⟩
  | .hbm, ⟨24, _⟩ => ⟨S256x11008, .i32⟩
  | .hbm, ⟨25, _⟩ => ⟨S256x11008, .i32⟩
  | .hbm, ⟨26, _⟩ => ⟨S688x4096, .i32⟩
  | .hbm, ⟨27, _⟩ => ⟨S11008x16, .i32⟩
  | .hbm, ⟨28, _⟩ => ⟨S16x11008, .i32⟩
  | .hbm, ⟨29, _⟩ => ⟨S11008x16, .i32⟩
  | .hbm, ⟨30, _⟩ => ⟨S16x11008, .i32⟩
  | .hbm, ⟨31, _⟩ => ⟨S4096x43, .i32⟩
  | .hbm, ⟨32, _⟩ => ⟨S43x4096, .i32⟩
  | .hbm, ⟨33, _⟩ => ⟨S64x11008, .f32⟩
  | .hbm, ⟨34, _⟩ => ⟨S4x64x11008, .i32⟩
  | .hbm, ⟨35, _⟩ => ⟨S4x4x11008, .i32⟩
  | .hbm, ⟨36, _⟩ => ⟨S4x16x11008, .f32⟩
  | .hbm, ⟨37, _⟩ => ⟨S4096x11008, .bf16⟩
  | .hbm, ⟨38, _⟩ => ⟨S64x11008, .f32⟩
  | .hbm, ⟨39, _⟩ => ⟨S4x64x11008, .i32⟩
  | .hbm, ⟨40, _⟩ => ⟨S4x4x11008, .i32⟩
  | .hbm, ⟨41, _⟩ => ⟨S4x16x11008, .f32⟩
  | .hbm, ⟨42, _⟩ => ⟨S4096x11008, .bf16⟩
  | .hbm, ⟨43, _⟩ => ⟨S172x4096, .f32⟩
  | .hbm, ⟨44, _⟩ => ⟨S43x16x4096, .i32⟩
  | .hbm, ⟨45, _⟩ => ⟨S43x1x4096, .i32⟩
  | .hbm, ⟨46, _⟩ => ⟨S43x4x4096, .f32⟩
  | .hbm, ⟨47, _⟩ => ⟨S11008x4096, .bf16⟩
  | .hbm, ⟨48, _⟩ => ⟨S1x4096, .f32⟩
  | .hbm, ⟨49, _⟩ => ⟨S6144x4096, .bf16⟩
  | .hbm, ⟨50, _⟩ => ⟨S4096x6144, .bf16⟩
  | .hbm, ⟨51, _⟩ => ⟨S4096x6144, .bf16⟩
  | .hbm, ⟨52, _⟩ => ⟨S6144x11008, .bf16⟩
  | .hbm, ⟨53, _⟩ => ⟨S6144x11008, .bf16⟩
  | .hbm, ⟨54, _⟩ => ⟨S6144x11008, .bf16⟩
  | .hbm, ⟨55, _⟩ => ⟨S6144x4096, .bf16⟩
  | .hbm, ⟨56, _⟩ => ⟨S4x64x11008, .i32⟩
  | .hbm, ⟨57, _⟩ => ⟨S4x4x11008, .i32⟩
  | .hbm, ⟨58, _⟩ => ⟨S4x64x11008, .i32⟩
  | .hbm, ⟨59, _⟩ => ⟨S4x4x11008, .i32⟩
  | .hbm, ⟨60, _⟩ => ⟨S4x16x11008, .f32⟩
  | .hbm, ⟨61, _⟩ => ⟨S4x16x11008, .f32⟩
  | .hbm, ⟨62, _⟩ => ⟨S64x11008, .f32⟩
  | .hbm, ⟨63, _⟩ => ⟨S64x11008, .f32⟩
  | .hbm, ⟨64, _⟩ => ⟨S43x16x4096, .i32⟩
  | .hbm, ⟨65, _⟩ => ⟨S43x1x4096, .i32⟩
  | .hbm, ⟨66, _⟩ => ⟨S43x4x4096, .f32⟩
  | .hbm, ⟨67, _⟩ => ⟨S172x4096, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S4, .f32⟩
  | .hbm, ⟨77, _⟩ => ⟨S11008x64, .f32⟩
  | .hbm, ⟨78, _⟩ => ⟨S11008x64, .f32⟩
  | .hbm, ⟨79, _⟩ => ⟨S11008x64, .f32⟩
  | .hbm, ⟨80, _⟩ => ⟨S11008x64, .f32⟩
  | .hbm, ⟨81, _⟩ => ⟨S11008x64, .f32⟩
  | .hbm, ⟨82, _⟩ => ⟨S1, .f32⟩
  | .hbm, ⟨83, _⟩ => ⟨S_, .f32⟩
  | .hbm, ⟨84, _⟩ => ⟨S1, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S4, .f32⟩
  | .hbm, ⟨91, _⟩ => ⟨S11008x64, .f32⟩
  | .hbm, ⟨92, _⟩ => ⟨S11008x64, .f32⟩
  | .hbm, ⟨93, _⟩ => ⟨S11008x64, .f32⟩
  | .hbm, ⟨94, _⟩ => ⟨S11008x64, .f32⟩
  | .hbm, ⟨95, _⟩ => ⟨S11008x64, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1, .f32⟩
  | .hbm, ⟨103, _⟩ => ⟨S1, .f32⟩
  | .hbm, ⟨104, _⟩ => ⟨S4, .f32⟩
  | .hbm, ⟨105, _⟩ => ⟨S4096x172, .f32⟩
  | .hbm, ⟨106, _⟩ => ⟨S4096x172, .f32⟩
  | .hbm, ⟨107, _⟩ => ⟨S4096x172, .f32⟩
  | .hbm, ⟨108, _⟩ => ⟨S4096x172, .f32⟩
  | .hbm, ⟨109, _⟩ => ⟨S4096x172, .f32⟩
  | .hbm, ⟨110, _⟩ => ⟨S3x2048x4096, .bf16⟩
  | .hbm, ⟨111, _⟩ => ⟨S3x2048x11008, .bf16⟩
  | .local _ .vmem, ⟨i, _⟩ => vmemTy i
  | .local _ .smem, ⟨0, _⟩ => ⟨S4, .f32⟩
  | .local _ .smem, ⟨1, _⟩ => ⟨S4, .f32⟩
  | .local _ .smem, ⟨2, _⟩ => ⟨S4, .f32⟩
  | _, _ => ⟨S3x2048x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50_0 : Ref sig .tc := ⟨.hbm, 77, rfl⟩
abbrev main_v50_1 : Ref sig .tc := ⟨.hbm, 78, rfl⟩
abbrev main_v50_2 : Ref sig .tc := ⟨.hbm, 79, rfl⟩
abbrev main_v50_3 : Ref sig .tc := ⟨.hbm, 80, rfl⟩
abbrev main_v50_4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev main_v60_3 : Ref sig .tc := ⟨.hbm, 94, rfl⟩
abbrev main_v60_4 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70_0 : Ref sig .tc := ⟨.hbm, 105, rfl⟩
abbrev main_v70_1 : Ref sig .tc := ⟨.hbm, 106, rfl⟩
abbrev main_v70_2 : Ref sig .tc := ⟨.hbm, 107, rfl⟩
abbrev main_v70_3 : Ref sig .tc := ⟨.hbm, 108, rfl⟩
abbrev main_v70_4 : Ref sig .tc := ⟨.hbm, 109, rfl⟩
abbrev main_v71 : Ref sig .tc := ⟨.hbm, 110, rfl⟩
abbrev main_v72 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg3_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc6_stg4_0 : Ref sig .tc := ⟨.vmem, 67, rfl⟩
abbrev cc6_stg4_1 : Ref sig .tc := ⟨.vmem, 68, rfl⟩
abbrev cc6_stg5_0 : Ref sig .tc := ⟨.vmem, 69, rfl⟩
abbrev cc6_stg5_1 : Ref sig .tc := ⟨.vmem, 70, rfl⟩
abbrev cc6_stg6_0 : Ref sig .tc := ⟨.vmem, 71, rfl⟩
abbrev cc6_stg6_1 : Ref sig .tc := ⟨.vmem, 72, rfl⟩
abbrev cc6_stg7_0 : Ref sig .tc := ⟨.vmem, 73, rfl⟩
abbrev cc6_stg7_1 : Ref sig .tc := ⟨.vmem, 74, rfl⟩
abbrev cc6_stg8_0 : Ref sig .tc := ⟨.vmem, 75, rfl⟩
abbrev cc6_stg8_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_stg4_0 : Ref sig .tc := ⟨.vmem, 85, rfl⟩
abbrev cc7_stg4_1 : Ref sig .tc := ⟨.vmem, 86, rfl⟩
abbrev cc8_stg1_0 : Ref sig .tc := ⟨.vmem, 87, rfl⟩
abbrev cc8_stg1_1 : Ref sig .tc := ⟨.vmem, 88, rfl⟩
abbrev cc8_stg2_0 : Ref sig .tc := ⟨.vmem, 89, rfl⟩
abbrev cc8_stg2_1 : Ref sig .tc := ⟨.vmem, 90, rfl⟩
abbrev cc8_stg3_0 : Ref sig .tc := ⟨.vmem, 91, rfl⟩
abbrev cc8_stg3_1 : Ref sig .tc := ⟨.vmem, 92, rfl⟩
abbrev cc8_stg4_0 : Ref sig .tc := ⟨.vmem, 93, rfl⟩
abbrev cc8_stg4_1 : Ref sig .tc := ⟨.vmem, 94, rfl⟩
abbrev cc8_stg5_0 : Ref sig .tc := ⟨.vmem, 95, rfl⟩
abbrev cc8_stg5_1 : Ref sig .tc := ⟨.vmem, 96, rfl⟩
abbrev cc8_stg6_0 : Ref sig .tc := ⟨.vmem, 97, rfl⟩
abbrev cc8_stg6_1 : Ref sig .tc := ⟨.vmem, 98, rfl⟩
abbrev cc8_stg7_0 : Ref sig .tc := ⟨.vmem, 99, rfl⟩
abbrev cc8_stg7_1 : Ref sig .tc := ⟨.vmem, 100, rfl⟩
abbrev cc8_stg8_0 : Ref sig .tc := ⟨.vmem, 101, rfl⟩
abbrev cc8_stg8_1 : Ref sig .tc := ⟨.vmem, 102, rfl⟩
abbrev cc8_stg9_0 : Ref sig .tc := ⟨.vmem, 103, rfl⟩
abbrev cc8_stg9_1 : Ref sig .tc := ⟨.vmem, 104, rfl⟩
abbrev cc9_stg1_0 : Ref sig .tc := ⟨.vmem, 105, rfl⟩
abbrev cc9_stg1_1 : Ref sig .tc := ⟨.vmem, 106, rfl⟩
abbrev cc9_stg2_0 : Ref sig .tc := ⟨.vmem, 107, rfl⟩
abbrev cc9_stg2_1 : Ref sig .tc := ⟨.vmem, 108, rfl⟩
abbrev cc9_stg3_0 : Ref sig .tc := ⟨.vmem, 109, rfl⟩
abbrev cc9_stg3_1 : Ref sig .tc := ⟨.vmem, 110, rfl⟩
abbrev cc9_stg4_0 : Ref sig .tc := ⟨.vmem, 111, rfl⟩
abbrev cc9_stg4_1 : Ref sig .tc := ⟨.vmem, 112, rfl⟩
abbrev cc9_stg5_0 : Ref sig .tc := ⟨.vmem, 113, rfl⟩
abbrev cc9_stg5_1 : Ref sig .tc := ⟨.vmem, 114, rfl⟩
abbrev cc9_stg6_0 : Ref sig .tc := ⟨.vmem, 115, rfl⟩
abbrev cc9_stg6_1 : Ref sig .tc := ⟨.vmem, 116, rfl⟩
abbrev cc9_stg7_0 : Ref sig .tc := ⟨.vmem, 117, rfl⟩
abbrev cc9_stg7_1 : Ref sig .tc := ⟨.vmem, 118, rfl⟩
abbrev cc9_stg8_0 : Ref sig .tc := ⟨.vmem, 119, rfl⟩
abbrev cc9_stg8_1 : Ref sig .tc := ⟨.vmem, 120, rfl⟩
abbrev cc9_stg9_0 : Ref sig .tc := ⟨.vmem, 121, rfl⟩
abbrev cc9_stg9_1 : Ref sig .tc := ⟨.vmem, 122, rfl⟩
abbrev cc10_stg1_0 : Ref sig .tc := ⟨.vmem, 123, rfl⟩
abbrev cc10_stg1_1 : Ref sig .tc := ⟨.vmem, 124, rfl⟩
abbrev cc10_stg2_0 : Ref sig .tc := ⟨.vmem, 125, rfl⟩
abbrev cc10_stg2_1 : Ref sig .tc := ⟨.vmem, 126, rfl⟩
abbrev cc10_stg3_0 : Ref sig .tc := ⟨.vmem, 127, rfl⟩
abbrev cc10_stg3_1 : Ref sig .tc := ⟨.vmem, 128, rfl⟩
abbrev cc10_stg4_0 : Ref sig .tc := ⟨.vmem, 129, rfl⟩
abbrev cc10_stg4_1 : Ref sig .tc := ⟨.vmem, 130, rfl⟩
abbrev cc10_stg5_0 : Ref sig .tc := ⟨.vmem, 131, rfl⟩
abbrev cc10_stg5_1 : Ref sig .tc := ⟨.vmem, 132, rfl⟩
abbrev cc10_stg6_0 : Ref sig .tc := ⟨.vmem, 133, rfl⟩
abbrev cc10_stg6_1 : Ref sig .tc := ⟨.vmem, 134, rfl⟩
abbrev cc10_stg7_0 : Ref sig .tc := ⟨.vmem, 135, rfl⟩
abbrev cc10_stg7_1 : Ref sig .tc := ⟨.vmem, 136, rfl⟩
abbrev cc10_stg8_0 : Ref sig .tc := ⟨.vmem, 137, rfl⟩
abbrev cc10_stg8_1 : Ref sig .tc := ⟨.vmem, 138, rfl⟩
abbrev cc10_stg9_0 : Ref sig .tc := ⟨.vmem, 139, rfl⟩
abbrev cc10_stg9_1 : Ref sig .tc := ⟨.vmem, 140, rfl⟩
abbrev cc8_stg0_0 : Ref sig .tc := ⟨.smem, 0, rfl⟩
abbrev cc9_stg0_0 : Ref sig .tc := ⟨.smem, 1, rfl⟩
abbrev cc10_stg0_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc4_sem5_0 : DmaSem sig := 45
abbrev cc4_sem5_1 : DmaSem sig := 46
abbrev cc4_sem6_0 : DmaSem sig := 47
abbrev cc4_sem6_1 : DmaSem sig := 48
abbrev cc4_sem7_0 : DmaSem sig := 49
abbrev cc4_sem7_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem3_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem2_1 : DmaSem sig := 64
abbrev cc6_sem3_0 : DmaSem sig := 65
abbrev cc6_sem3_1 : DmaSem sig := 66
abbrev cc6_sem4_0 : DmaSem sig := 67
abbrev cc6_sem4_1 : DmaSem sig := 68
abbrev cc6_sem5_0 : DmaSem sig := 69
abbrev cc6_sem5_1 : DmaSem sig := 70
abbrev cc6_sem6_0 : DmaSem sig := 71
abbrev cc6_sem6_1 : DmaSem sig := 72
abbrev cc6_sem7_0 : DmaSem sig := 73
abbrev cc6_sem7_1 : DmaSem sig := 74
abbrev cc6_sem8_0 : DmaSem sig := 75
abbrev cc6_sem8_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem3_1 : DmaSem sig := 84
abbrev cc7_sem4_0 : DmaSem sig := 85
abbrev cc7_sem4_1 : DmaSem sig := 86
abbrev cc8_sem0_0 : DmaSem sig := 87
abbrev cc8_sem1_0 : DmaSem sig := 88
abbrev cc8_sem1_1 : DmaSem sig := 89
abbrev cc8_sem2_0 : DmaSem sig := 90
abbrev cc8_sem2_1 : DmaSem sig := 91
abbrev cc8_sem3_0 : DmaSem sig := 92
abbrev cc8_sem3_1 : DmaSem sig := 93
abbrev cc8_sem4_0 : DmaSem sig := 94
abbrev cc8_sem4_1 : DmaSem sig := 95
abbrev cc8_sem5_0 : DmaSem sig := 96
abbrev cc8_sem5_1 : DmaSem sig := 97
abbrev cc8_sem6_0 : DmaSem sig := 98
abbrev cc8_sem6_1 : DmaSem sig := 99
abbrev cc8_sem7_0 : DmaSem sig := 100
abbrev cc8_sem7_1 : DmaSem sig := 101
abbrev cc8_sem8_0 : DmaSem sig := 102
abbrev cc8_sem8_1 : DmaSem sig := 103
abbrev cc8_sem9_0 : DmaSem sig := 104
abbrev cc8_sem9_1 : DmaSem sig := 105
abbrev cc9_sem0_0 : DmaSem sig := 106
abbrev cc9_sem1_0 : DmaSem sig := 107
abbrev cc9_sem1_1 : DmaSem sig := 108
abbrev cc9_sem2_0 : DmaSem sig := 109
abbrev cc9_sem2_1 : DmaSem sig := 110
abbrev cc9_sem3_0 : DmaSem sig := 111
abbrev cc9_sem3_1 : DmaSem sig := 112
abbrev cc9_sem4_0 : DmaSem sig := 113
abbrev cc9_sem4_1 : DmaSem sig := 114
abbrev cc9_sem5_0 : DmaSem sig := 115
abbrev cc9_sem5_1 : DmaSem sig := 116
abbrev cc9_sem6_0 : DmaSem sig := 117
abbrev cc9_sem6_1 : DmaSem sig := 118
abbrev cc9_sem7_0 : DmaSem sig := 119
abbrev cc9_sem7_1 : DmaSem sig := 120
abbrev cc9_sem8_0 : DmaSem sig := 121
abbrev cc9_sem8_1 : DmaSem sig := 122
abbrev cc9_sem9_0 : DmaSem sig := 123
abbrev cc9_sem9_1 : DmaSem sig := 124
abbrev cc10_sem0_0 : DmaSem sig := 125
abbrev cc10_sem1_0 : DmaSem sig := 126
abbrev cc10_sem1_1 : DmaSem sig := 127
abbrev cc10_sem2_0 : DmaSem sig := 128
abbrev cc10_sem2_1 : DmaSem sig := 129
abbrev cc10_sem3_0 : DmaSem sig := 130
abbrev cc10_sem3_1 : DmaSem sig := 131
abbrev cc10_sem4_0 : DmaSem sig := 132
abbrev cc10_sem4_1 : DmaSem sig := 133
abbrev cc10_sem5_0 : DmaSem sig := 134
abbrev cc10_sem5_1 : DmaSem sig := 135
abbrev cc10_sem6_0 : DmaSem sig := 136
abbrev cc10_sem6_1 : DmaSem sig := 137
abbrev cc10_sem7_0 : DmaSem sig := 138
abbrev cc10_sem7_1 : DmaSem sig := 139
abbrev cc10_sem8_0 : DmaSem sig := 140
abbrev cc10_sem8_1 : DmaSem sig := 141
abbrev cc10_sem9_0 : DmaSem sig := 142
abbrev cc10_sem9_1 : DmaSem sig := 143

abbrev nD : Nat := 1
abbrev τ : Topo := Topo.v7x

variable {F : FTy → Type} [FloatOps F]

abbrev grid0 : Pipeline.Grid := ⟨2, ![4, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x64x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 43], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x64x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![43, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x16x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x4x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![24], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![6, 43], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4096x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S256x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1024x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1024x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![6, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x11008 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S11008x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![4, 43], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_7 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_8 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1024x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S6144x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S6144x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x64x256 .i32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x4x256 .i32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x64x256 .i32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S1x4x256 .i32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1x16x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S1x16x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev grid7 : Pipeline.Grid := ⟨2, ![4, 43], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage7_0 : Fin 2 → Memref sig .tc .vmem S1024x6144 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S6144x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x16x1024 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x1x1024 .i32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x4x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨1, ![43], ![false]⟩

def cc8_transform_0 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .smem S4 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S64x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S256x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S256x64 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S256x64 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![43], ![false]⟩

def cc9_transform_0 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .smem S4 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S64x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S256x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S256x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S256x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S256x64 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S256x64 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![16], ![false]⟩

def cc10_transform_0 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .smem S4 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S172x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S256x172 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S256x172 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S256x172 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S256x172 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S256x172 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S256x172 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S256x172 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S256x172 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]
-- ==== ReferenceIdeal.lean ====
abbrev S3x2048x4096 : Shape := ⟨3, ![3, 2048, 4096]⟩
abbrev S4096 : Shape := ⟨1, ![4096]⟩
abbrev S11008x256 : Shape := ⟨2, ![11008, 256]⟩
abbrev S11008x16 : Shape := ⟨2, ![11008, 16]⟩
abbrev S11008x64 : Shape := ⟨2, ![11008, 64]⟩
abbrev S4096x688 : Shape := ⟨2, ![4096, 688]⟩
abbrev S4096x43 : Shape := ⟨2, ![4096, 43]⟩
abbrev S4096x172 : Shape := ⟨2, ![4096, 172]⟩
abbrev S3 : Shape := ⟨1, ![3]⟩
abbrev S_ : Shape := ⟨0, ![]⟩
abbrev S6144x4096 : Shape := ⟨2, ![6144, 4096]⟩
abbrev S16 : Shape := ⟨1, ![16]⟩
abbrev S16x1x1 : Shape := ⟨3, ![16, 1, 1]⟩
abbrev S1x11008x256 : Shape := ⟨3, ![1, 11008, 256]⟩
abbrev S16x11008x256 : Shape := ⟨3, ![16, 11008, 256]⟩
abbrev S4 : Shape := ⟨1, ![4]⟩
abbrev S11008x16x1 : Shape := ⟨3, ![11008, 16, 1]⟩
abbrev S1x1x4 : Shape := ⟨3, ![1, 1, 4]⟩
abbrev S11008x16x4 : Shape := ⟨3, ![11008, 16, 4]⟩
abbrev S11008x64x4 : Shape := ⟨3, ![11008, 64, 4]⟩
abbrev S1x4096x688 : Shape := ⟨3, ![1, 4096, 688]⟩
abbrev S16x4096x688 : Shape := ⟨3, ![16, 4096, 688]⟩
abbrev S4096x43x1 : Shape := ⟨3, ![4096, 43, 1]⟩
abbrev S4096x43x4 : Shape := ⟨3, ![4096, 43, 4]⟩
abbrev S4096x172x4 : Shape := ⟨3, ![4096, 172, 4]⟩
abbrev S6144 : Shape := ⟨1, ![6144]⟩
abbrev S6144x1 : Shape := ⟨2, ![6144, 1]⟩
abbrev S1x4096 : Shape := ⟨2, ![1, 4096]⟩
abbrev S6144x256x16 : Shape := ⟨3, ![6144, 256, 16]⟩
abbrev S6144x11008 : Shape := ⟨2, ![6144, 11008]⟩
abbrev S6144x688x16 : Shape := ⟨3, ![6144, 688, 16]⟩
abbrev S16x688x6144 : Shape := ⟨3, ![16, 688, 6144]⟩
abbrev S3x2048x11008 : Shape := ⟨3, ![3, 2048, 11008]⟩
abbrev S688x16x4096 : Shape := ⟨3, ![688, 16, 4096]⟩
abbrev S256x16x11008 : Shape := ⟨3, ![256, 16, 11008]⟩
abbrev S1 : Shape := ⟨1, ![1]⟩

abbrev nBuf : Space → Nat
  | .hbm => 320
  | .vmem => 0
  | .smem => 0
  | _ => 0

abbrev hbmTy0_0 (i : Nat) : BufTy := match i % 128 with
  | 0 => ⟨S3x2048x4096, .bf16⟩
  | 1 => ⟨S3x2048x4096, .bf16⟩
  | 2 => ⟨S4096, .f32⟩
  | 3 => ⟨S11008x256, .i32⟩
  | 4 => ⟨S11008x16, .i8⟩
  | 5 => ⟨S11008x64, .f32⟩
  | 6 => ⟨S11008x64, .f32⟩
  | 7 => ⟨S11008x64, .f32⟩
  | 8 => ⟨S11008x256, .i32⟩
  | 9 => ⟨S11008x16, .i8⟩
  | 10 => ⟨S11008x64, .f32⟩
  | 11 => ⟨S11008x64, .f32⟩
  | 12 => ⟨S11008x64, .f32⟩
  | 13 => ⟨S4096x688, .i32⟩
  | 14 => ⟨S4096x43, .i8⟩
  | 15 => ⟨S4096x172, .f32⟩
  | 16 => ⟨S4096x172, .f32⟩
  | 17 => ⟨S4096x172, .f32⟩
  | 18 => ⟨S3, .f32⟩
  | 19 => ⟨S3, .f32⟩
  | 20 => ⟨S_, .f32⟩
  | 21 => ⟨S_, .f32⟩
  | 22 => ⟨S6144x4096, .bf16⟩
  | 23 => ⟨S6144x4096, .bf16⟩
  | 24 => ⟨S11008x256, .i32⟩
  | 25 => ⟨S16, .i32⟩
  | 26 => ⟨S16x1x1, .i32⟩
  | 27 => ⟨S_, .i32⟩
  | 28 => ⟨S16x1x1, .i32⟩
  | 29 => ⟨S16x1x1, .i32⟩
  | 30 => ⟨S1x11008x256, .i32⟩
  | 31 => ⟨S16x11008x256, .i32⟩
  | 32 => ⟨S16x11008x256, .i32⟩
  | 33 => ⟨S16x11008x256, .i32⟩
  | 34 => ⟨S_, .i32⟩
  | 35 => ⟨S16x11008x256, .i32⟩
  | 36 => ⟨S16x11008x256, .i32⟩
  | 37 => ⟨S4, .i32⟩
  | 38 => ⟨S_, .i32⟩
  | 39 => ⟨S4, .i32⟩
  | 40 => ⟨S4, .i32⟩
  | 41 => ⟨S11008x16, .i32⟩
  | 42 => ⟨S11008x16x1, .i32⟩
  | 43 => ⟨S1x1x4, .i32⟩
  | 44 => ⟨S11008x16x4, .i32⟩
  | 45 => ⟨S11008x16x4, .i32⟩
  | 46 => ⟨S11008x16x4, .i32⟩
  | 47 => ⟨S_, .i32⟩
  | 48 => ⟨S11008x16x4, .i32⟩
  | 49 => ⟨S11008x16x4, .i32⟩
  | 50 => ⟨S11008x64, .i32⟩
  | 51 => ⟨S11008x64, .f32⟩
  | 52 => ⟨S11008x64x4, .f32⟩
  | 53 => ⟨S11008x256, .f32⟩
  | 54 => ⟨S16x11008x256, .f32⟩
  | 55 => ⟨S1x11008x256, .f32⟩
  | 56 => ⟨S16x11008x256, .f32⟩
  | 57 => ⟨S16x11008x256, .f32⟩
  | 58 => ⟨S11008x64x4, .f32⟩
  | 59 => ⟨S11008x256, .f32⟩
  | 60 => ⟨S1x11008x256, .f32⟩
  | 61 => ⟨S16x11008x256, .f32⟩
  | 62 => ⟨S16x11008x256, .f32⟩
  | 63 => ⟨S16x11008x256, .bf16⟩
  | 64 => ⟨S11008x256, .i32⟩
  | 65 => ⟨S16, .i32⟩
  | 66 => ⟨S16x1x1, .i32⟩
  | 67 => ⟨S_, .i32⟩
  | 68 => ⟨S16x1x1, .i32⟩
  | 69 => ⟨S16x1x1, .i32⟩
  | 70 => ⟨S1x11008x256, .i32⟩
  | 71 => ⟨S16x11008x256, .i32⟩
  | 72 => ⟨S16x11008x256, .i32⟩
  | 73 => ⟨S16x11008x256, .i32⟩
  | 74 => ⟨S_, .i32⟩
  | 75 => ⟨S16x11008x256, .i32⟩
  | 76 => ⟨S16x11008x256, .i32⟩
  | 77 => ⟨S4, .i32⟩
  | 78 => ⟨S_, .i32⟩
  | 79 => ⟨S4, .i32⟩
  | 80 => ⟨S4, .i32⟩
  | 81 => ⟨S11008x16, .i32⟩
  | 82 => ⟨S11008x16x1, .i32⟩
  | 83 => ⟨S1x1x4, .i32⟩
  | 84 => ⟨S11008x16x4, .i32⟩
  | 85 => ⟨S11008x16x4, .i32⟩
  | 86 => ⟨S11008x16x4, .i32⟩
  | 87 => ⟨S_, .i32⟩
  | 88 => ⟨S11008x16x4, .i32⟩
  | 89 => ⟨S11008x16x4, .i32⟩
  | 90 => ⟨S11008x64, .i32⟩
  | 91 => ⟨S11008x64, .f32⟩
  | 92 => ⟨S11008x64x4, .f32⟩
  | 93 => ⟨S11008x256, .f32⟩
  | 94 => ⟨S16x11008x256, .f32⟩
  | 95 => ⟨S1x11008x256, .f32⟩
  | 96 => ⟨S16x11008x256, .f32⟩
  | 97 => ⟨S16x11008x256, .f32⟩
  | 98 => ⟨S11008x64x4, .f32⟩
  | 99 => ⟨S11008x256, .f32⟩
  | 100 => ⟨S1x11008x256, .f32⟩
  | 101 => ⟨S16x11008x256, .f32⟩
  | 102 => ⟨S16x11008x256, .f32⟩
  | 103 => ⟨S16x11008x256, .bf16⟩
  | 104 => ⟨S4096x688, .i32⟩
  | 105 => ⟨S16, .i32⟩
  | 106 => ⟨S16x1x1, .i32⟩
  | 107 => ⟨S_, .i32⟩
  | 108 => ⟨S16x1x1, .i32⟩
  | 109 => ⟨S16x1x1, .i32⟩
  | 110 => ⟨S1x4096x688, .i32⟩
  | 111 => ⟨S16x4096x688, .i32⟩
  | 112 => ⟨S16x4096x688, .i32⟩
  | 113 => ⟨S16x4096x688, .i32⟩
  | 114 => ⟨S_, .i32⟩
  | 115 => ⟨S16x4096x688, .i32⟩
  | 116 => ⟨S16x4096x688, .i32⟩
  | 117 => ⟨S4, .i32⟩
  | 118 => ⟨S_, .i32⟩
  | 119 => ⟨S4, .i32⟩
  | 120 => ⟨S4, .i32⟩
  | 121 => ⟨S4096x43, .i32⟩
  | 122 => ⟨S4096x43x1, .i32⟩
  | 123 => ⟨S1x1x4, .i32⟩
  | 124 => ⟨S4096x43x4, .i32⟩
  | 125 => ⟨S4096x43x4, .i32⟩
  | 126 => ⟨S4096x43x4, .i32⟩
  | 127 => ⟨S_, .i32⟩
  | _ => ⟨S3x2048x4096, .bf16⟩

abbrev hbmTy0_1 (i : Nat) : BufTy := match i % 128 with
  | 0 => ⟨S4096x43x4, .i32⟩
  | 1 => ⟨S4096x43x4, .i32⟩
  | 2 => ⟨S4096x172, .i32⟩
  | 3 => ⟨S4096x172, .f32⟩
  | 4 => ⟨S4096x172x4, .f32⟩
  | 5 => ⟨S4096x688, .f32⟩
  | 6 => ⟨S16x4096x688, .f32⟩
  | 7 => ⟨S1x4096x688, .f32⟩
  | 8 => ⟨S16x4096x688, .f32⟩
  | 9 => ⟨S16x4096x688, .f32⟩
  | 10 => ⟨S4096x172x4, .f32⟩
  | 11 => ⟨S4096x688, .f32⟩
  | 12 => ⟨S1x4096x688, .f32⟩
  | 13 => ⟨S16x4096x688, .f32⟩
  | 14 => ⟨S16x4096x688, .f32⟩
  | 15 => ⟨S16x4096x688, .bf16⟩
  | 16 => ⟨S6144x4096, .f32⟩
  | 17 => ⟨S6144x4096, .f32⟩
  | 18 => ⟨S_, .f32⟩
  | 19 => ⟨S6144, .f32⟩
  | 20 => ⟨S6144x1, .f32⟩
  | 21 => ⟨S_, .f32⟩
  | 22 => ⟨S6144x1, .f32⟩
  | 23 => ⟨S6144x1, .f32⟩
  | 24 => ⟨S_, .f32⟩
  | 25 => ⟨S6144x1, .f32⟩
  | 26 => ⟨S6144x1, .f32⟩
  | 27 => ⟨S6144x1, .f32⟩
  | 28 => ⟨S_, .f32⟩
  | 29 => ⟨S6144x1, .f32⟩
  | 30 => ⟨S6144x1, .f32⟩
  | 31 => ⟨S6144x4096, .f32⟩
  | 32 => ⟨S6144x4096, .f32⟩
  | 33 => ⟨S1x4096, .f32⟩
  | 34 => ⟨S6144x4096, .f32⟩
  | 35 => ⟨S6144x4096, .f32⟩
  | 36 => ⟨S6144x4096, .bf16⟩
  | 37 => ⟨S6144x256x16, .bf16⟩
  | 38 => ⟨S6144x11008, .f32⟩
  | 39 => ⟨S6144x256x16, .bf16⟩
  | 40 => ⟨S6144x11008, .f32⟩
  | 41 => ⟨S6144x11008, .f32⟩
  | 42 => ⟨S6144x11008, .f32⟩
  | 43 => ⟨S_, .f32⟩
  | 44 => ⟨S6144x11008, .f32⟩
  | 45 => ⟨S6144x11008, .f32⟩
  | 46 => ⟨S_, .f32⟩
  | 47 => ⟨S6144x11008, .f32⟩
  | 48 => ⟨S6144x11008, .f32⟩
  | 49 => ⟨S6144x11008, .f32⟩
  | 50 => ⟨S6144x11008, .f32⟩
  | 51 => ⟨S6144x11008, .bf16⟩
  | 52 => ⟨S6144x688x16, .bf16⟩
  | 53 => ⟨S6144x4096, .f32⟩
  | 54 => ⟨S6144x4096, .f32⟩
  | 55 => ⟨S6144x4096, .bf16⟩
  | 56 => ⟨S3x2048x4096, .bf16⟩
  | 57 => ⟨S16x688x6144, .f32⟩
  | 58 => ⟨S6144x688x16, .f32⟩
  | 59 => ⟨S6144x11008, .f32⟩
  | 60 => ⟨S6144x11008, .f32⟩
  | 61 => ⟨S6144x11008, .f32⟩
  | 62 => ⟨S_, .f32⟩
  | 63 => ⟨S6144x11008, .f32⟩
  | 64 => ⟨S6144x11008, .f32⟩
  | 65 => ⟨S6144x11008, .f32⟩
  | 66 => ⟨S_, .f32⟩
  | 67 => ⟨S6144x11008, .f32⟩
  | 68 => ⟨S6144x11008, .f32⟩
  | 69 => ⟨S6144x11008, .f32⟩
  | 70 => ⟨S6144x11008, .bf16⟩
  | 71 => ⟨S6144x11008, .f32⟩
  | 72 => ⟨S6144x11008, .f32⟩
  | 73 => ⟨S6144x11008, .bf16⟩
  | 74 => ⟨S3x2048x11008, .bf16⟩
  | 75 => ⟨S6144x688x16, .bf16⟩
  | 76 => ⟨S688x16x4096, .f32⟩
  | 77 => ⟨S16x4096x688, .f32⟩
  | 78 => ⟨S16x4096x688, .f32⟩
  | 79 => ⟨S_, .f32⟩
  | 80 => ⟨S4096x688, .f32⟩
  | 81 => ⟨S4096x172x4, .f32⟩
  | 82 => ⟨S_, .f32⟩
  | 83 => ⟨S4096x172, .f32⟩
  | 84 => ⟨S6144x256x16, .bf16⟩
  | 85 => ⟨S256x16x11008, .f32⟩
  | 86 => ⟨S16x11008x256, .f32⟩
  | 87 => ⟨S16x11008x256, .f32⟩
  | 88 => ⟨S_, .f32⟩
  | 89 => ⟨S11008x256, .f32⟩
  | 90 => ⟨S11008x64x4, .f32⟩
  | 91 => ⟨S_, .f32⟩
  | 92 => ⟨S11008x64, .f32⟩
  | 93 => ⟨S6144x256x16, .bf16⟩
  | 94 => ⟨S256x16x11008, .f32⟩
  | 95 => ⟨S16x11008x256, .f32⟩
  | 96 => ⟨S16x11008x256, .f32⟩
  | 97 => ⟨S_, .f32⟩
  | 98 => ⟨S11008x256, .f32⟩
  | 99 => ⟨S11008x64x4, .f32⟩
  | 100 => ⟨S_, .f32⟩
  | 101 => ⟨S11008x64, .f32⟩
  | 102 => ⟨S1, .f32⟩
  | 103 => ⟨S_, .f32⟩
  | 104 => ⟨S1, .f32⟩
  | 105 => ⟨S_, .f32⟩
  | 106 => ⟨S_, .f32⟩
  | 107 => ⟨S11008x64, .f32⟩
  | 108 => ⟨S11008x64, .f32⟩
  | 109 => ⟨S_, .f32⟩
  | 110 => ⟨S11008x64, .f32⟩
  | 111 => ⟨S11008x64, .f32⟩
  | 112 => ⟨S11008x64, .f32⟩
  | 113 => ⟨S_, .f32⟩
  | 114 => ⟨S11008x64, .f32⟩
  | 115 => ⟨S11008x64, .f32⟩
  | 116 => ⟨S11008x64, .f32⟩
  | 117 => ⟨S_, .f32⟩
  | 118 => ⟨S11008x64, .f32⟩
  | 119 => ⟨S11008x64, .f32⟩
  | 120 => ⟨S11008x64, .f32⟩
  | 121 => ⟨S11008x64, .f32⟩
  | 122 => ⟨S11008x64, .f32⟩
  | 123 => ⟨S11008x64, .f32⟩
  | 124 => ⟨S11008x64, .f32⟩
  | 125 => ⟨S11008x64, .f32⟩
  | 126 => ⟨S11008x64, .f32⟩
  | 127 => ⟨S11008x64, .f32⟩
  | _ => ⟨S3x2048x4096, .bf16⟩

abbrev hbmTy0_2 (i : Nat) : BufTy := match i % 128 with
  | 0 => ⟨S11008x64, .f32⟩
  | 1 => ⟨S11008x64, .f32⟩
  | 2 => ⟨S11008x64, .f32⟩
  | 3 => ⟨S11008x64, .f32⟩
  | 4 => ⟨S1, .f32⟩
  | 5 => ⟨S_, .f32⟩
  | 6 => ⟨S1, .f32⟩
  | 7 => ⟨S_, .f32⟩
  | 8 => ⟨S_, .f32⟩
  | 9 => ⟨S11008x64, .f32⟩
  | 10 => ⟨S11008x64, .f32⟩
  | 11 => ⟨S_, .f32⟩
  | 12 => ⟨S11008x64, .f32⟩
  | 13 => ⟨S11008x64, .f32⟩
  | 14 => ⟨S11008x64, .f32⟩
  | 15 => ⟨S_, .f32⟩
  | 16 => ⟨S11008x64, .f32⟩
  | 17 => ⟨S11008x64, .f32⟩
  | 18 => ⟨S11008x64, .f32⟩
  | 19 => ⟨S_, .f32⟩
  | 20 => ⟨S11008x64, .f32⟩
  | 21 => ⟨S11008x64, .f32⟩
  | 22 => ⟨S11008x64, .f32⟩
  | 23 => ⟨S11008x64, .f32⟩
  | 24 => ⟨S11008x64, .f32⟩
  | 25 => ⟨S11008x64, .f32⟩
  | 26 => ⟨S11008x64, .f32⟩
  | 27 => ⟨S11008x64, .f32⟩
  | 28 => ⟨S11008x64, .f32⟩
  | 29 => ⟨S11008x64, .f32⟩
  | 30 => ⟨S11008x64, .f32⟩
  | 31 => ⟨S11008x64, .f32⟩
  | 32 => ⟨S11008x64, .f32⟩
  | 33 => ⟨S11008x64, .f32⟩
  | 34 => ⟨S1, .f32⟩
  | 35 => ⟨S_, .f32⟩
  | 36 => ⟨S1, .f32⟩
  | 37 => ⟨S_, .f32⟩
  | 38 => ⟨S_, .f32⟩
  | 39 => ⟨S4096x172, .f32⟩
  | 40 => ⟨S4096x172, .f32⟩
  | 41 => ⟨S_, .f32⟩
  | 42 => ⟨S4096x172, .f32⟩
  | 43 => ⟨S4096x172, .f32⟩
  | 44 => ⟨S4096x172, .f32⟩
  | 45 => ⟨S_, .f32⟩
  | 46 => ⟨S4096x172, .f32⟩
  | 47 => ⟨S4096x172, .f32⟩
  | 48 => ⟨S4096x172, .f32⟩
  | 49 => ⟨S_, .f32⟩
  | 50 => ⟨S4096x172, .f32⟩
  | 51 => ⟨S4096x172, .f32⟩
  | 52 => ⟨S4096x172, .f32⟩
  | 53 => ⟨S4096x172, .f32⟩
  | 54 => ⟨S4096x172, .f32⟩
  | 55 => ⟨S4096x172, .f32⟩
  | 56 => ⟨S4096x172, .f32⟩
  | 57 => ⟨S4096x172, .f32⟩
  | 58 => ⟨S4096x172, .f32⟩
  | 59 => ⟨S4096x172, .f32⟩
  | 60 => ⟨S4096x172, .f32⟩
  | 61 => ⟨S4096x172, .f32⟩
  | 62 => ⟨S4096x172, .f32⟩
  | 63 => ⟨S4096x172, .f32⟩
  | _ => ⟨S3x2048x4096, .bf16⟩

abbrev hbmTy (i : Nat) : BufTy := match i / 128 with
  | 0 => hbmTy0_0 i
  | 1 => hbmTy0_1 i
  | 2 => hbmTy0_2 i
  | _ => ⟨S3x2048x4096, .bf16⟩

abbrev bufTy : (tb : Table) → Fin (tcTables nBuf tb) → BufTy
  | .hbm, ⟨i, _⟩ => hbmTy i
  | _, _ => ⟨S3x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_7 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_8 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_9 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_10 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst : Ref sig .tc := ⟨.hbm, 146, rfl⟩
abbrev main_v112 : Ref sig .tc := ⟨.hbm, 147, rfl⟩
abbrev main_v113 : Ref sig .tc := ⟨.hbm, 148, rfl⟩
abbrev main_cst_11 : Ref sig .tc := ⟨.hbm, 149, rfl⟩
abbrev main_v114 : Ref sig .tc := ⟨.hbm, 150, rfl⟩
abbrev main_v115 : Ref sig .tc := ⟨.hbm, 151, rfl⟩
abbrev main_cst_12 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_13 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_14 : Ref sig .tc := ⟨.hbm, 171, rfl⟩
abbrev main_v133 : Ref sig .tc := ⟨.hbm, 172, rfl⟩
abbrev main_v134 : Ref sig .tc := ⟨.hbm, 173, rfl⟩
abbrev main_cst_15 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_16 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_17 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_18 : Ref sig .tc := ⟨.hbm, 207, rfl⟩
abbrev main_v165 : Ref sig .tc := ⟨.hbm, 208, rfl⟩
abbrev main_v166 : Ref sig .tc := ⟨.hbm, 209, rfl⟩
abbrev main_cst_19 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_20 : Ref sig .tc := ⟨.hbm, 216, rfl⟩
abbrev main_v172 : Ref sig .tc := ⟨.hbm, 217, rfl⟩
abbrev main_v173 : Ref sig .tc := ⟨.hbm, 218, rfl⟩
abbrev main_cst_21 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_cst_22 : Ref sig .tc := ⟨.hbm, 225, rfl⟩
abbrev main_v179 : Ref sig .tc := ⟨.hbm, 226, rfl⟩
abbrev main_v180 : Ref sig .tc := ⟨.hbm, 227, rfl⟩
abbrev main_cst_23 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_24 : Ref sig .tc := ⟨.hbm, 234, rfl⟩
abbrev main_v186 : Ref sig .tc := ⟨.hbm, 235, rfl⟩
abbrev main_v187 : Ref sig .tc := ⟨.hbm, 236, rfl⟩
abbrev main_cst_25 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_26 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_cst_27 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_28 : Ref sig .tc := ⟨.hbm, 264, rfl⟩
abbrev main_v212 : Ref sig .tc := ⟨.hbm, 265, rfl⟩
abbrev main_v213 : Ref sig .tc := ⟨.hbm, 266, rfl⟩
abbrev main_cst_29 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_30 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_cst_31 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_32 : Ref sig .tc := ⟨.hbm, 294, rfl⟩
abbrev main_v238 : Ref sig .tc := ⟨.hbm, 295, rfl⟩
abbrev main_v239 : Ref sig .tc := ⟨.hbm, 296, rfl⟩
abbrev main_cst_33 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_cst_34 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_35 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩

abbrev nD : Nat := 1
abbrev τ : Topo := Topo.v7x

variable {F : FTy → Type} [FloatOps F]
-- ==== Dx.lean ====
abbrev S6144x11008 : Shape := ⟨2, ![6144, 11008]⟩
abbrev S4096x11008 : Shape := ⟨2, ![4096, 11008]⟩
abbrev S6144x4096 : Shape := ⟨2, ![6144, 4096]⟩
abbrev S4096 : Shape := ⟨1, ![4096]⟩
abbrev S1x4096 : Shape := ⟨2, ![1, 4096]⟩
abbrev S6144x1 : Shape := ⟨2, ![6144, 1]⟩
abbrev S512x256 : Shape := ⟨2, ![512, 256]⟩
abbrev S4096x256 : Shape := ⟨2, ![4096, 256]⟩
abbrev S512x4096 : Shape := ⟨2, ![512, 4096]⟩
abbrev S512x1 : Shape := ⟨2, ![512, 1]⟩
abbrev S512x512 : Shape := ⟨2, ![512, 512]⟩
abbrev S16x4096 : Shape := ⟨2, ![16, 4096]⟩
abbrev S16 : Shape := ⟨1, ![16]⟩
abbrev S16x1 : Shape := ⟨2, ![16, 1]⟩

abbrev nBuf : Space → Nat
  | .hbm => 10
  | .vmem => 18
  | .smem => 0
  | _ => 0

abbrev bufTy : (tb : Table) → Fin (tcTables nBuf tb) → BufTy
  | .hbm, ⟨0, _⟩ => ⟨S6144x11008, .bf16⟩
  | .hbm, ⟨1, _⟩ => ⟨S6144x11008, .bf16⟩
  | .hbm, ⟨2, _⟩ => ⟨S4096x11008, .bf16⟩
  | .hbm, ⟨3, _⟩ => ⟨S4096x11008, .bf16⟩
  | .hbm, ⟨4, _⟩ => ⟨S6144x4096, .bf16⟩
  | .hbm, ⟨5, _⟩ => ⟨S6144x4096, .bf16⟩
  | .hbm, ⟨6, _⟩ => ⟨S4096, .f32⟩
  | .hbm, ⟨7, _⟩ => ⟨S1x4096, .f32⟩
  | .hbm, ⟨8, _⟩ => ⟨S6144x4096, .bf16⟩
  | .hbm, ⟨9, _⟩ => ⟨S6144x1, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S1x4096, .f32⟩
  | .local _ .vmem, ⟨13, _⟩ => ⟨S512x4096, .bf16⟩
  | .local _ .vmem, ⟨14, _⟩ => ⟨S512x4096, .bf16⟩
  | .local _ .vmem, ⟨15, _⟩ => ⟨S512x1, .f32⟩
  | .local _ .vmem, ⟨16, _⟩ => ⟨S512x1, .f32⟩
  | .local _ .vmem, ⟨17, _⟩ => ⟨S512x4096, .f32⟩
  | _, _ => ⟨S6144x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![12, 43], ![false, false]⟩

def k0_cond2 (i : grid0.Coords) : BitVec 1 :=
  let arg1 : BitVec 32 := BitVec.ofNat 32 (i 1).val
  let c42_i32 : BitVec 32 := 42#32
  let v78 : BitVec 1 := Scalar.cmpi .eq arg1 c42_i32
  let v79 : BitVec 32 := Scalar.extui v78
  let c0_i32_68 : BitVec 32 := 0#32
  let v80 : BitVec 1 := Scalar.cmpi .ne v79 c0_i32_68
  v80

@[reducible] def k0_t1_loop : Scf.Loop 32 :=
  let c0_i32_69 : BitVec 32 := 0#32
  let c32_i32 : BitVec 32 := 32#32
  let v81 : BitVec 32 := Scalar.addi c0_i32_69 c32_i32
  let c1_i32 : BitVec 32 := 1#32
  ⟨c0_i32_69, v81, c1_i32⟩
def k0_mult1 (k0_t1 : Fin k0_t1_loop.trips) : BitVec 32 :=
  let c0_i32_71 : BitVec 32 := 0#32
  let c0_i32_69 : BitVec 32 := 0#32
  let c1_i32 : BitVec 32 := 1#32
  let arg12 : BitVec 32 := Scf.iv c0_i32_69 c1_i32 k0_t1
  let c16_i32 : BitVec 32 := 16#32
  let v82 : BitVec 32 := Scalar.muli arg12 c16_i32
  let v83 : BitVec 32 := Scalar.addi c0_i32_71 v82
  v83
def k0_off1 (k0_t1 : Fin k0_t1_loop.trips) : Fin 2 → Nat :=
  let c0_i32_71 : BitVec 32 := 0#32
  let c0_i32_69 : BitVec 32 := 0#32
  let c1_i32 : BitVec 32 := 1#32
  let arg12 : BitVec 32 := Scf.iv c0_i32_69 c1_i32 k0_t1
  let c16_i32 : BitVec 32 := 16#32
  let v82 : BitVec 32 := Scalar.muli arg12 c16_i32
  let v83 : BitVec 32 := Scalar.addi c0_i32_71 v82
  let v84 : BitVec 32 := v83
  let v85 : Index := Scalar.indexCast v84
  let c0_72 : Index := 0#32
  ![v85.toNat, 0]
def k0_off2 (k0_t1 : Fin k0_t1_loop.trips) : Fin 2 → Nat :=
  let c0_i32_71 : BitVec 32 := 0#32
  let c0_i32_69 : BitVec 32 := 0#32
  let c1_i32 : BitVec 32 := 1#32
  let arg12 : BitVec 32 := Scf.iv c0_i32_69 c1_i32 k0_t1
  let c16_i32 : BitVec 32 := 16#32
  let v82 : BitVec 32 := Scalar.muli arg12 c16_i32
  let v83 : BitVec 32 := Scalar.addi c0_i32_71 v82
  let v84 : BitVec 32 := v83
  let v124 : Index := Scalar.indexCast v84
  let c0_84 : Index := 0#32
  ![v124.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DxReferenceIdeal.lean ====
abbrev S6144x11008 : Shape := ⟨2, ![6144, 11008]⟩
abbrev S4096x11008 : Shape := ⟨2, ![4096, 11008]⟩
abbrev S6144x4096 : Shape := ⟨2, ![6144, 4096]⟩
abbrev S4096 : Shape := ⟨1, ![4096]⟩
abbrev S_ : Shape := ⟨0, ![]⟩
abbrev S6144 : Shape := ⟨1, ![6144]⟩
abbrev S6144x1 : Shape := ⟨2, ![6144, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S6144x11008, .bf16⟩
  | .hbm, ⟨1, _⟩ => ⟨S6144x11008, .bf16⟩
  | .hbm, ⟨2, _⟩ => ⟨S4096x11008, .bf16⟩
  | .hbm, ⟨3, _⟩ => ⟨S4096x11008, .bf16⟩
  | .hbm, ⟨4, _⟩ => ⟨S6144x4096, .bf16⟩
  | .hbm, ⟨5, _⟩ => ⟨S6144x4096, .bf16⟩
  | .hbm, ⟨6, _⟩ => ⟨S4096, .f32⟩
  | .hbm, ⟨7, _⟩ => ⟨S6144x4096, .f32⟩
  | .hbm, ⟨8, _⟩ => ⟨S6144x4096, .f32⟩
  | .hbm, ⟨9, _⟩ => ⟨S_, .f32⟩
  | .hbm, ⟨10, _⟩ => ⟨S6144, .f32⟩
  | .hbm, ⟨11, _⟩ => ⟨S6144x1, .f32⟩
  | .hbm, ⟨12, _⟩ => ⟨S_, .f32⟩
  | .hbm, ⟨13, _⟩ => ⟨S6144x1, .f32⟩
  | .hbm, ⟨14, _⟩ => ⟨S6144x1, .f32⟩
  | .hbm, ⟨15, _⟩ => ⟨S_, .f32⟩
  | .hbm, ⟨16, _⟩ => ⟨S6144x1, .f32⟩
  | .hbm, ⟨17, _⟩ => ⟨S6144x1, .f32⟩
  | .hbm, ⟨18, _⟩ => ⟨S6144x1, .f32⟩
  | .hbm, ⟨19, _⟩ => ⟨S_, .f32⟩
  | .hbm, ⟨20, _⟩ => ⟨S6144x1, .f32⟩
  | .hbm, ⟨21, _⟩ => ⟨S6144x1, .f32⟩
  | .hbm, ⟨22, _⟩ => ⟨S6144x4096, .f32⟩
  | .hbm, ⟨23, _⟩ => ⟨S6144x4096, .f32⟩
  | .hbm, ⟨24, _⟩ => ⟨S6144x4096, .f32⟩
  | .hbm, ⟨25, _⟩ => ⟨S1x4096, .f32⟩
  | .hbm, ⟨26, _⟩ => ⟨S6144x4096, .f32⟩
  | .hbm, ⟨27, _⟩ => ⟨S6144x4096, .f32⟩
  | .hbm, ⟨28, _⟩ => ⟨S6144x4096, .f32⟩
  | .hbm, ⟨29, _⟩ => ⟨S_, .f32⟩
  | .hbm, ⟨30, _⟩ => ⟨S6144, .f32⟩
  | .hbm, ⟨31, _⟩ => ⟨S6144x1, .f32⟩
  | .hbm, ⟨32, _⟩ => ⟨S_, .f32⟩
  | .hbm, ⟨33, _⟩ => ⟨S6144x1, .f32⟩
  | .hbm, ⟨34, _⟩ => ⟨S6144x1, .f32⟩
  | .hbm, ⟨35, _⟩ => ⟨S6144x1, .f32⟩
  | .hbm, ⟨36, _⟩ => ⟨S6144x4096, .f32⟩
  | .hbm, ⟨37, _⟩ => ⟨S6144x4096, .f32⟩
  | .hbm, ⟨38, _⟩ => ⟨S6144x4096, .f32⟩
  | .hbm, ⟨39, _⟩ => ⟨S6144x4096, .f32⟩
  | .hbm, ⟨40, _⟩ => ⟨S6144x4096, .f32⟩
  | .hbm, ⟨41, _⟩ => ⟨S6144x4096, .f32⟩
  | .hbm, ⟨42, _⟩ => ⟨S6144x4096, .f32⟩
  | .hbm, ⟨43, _⟩ => ⟨S6144x4096, .f32⟩
  | .hbm, ⟨44, _⟩ => ⟨S6144x4096, .f32⟩
  | .hbm, ⟨45, _⟩ => ⟨S6144x4096, .bf16⟩
  | _, _ => ⟨S6144x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Codes.lean ====
module

public import proofs.«01_k».proof.KernelIdeal
public import Idealize.ShloMosaic.Lib.Pipeline.ValueKit
public import Idealize.ShloMosaic.Lib.Pipeline.Covers
public import Idealize.ShloMosaic.Lib.Pointwise

@[expose] public section

noncomputable section

namespace Cert.KernelIdeal.Gen

open Idealize.ShloMosaic Idealize.ShloMosaic.TcCoe

/-- The 2-bit weight code number `i` of a packed 32-bit word. -/
def code (w : BitVec 32) (i : ℕ) : BitVec 32 :=
  IntOp.andi (IntOp.shrui ArithUnit.vector w (IntOp.muli 2#32 (BitVec.ofNat 32 i))) 3#32

/-- The 2-bit zero point selected by the shift `s` from a packed byte held as a 32-bit word. -/
def zeroPoint (b s : BitVec 32) : BitVec 32 := IntOp.andi (IntOp.shrsi ArithUnit.vector b s) 3#32

/-- Weight code minus zero point, as a number. -/
def diff (w b : BitVec 32) (i : ℕ) (s : BitVec 32) : EReal :=
  FloatOps.sitofp (F := Ideal) FTy.f32 (IntOp.subi (code w i) (zeroPoint b s))

/-- The logistic function as the kernels compute it. -/
def sigm (x : EReal) : EReal := Ideal.div 1 (1 + Ideal.exp (0 - x))

/-- First moment update of the optimiser. -/
def momentOf (d m : EReal) : EReal := Ideal.ofBits FTy.f32 1063675494#32 * m + Ideal.ofBits FTy.f32 1036831949#32 * d

/-- Second moment update of the optimiser. -/
def varianceOf (d v : EReal) : EReal := Ideal.ofBits FTy.f32 1065336439#32 * v + Ideal.ofBits FTy.f32 981668463#32 * (d * d)

/-- The optimiser's step. -/
def stepOf (lr eps bc1 bc2 d m v : EReal) : EReal :=
  Ideal.div (lr * Ideal.div (momentOf d m) bc1) (Ideal.sqrt (Ideal.div (varianceOf d v) bc2) + eps)

/-- The scale after the optimiser's step. -/
def newScaleOf (lr eps bc1 bc2 d s m v : EReal) : EReal := s - stepOf lr eps bc1 bc2 d m v

/-- The shift that selects zero point `g % 4` of a byte. -/
def shiftOf (g : ℕ) : BitVec 32 := BitVec.ofNat 32 (2 * (g % 4))

end Cert.KernelIdeal.Gen
end
-- ==== Proof.HostForms.lean ====
module

public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

/-- The packed gate or up codes, by block of sixty-four words, word of the block and column. -/
def qWideAt (x : S11008x256.Idx → BitVec 32) (b : Fin 4) (g : Fin 64) (n : Fin 11008) : BitVec 32 := x (ix2 n ⟨64 * b.val + g.val, by omega⟩)

/-- The packed gate or up zero points as words, by block of four bytes, byte of the block and column. -/
def zWideAt (x : S11008x16.Idx → BitVec 8) (b g : Fin 4) (n : Fin 11008) : BitVec 32 := (x (ix2 n ⟨4 * b.val + g.val, by omega⟩)).setWidth 32

/-- The gate or up scales, by block of sixteen, scale of the block and column. -/
def sWideAt (x : S11008x64.Idx → EReal) (b : Fin 4) (g : Fin 16) (n : Fin 11008) : EReal := x (ix2 n ⟨16 * b.val + g.val, by omega⟩)

/-- The packed down codes, by block of sixteen words, word of the block and column. -/
def qTallAt (x : S4096x688.Idx → BitVec 32) (b : Fin 43) (g : Fin 16) (n : Fin 4096) : BitVec 32 := x (ix2 n ⟨16 * b.val + g.val, by omega⟩)

/-- The packed down zero points as words, by byte and column. -/
def zTallAt (x : S4096x43.Idx → BitVec 8) (b : Fin 43) (n : Fin 4096) : BitVec 32 := (x (ix2 n b)).setWidth 32

/-- The down scales, by block of four, scale of the block and column. -/
def sTallAt (x : S4096x172.Idx → EReal) (b : Fin 43) (g : Fin 4) (n : Fin 4096) : EReal := x (ix2 n ⟨4 * b.val + g.val, by omega⟩)

def qWide (x : S11008x256.Idx → BitVec 32) (j : S4x64x11008.Idx) : BitVec 32 := qWideAt x (j 0) (j 1) (j 2)
def zWide (x : S11008x16.Idx → BitVec 8) (j : S4x4x11008.Idx) : BitVec 32 := zWideAt x (j 0) (j 1) (j 2)
def sWide (x : S11008x64.Idx → EReal) (j : S4x16x11008.Idx) : EReal := sWideAt x (j 0) (j 1) (j 2)
def qTall (x : S4096x688.Idx → BitVec 32) (j : S43x16x4096.Idx) : BitVec 32 := qTallAt x (j 0) (j 1) (j 2)
def zTall (x : S4096x43.Idx → BitVec 8) (j : S43x1x4096.Idx) : BitVec 32 := zTallAt x (j 0) (j 2)
def sTall (x : S4096x172.Idx → EReal) (j : S43x4x4096.Idx) : EReal := sTallAt x (j 0) (j 1) (j 2)

/-- The rows of a three-dimensional array, batch after batch. -/
def rowsAt (x : S3x2048x4096.Idx → EReal) (r : Fin 6144) (k : Fin 4096) : EReal := x (ix3 ⟨r.val / 2048, by omega⟩ ⟨r.val % 2048, by omega⟩ k)
def rows (x : S3x2048x4096.Idx → EReal) (i : S6144x4096.Idx) : EReal := rowsAt x (i 0) (i 1)

/-- The norm weights as one row. -/
def normRow (x : S4096.Idx → EReal) (i : S1x4096.Idx) : EReal := x (ix1 (i 1))

/-- An array over an index pair is determined by its values at pairs. -/
theorem ext_ix2 {m n : ℕ} {α : Type} (f g : (⟨2, ![m, n]⟩ : Shape).Idx → α) (h : ∀ (a : Fin m) (b : Fin n), f (ix2 a b) = g (ix2 a b)) : f = g := by
  funext i
  have e : i = ix2 (i 0) (i 1) := by funext a; fin_cases a <;> rfl
  rw [e]; exact h _ _

/-- An array over an index triple is determined by its values at triples. -/
theorem ext_ix3 {l m n : ℕ} {α : Type} (f g : (⟨3, ![l, m, n]⟩ : Shape).Idx → α)
    (h : ∀ (a : Fin l) (b : Fin m) (c : Fin n), f (ix3 a b c) = g (ix3 a b c)) : f = g := by
  funext i
  have e : i = ix3 (i 0) (i 1) (i 2) := by funext a; fin_cases a <;> rfl
  rw [e]; exact h _ _ _

end Cert.KernelIdeal.Gen
end
-- ==== Proof.Norm.lean ====
module

public import proofs.«01_k».proof.Proof.Gen.KernelIdeal.Frame.Region3
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx3 : ∀ t : Fin cfg3.N, win3_0.index t = ![(grid3.coords t 0).val, 0] ∧ win3_1.index t = ![(grid3.coords t 0).val, 0]
    ∧ win3_2.index t = ![0, 0] ∧ win3_3.index t = ![(grid3.coords t 0).val, 0] ∧ win3_4.index t = ![0, (grid3.coords t 0).val]
    ∧ win3_5.index t = ![0, (grid3.coords t 0).val] := by
  decide +kernel

theorem covers3_3 : (cfg3.win 3).Covers := by decide +kernel
theorem covers3_4 : (cfg3.win 4).Covers := by decide +kernel
theorem covers3_5 : (cfg3.win 5).Covers := by decide +kernel

/-- The root-mean-square normalised row, scaled by the norm weight. -/
def normG (x : S6144x4096.Idx → EReal) (g : S1x4096.Idx → EReal) (i : S6144x4096.Idx) : EReal :=
  x i * Ideal.div 1 (Ideal.sqrt (Ideal.div (∑ k : Fin 4096, x (ix2 (i 0) k) * x (ix2 (i 0) k)) (Ideal.ofBits FTy.f32 1166016512#32)
    + Ideal.ofBits FTy.f32 925353388#32)) * g (ix2 0 (i 1))

/-- A 6144 by 4096 array transposed. -/
def transG (x : S6144x4096.Idx → EReal) (i : S4096x6144.Idx) : EReal := x (ix2 (i 1) (i 0))

/-- The norm call's first result is the normalised input. -/
theorem arr3_3 (c : Dev nD) : (dat3 V c).arrAt 3 cfg3.N
    = normG (V c (Pipeline.arrRef spec3 0)) (V c (Pipeline.arrRef spec3 2)) := by
  refine (dat3 V c).arrAt_eq_of_covers 3 _ covers3_3 fun t hf y => ?_
  blk_simp
  rw [after3_3]
  frame_out
  pointwise [k3_pay1, k3_pay2, k3_pay3]
  unfold normG
  blk_point [iblk3, idx3 t]

/-- The norm call's second result is the normalised input, transposed. -/
theorem arr3_4 (c : Dev nD) : (dat3 V c).arrAt 4 cfg3.N
    = transG (normG (V c (Pipeline.arrRef spec3 0)) (V c (Pipeline.arrRef spec3 2))) := by
  refine (dat3 V c).arrAt_eq_of_covers 4 _ covers3_4 fun t hf y => ?_
  blk_simp
  rw [after3_4]
  frame_out
  pointwise [k3_pay1, k3_pay2, k3_pay3]
  unfold transG normG
  blk_point [iblk3, idx3 t]

/-- The norm call's third result is the output gradient, transposed. -/
theorem arr3_5 (c : Dev nD) : (dat3 V c).arrAt 5 cfg3.N = transG (V c (Pipeline.arrRef spec3 1)) := by
  refine (dat3 V c).arrAt_eq_of_covers 5 _ covers3_5 fun t hf y => ?_
  blk_simp
  rw [after3_5]
  frame_out
  pointwise [k3_pay1, k3_pay2, k3_pay3]
  unfold transG
  blk_point [iblk3, idx3 t]

end Cert.KernelIdeal.Gen
end
-- ==== Proof.Swiglu.lean ====
module

public import proofs.«01_k».proof.Proof.Gen.KernelIdeal.Frame.Region4
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx4 : ∀ t : Fin cfg4.N, win4_0.index t = ![(grid4.coords t 0).val, 0] ∧ win4_1.index t = ![(grid4.coords t 0).val, 0]
    ∧ win4_2.index t = ![0, (grid4.coords t 1).val] ∧ win4_3.index t = ![0, (grid4.coords t 1).val] ∧ win4_4.index t = ![(grid4.coords t 1).val, 0]
    ∧ win4_5.index t = ![(grid4.coords t 0).val, (grid4.coords t 1).val] ∧ win4_6.index t = ![(grid4.coords t 0).val, (grid4.coords t 1).val]
    ∧ win4_7.index t = ![(grid4.coords t 0).val, (grid4.coords t 1).val] := by
  decide +kernel

theorem covers4_5 : (cfg4.win 5).Covers := by decide +kernel
theorem covers4_6 : (cfg4.win 6).Covers := by decide +kernel
theorem covers4_7 : (cfg4.win 7).Covers := by decide +kernel

/-- A row of activations times a column of weights. -/
def dotG (a : S6144x4096.Idx → EReal) (w : S4096x11008.Idx → EReal) (i : S6144x11008.Idx) : EReal :=
  ∑ k : Fin 4096, a (ix2 (i 0) k) * w (ix2 k (i 1))

/-- A row of gradients times a row of weights. -/
def dotTG (d : S6144x4096.Idx → EReal) (w : S11008x4096.Idx → EReal) (i : S6144x11008.Idx) : EReal :=
  ∑ k : Fin 4096, d (ix2 (i 0) k) * w (ix2 (i 1) k)

/-- The gated hidden activation: gate times its logistic times up. -/
def hiddenG (a : S6144x4096.Idx → EReal) (wg wu : S4096x11008.Idx → EReal) (i : S6144x11008.Idx) : EReal :=
  dotG a wg i * sigm (dotG a wg i) * dotG a wu i

/-- The gradient of the gate projection. -/
def dgateG (a d : S6144x4096.Idx → EReal) (wg wu : S4096x11008.Idx → EReal) (wd : S11008x4096.Idx → EReal) (i : S6144x11008.Idx) : EReal :=
  dotTG d wd i * dotG a wu i * sigm (dotG a wg i) * (1 + dotG a wg i * (1 - sigm (dotG a wg i)))

/-- The gradient of the up projection. -/
def dupG (a d : S6144x4096.Idx → EReal) (wg : S4096x11008.Idx → EReal) (wd : S11008x4096.Idx → EReal) (i : S6144x11008.Idx) : EReal :=
  dotTG d wd i * dotG a wg i * sigm (dotG a wg i)

/-- The gated-unit call's result: the hidden activation. -/
theorem arr4_5 (c : Dev nD) : (dat4 V c).arrAt 5 cfg4.N = hiddenG (V c (Pipeline.arrRef spec4 0)) (V c (Pipeline.arrRef spec4 2)) (V c (Pipeline.arrRef spec4 3)) := by
  refine (dat4 V c).arrAt_eq_of_covers 5 _ covers4_5 fun t hf y => ?_
  blk_simp
  rw [after4_5]
  unfold out4_5
  canon_tiles y _hy
  all_goals (unfold_payloads; pointwise; unfold hiddenG sigm dotG; blk_point [iblk4, idx4 t])

/-- The gated-unit call's result: the gate gradient. -/
theorem arr4_6 (c : Dev nD) : (dat4 V c).arrAt 6 cfg4.N = dgateG (V c (Pipeline.arrRef spec4 0)) (V c (Pipeline.arrRef spec4 1)) (V c (Pipeline.arrRef spec4 2)) (V c (Pipeline.arrRef spec4 3)) (V c (Pipeline.arrRef spec4 4)) := by
  refine (dat4 V c).arrAt_eq_of_covers 6 _ covers4_6 fun t hf y => ?_
  blk_simp
  rw [after4_6]
  unfold out4_6
  canon_tiles y _hy
  all_goals (unfold_payloads; pointwise; unfold dgateG sigm dotG dotTG; blk_point [iblk4, idx4 t])

/-- The gated-unit call's result: the up gradient. -/
theorem arr4_7 (c : Dev nD) : (dat4 V c).arrAt 7 cfg4.N = dupG (V c (Pipeline.arrRef spec4 0)) (V c (Pipeline.arrRef spec4 1)) (V c (Pipeline.arrRef spec4 2)) (V c (Pipeline.arrRef spec4 4)) := by
  refine (dat4 V c).arrAt_eq_of_covers 7 _ covers4_7 fun t hf y => ?_
  blk_simp
  rw [after4_7]
  unfold out4_7
  canon_tiles y _hy
  all_goals (unfold_payloads; pointwise; unfold dupG sigm dotG dotTG; blk_point [iblk4, idx4 t])

end Cert.KernelIdeal.Gen
end
-- ==== Proof.Output.lean ====
module

public import proofs.«01_k».proof.Proof.Gen.KernelIdeal.Frame.Region5
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx5 : ∀ t : Fin cfg5.N, win5_0.index t = ![(grid5.coords t 0).val, 0] ∧ win5_1.index t = ![0, (grid5.coords t 1).val]
    ∧ win5_2.index t = ![(grid5.coords t 0).val, (grid5.coords t 1).val] ∧ win5_3.index t = ![(grid5.coords t 0).val, (grid5.coords t 1).val] := by
  decide +kernel

theorem covers5 : (cfg5.win 3).Covers := by decide +kernel

/-- Input row plus the down projection of the hidden row, at each row and column. -/
def outputG (h : S6144x11008.Idx → EReal) (w : S11008x4096.Idx → EReal) (x : S6144x4096.Idx → EReal) (i : S6144x4096.Idx) : EReal :=
  x i + ∑ k : Fin 11008, h (ix2 (i 0) k) * w (ix2 k (i 1))

/-- The output call's result is the input row plus the down projection of the hidden row. -/
theorem arr5 (c : Dev nD) : (dat5 V c).arrAt 3 cfg5.N
    = outputG (V c (Pipeline.arrRef spec5 0)) (V c (Pipeline.arrRef spec5 1)) (V c (Pipeline.arrRef spec5 2)) := by
  refine (dat5 V c).arrAt_eq_of_covers 3 _ covers5 fun t hf y => ?_
  blk_simp
  rw [after5_3]
  frame_out
  pointwise [k5_pay1]
  unfold outputG
  blk_point [iblk5, idx5 t]

end Cert.KernelIdeal.Gen
end
-- ==== Proof.DequantGate.lean ====
module

public import proofs.«01_k».proof.Proof.Gen.KernelIdeal.Frame.Region0
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx0 : ∀ t : Fin cfg0.N, win0_0.index t = ![(grid0.coords t 0).val, 0, (grid0.coords t 1).val] ∧ win0_1.index t = ![(grid0.coords t 0).val, 0, (grid0.coords t 1).val] ∧ win0_2.index t = ![(grid0.coords t 0).val, 0, (grid0.coords t 1).val] ∧ win0_3.index t = ![(grid0.coords t 0).val, (grid0.coords t 1).val] := by
  decide +kernel

theorem covers0 : (cfg0.win 3).Covers := by decide +kernel

/-- A block of dequantised weights: scale times (code minus zero point). -/
def dqGateBlk (q : S1x64x256.Idx → BitVec 32) (z : S1x4x256.Idx → BitVec 32) (s : S1x16x256.Idx → EReal) (r : Fin 1024) (n : Fin 256) : EReal :=
  s (ix3 0 ⟨r / 64, by omega⟩ n) * diff (q (ix3 0 ⟨r / 16, by omega⟩ n)) (z (ix3 0 ⟨r / 256, by omega⟩ n)) (r % 16) (shiftOf (r / 64))

/-- One stored tile of sixteen rows is the block's rows there. -/
theorem dqGate_tile (q : S1x64x256.Idx → BitVec 32) (z : S1x4x256.Idx → BitVec 32) (s : S1x16x256.Idx → EReal) (r : Fin 1024) (n n' : Fin 256)
    (w : Fin 64) (g : Fin 16) (b : Fin 4) (x : Fin 16) (sh : BitVec 32) (hr : r.val = 16 * w.val + x.val) (hg : g.val = w.val / 4) (hb : b.val = w.val / 16)
    (hs : sh = shiftOf (w.val / 4)) (hn : n.val = n'.val) :
    s (ix3 0 g n') * FloatOps.sitofp (F := Ideal) FTy.f32 (IntOp.subi
        (IntOp.andi (IntOp.shrui ArithUnit.vector (q (ix3 0 w n')) (IntOp.muli 2#32 (BitVec.ofNat 32 x.val))) 3#32)
        (IntOp.andi (IntOp.shrsi ArithUnit.vector (z (ix3 0 b n')) sh) 3#32)) = dqGateBlk q z s r n := by
  obtain rfl : n = n' := Fin.ext hn
  have h1 : r.val / 64 = g.val := by omega
  have h2 : r.val / 16 = w.val := by omega
  have h3 : r.val / 256 = b.val := by omega
  have h4 : r.val % 16 = x.val := by omega
  have h5 : w.val / 4 = g.val := by omega
  subst hs
  simp only [dqGateBlk, diff, code, zeroPoint, h1, h2, h3, h4, h5]

/-- The block the dequantisation stores. -/
theorem dqGate_out (q : Vec Ideal S1x64x256 .i32) (z : Vec Ideal S1x4x256 .i32) (s : Vec Ideal S1x16x256 .f32) (y : S1024x256.Idx) :
    out0_3 q z s y = dqGateBlk q z s (y 0) (y 1) := by
  unfold out0_3
  canon_tiles y h
  all_goals
    unfold_payloads
    pointwise
    refine dqGate_tile _ _ _ _ _ _ _ _ _ _ _ (h0.trans ?_) rfl rfl rfl h1
    first | rfl | simp

/-- A dequantised weight at row `r` and column `n` of the whole array: scale times (code minus zero point). -/
def dqGateAt (q : S4x64x11008.Idx → BitVec 32) (z : S4x4x11008.Idx → BitVec 32) (s : S4x16x11008.Idx → EReal) (r : Fin 4096) (n : Fin 11008) : EReal :=
  s (ix3 ⟨r.val / 1024, by omega⟩ ⟨r.val % 1024 / 64, by omega⟩ n)
    * diff (q (ix3 ⟨r.val / 1024, by omega⟩ ⟨r.val % 1024 / 16, by omega⟩ n))
        (z (ix3 ⟨r.val / 1024, by omega⟩ ⟨r.val % 1024 / 256, by omega⟩ n))
        (r.val % 1024 % 16) (shiftOf (r.val % 1024 / 64))

/-- The dequantised weights as a whole. -/
def dqGateG (q : S4x64x11008.Idx → BitVec 32) (z : S4x4x11008.Idx → BitVec 32) (s : S4x16x11008.Idx → EReal) (i : S4096x11008.Idx) : EReal :=
  dqGateAt q z s (i 0) (i 1)

/-- The gate dequantisation call's result. -/
theorem arr0 (c : Dev nD) : (dat0 V c).arrAt 3 cfg0.N
    = dqGateG (V c (Pipeline.arrRef spec0 0)) (V c (Pipeline.arrRef spec0 1)) (V c (Pipeline.arrRef spec0 2)) := by
  refine (dat0 V c).arrAt_eq_of_covers 3 _ covers0 fun t hf y => ?_
  blk_simp
  rw [after0_3, dqGate_out]
  unfold dqGateG dqGateAt dqGateBlk
  blk_point [iblk0, idx0 t] <;> omega

end Cert.KernelIdeal.Gen
end
-- ==== Proof.DequantUp.lean ====
module

public import proofs.«01_k».proof.Proof.Gen.KernelIdeal.Frame.Region1
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx1 : ∀ t : Fin cfg1.N, win1_0.index t = ![(grid1.coords t 0).val, 0, (grid1.coords t 1).val] ∧ win1_1.index t = ![(grid1.coords t 0).val, 0, (grid1.coords t 1).val] ∧ win1_2.index t = ![(grid1.coords t 0).val, 0, (grid1.coords t 1).val] ∧ win1_3.index t = ![(grid1.coords t 0).val, (grid1.coords t 1).val] := by
  decide +kernel

theorem covers1 : (cfg1.win 3).Covers := by decide +kernel

/-- A block of dequantised weights: scale times (code minus zero point). -/
def dqUpBlk (q : S1x64x256.Idx → BitVec 32) (z : S1x4x256.Idx → BitVec 32) (s : S1x16x256.Idx → EReal) (r : Fin 1024) (n : Fin 256) : EReal :=
  s (ix3 0 ⟨r / 64, by omega⟩ n) * diff (q (ix3 0 ⟨r / 16, by omega⟩ n)) (z (ix3 0 ⟨r / 256, by omega⟩ n)) (r % 16) (shiftOf (r / 64))

/-- One stored tile of sixteen rows is the block's rows there. -/
theorem dqUp_tile (q : S1x64x256.Idx → BitVec 32) (z : S1x4x256.Idx → BitVec 32) (s : S1x16x256.Idx → EReal) (r : Fin 1024) (n n' : Fin 256)
    (w : Fin 64) (g : Fin 16) (b : Fin 4) (x : Fin 16) (sh : BitVec 32) (hr : r.val = 16 * w.val + x.val) (hg : g.val = w.val / 4) (hb : b.val = w.val / 16)
    (hs : sh = shiftOf (w.val / 4)) (hn : n.val = n'.val) :
    s (ix3 0 g n') * FloatOps.sitofp (F := Ideal) FTy.f32 (IntOp.subi
        (IntOp.andi (IntOp.shrui ArithUnit.vector (q (ix3 0 w n')) (IntOp.muli 2#32 (BitVec.ofNat 32 x.val))) 3#32)
        (IntOp.andi (IntOp.shrsi ArithUnit.vector (z (ix3 0 b n')) sh) 3#32)) = dqUpBlk q z s r n := by
  obtain rfl : n = n' := Fin.ext hn
  have h1 : r.val / 64 = g.val := by omega
  have h2 : r.val / 16 = w.val := by omega
  have h3 : r.val / 256 = b.val := by omega
  have h4 : r.val % 16 = x.val := by omega
  have h5 : w.val / 4 = g.val := by omega
  subst hs
  simp only [dqUpBlk, diff, code, zeroPoint, h1, h2, h3, h4, h5]

/-- The block the dequantisation stores. -/
theorem dqUp_out (q : Vec Ideal S1x64x256 .i32) (z : Vec Ideal S1x4x256 .i32) (s : Vec Ideal S1x16x256 .f32) (y : S1024x256.Idx) :
    out1_3 q z s y = dqUpBlk q z s (y 0) (y 1) := by
  unfold out1_3
  canon_tiles y h
  all_goals
    unfold_payloads
    pointwise
    refine dqUp_tile _ _ _ _ _ _ _ _ _ _ _ (h0.trans ?_) rfl rfl rfl h1
    first | rfl | simp

/-- A dequantised weight at row `r` and column `n` of the whole array: scale times (code minus zero point). -/
def dqUpAt (q : S4x64x11008.Idx → BitVec 32) (z : S4x4x11008.Idx → BitVec 32) (s : S4x16x11008.Idx → EReal) (r : Fin 4096) (n : Fin 11008) : EReal :=
  s (ix3 ⟨r.val / 1024, by omega⟩ ⟨r.val % 1024 / 64, by omega⟩ n)
    * diff (q (ix3 ⟨r.val / 1024, by omega⟩ ⟨r.val % 1024 / 16, by omega⟩ n))
        (z (ix3 ⟨r.val / 1024, by omega⟩ ⟨r.val % 1024 / 256, by omega⟩ n))
        (r.val % 1024 % 16) (shiftOf (r.val % 1024 / 64))

/-- The dequantised weights as a whole. -/
def dqUpG (q : S4x64x11008.Idx → BitVec 32) (z : S4x4x11008.Idx → BitVec 32) (s : S4x16x11008.Idx → EReal) (i : S4096x11008.Idx) : EReal :=
  dqUpAt q z s (i 0) (i 1)

/-- The up dequantisation call's result. -/
theorem arr1 (c : Dev nD) : (dat1 V c).arrAt 3 cfg1.N
    = dqUpG (V c (Pipeline.arrRef spec1 0)) (V c (Pipeline.arrRef spec1 1)) (V c (Pipeline.arrRef spec1 2)) := by
  refine (dat1 V c).arrAt_eq_of_covers 3 _ covers1 fun t hf y => ?_
  blk_simp
  rw [after1_3, dqUp_out]
  unfold dqUpG dqUpAt dqUpBlk
  blk_point [iblk1, idx1 t] <;> omega

end Cert.KernelIdeal.Gen
end
-- ==== Proof.DequantDown.lean ====
module

public import proofs.«01_k».proof.Proof.Gen.KernelIdeal.Frame.Region2
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx2 : ∀ t : Fin cfg2.N, win2_0.index t = ![(grid2.coords t 0).val, 0, (grid2.coords t 1).val] ∧ win2_1.index t = ![(grid2.coords t 0).val, 0, (grid2.coords t 1).val] ∧ win2_2.index t = ![(grid2.coords t 0).val, 0, (grid2.coords t 1).val] ∧ win2_3.index t = ![(grid2.coords t 0).val, (grid2.coords t 1).val] := by
  decide +kernel

theorem covers2 : (cfg2.win 3).Covers := by decide +kernel

/-- A block of dequantised weights: scale times (code minus zero point). -/
def dqDownBlk (q : S1x16x1024.Idx → BitVec 32) (z : S1x1x1024.Idx → BitVec 32) (s : S1x4x1024.Idx → EReal) (r : Fin 256) (n : Fin 1024) : EReal :=
  s (ix3 0 ⟨r / 64, by omega⟩ n) * diff (q (ix3 0 ⟨r / 16, by omega⟩ n)) (z (ix3 0 ⟨r / 256, by omega⟩ n)) (r % 16) (shiftOf (r / 64))

/-- One stored tile of sixteen rows is the block's rows there. -/
theorem dqDown_tile (q : S1x16x1024.Idx → BitVec 32) (z : S1x1x1024.Idx → BitVec 32) (s : S1x4x1024.Idx → EReal) (r : Fin 256) (n n' : Fin 1024)
    (w : Fin 16) (g : Fin 4) (b : Fin 1) (x : Fin 16) (sh : BitVec 32) (hr : r.val = 16 * w.val + x.val) (hg : g.val = w.val / 4) (hb : b.val = w.val / 16)
    (hs : sh = shiftOf (w.val / 4)) (hn : n.val = n'.val) :
    s (ix3 0 g n') * FloatOps.sitofp (F := Ideal) FTy.f32 (IntOp.subi
        (IntOp.andi (IntOp.shrui ArithUnit.vector (q (ix3 0 w n')) (IntOp.muli 2#32 (BitVec.ofNat 32 x.val))) 3#32)
        (IntOp.andi (IntOp.shrsi ArithUnit.vector (z (ix3 0 b n')) sh) 3#32)) = dqDownBlk q z s r n := by
  obtain rfl : n = n' := Fin.ext hn
  have h1 : r.val / 64 = g.val := by omega
  have h2 : r.val / 16 = w.val := by omega
  have h3 : r.val / 256 = b.val := by omega
  have h4 : r.val % 16 = x.val := by omega
  have h5 : w.val / 4 = g.val := by omega
  subst hs
  simp only [dqDownBlk, diff, code, zeroPoint, h1, h2, h3, h4, h5]

/-- The block the dequantisation stores. -/
theorem dqDown_out (q : Vec Ideal S1x16x1024 .i32) (z : Vec Ideal S1x1x1024 .i32) (s : Vec Ideal S1x4x1024 .f32) (y : S256x1024.Idx) :
    out2_3 q z s y = dqDownBlk q z s (y 0) (y 1) := by
  unfold out2_3
  canon_tiles y h
  all_goals
    unfold_payloads
    pointwise
    refine dqDown_tile _ _ _ _ _ _ _ _ _ _ _ (h0.trans ?_) rfl rfl rfl h1
    first | rfl | simp

/-- A dequantised weight at row `r` and column `n` of the whole array: scale times (code minus zero point). -/
def dqDownAt (q : S43x16x4096.Idx → BitVec 32) (z : S43x1x4096.Idx → BitVec 32) (s : S43x4x4096.Idx → EReal) (r : Fin 11008) (n : Fin 4096) : EReal :=
  s (ix3 ⟨r.val / 256, by omega⟩ ⟨r.val % 256 / 64, by omega⟩ n)
    * diff (q (ix3 ⟨r.val / 256, by omega⟩ ⟨r.val % 256 / 16, by omega⟩ n))
        (z (ix3 ⟨r.val / 256, by omega⟩ ⟨r.val % 256 / 256, by omega⟩ n))
        (r.val % 256 % 16) (shiftOf (r.val % 256 / 64))

/-- The dequantised weights as a whole. -/
def dqDownG (q : S43x16x4096.Idx → BitVec 32) (z : S43x1x4096.Idx → BitVec 32) (s : S43x4x4096.Idx → EReal) (i : S11008x4096.Idx) : EReal :=
  dqDownAt q z s (i 0) (i 1)

/-- The down dequantisation call's result. -/
theorem arr2 (c : Dev nD) : (dat2 V c).arrAt 3 cfg2.N
    = dqDownG (V c (Pipeline.arrRef spec2 0)) (V c (Pipeline.arrRef spec2 1)) (V c (Pipeline.arrRef spec2 2)) := by
  refine (dat2 V c).arrAt_eq_of_covers 3 _ covers2 fun t hf y => ?_
  blk_simp
  rw [after2_3, dqDown_out]
  unfold dqDownG dqDownAt dqDownBlk
  blk_point [iblk2, idx2 t] <;> omega

end Cert.KernelIdeal.Gen
end
-- ==== Proof.DsGateUp.lean ====
module

public import proofs.«01_k».proof.Proof.Gen.KernelIdeal.Frame.Region6
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx6 : ∀ t : Fin cfg6.N, win6_0.index t = ![(grid6.coords t 0).val, 0] ∧ win6_1.index t = ![0, (grid6.coords t 1).val]
    ∧ win6_2.index t = ![0, (grid6.coords t 1).val]
    ∧ win6_3.index t = ![(grid6.coords t 0).val, 0, (grid6.coords t 1).val] ∧ win6_4.index t = ![(grid6.coords t 0).val, 0, (grid6.coords t 1).val]
    ∧ win6_5.index t = ![(grid6.coords t 0).val, 0, (grid6.coords t 1).val] ∧ win6_6.index t = ![(grid6.coords t 0).val, 0, (grid6.coords t 1).val]
    ∧ win6_7.index t = ![(grid6.coords t 0).val, 0, (grid6.coords t 1).val] ∧ win6_8.index t = ![(grid6.coords t 0).val, 0, (grid6.coords t 1).val] := by
  decide +kernel

theorem covers6_7 : (cfg6.win 7).Covers := by decide +kernel
theorem covers6_8 : (cfg6.win 8).Covers := by decide +kernel

theorem wlt6 (g : Fin 16) (j : Fin 4) : 4 * g.val + j.val < 64 := by omega
theorem clt6 (g : Fin 16) (j : Fin 4) (x : Fin 16) : 64 * g.val + 16 * j.val + x.val < 1024 := by omega
theorem zlt6 (g : Fin 16) : g.val / 4 < 4 := by omega

/-- The gradients of the sixteen weights of word `j` of group `g`, one term: the weight's gradient times its code minus zero point. -/
def dsTerm6 (a : S1024x6144.Idx → EReal) (d : S6144x256.Idx → EReal) (q : S1x64x256.Idx → BitVec 32) (z : S1x4x256.Idx → BitVec 32)
    (g : Fin 16) (n : Fin 256) (j : Fin 4) (x : Fin 16) : EReal :=
  (∑ r : Fin 6144, a (ix2 ⟨64 * g.val + 16 * j.val + x.val, by omega⟩ r) * d (ix2 r n))
    * diff (q (ix3 0 ⟨4 * g.val + j.val, by omega⟩ n)) (z (ix3 0 ⟨g.val / 4, by omega⟩ n)) x.val (shiftOf g.val)

/-- A group's scale gradient: its sixty-four terms summed as the kernel sums them. -/
def dsBlk6 (a : S1024x6144.Idx → EReal) (d : S6144x256.Idx → EReal) (q : S1x64x256.Idx → BitVec 32) (z : S1x4x256.Idx → BitVec 32)
    (g : Fin 16) (n : Fin 256) : EReal :=
  ∑ x : Fin 16, (dsTerm6 a d q z g n 0 x + dsTerm6 a d q z g n 1 x + dsTerm6 a d q z g n 2 x + dsTerm6 a d q z g n 3 x)

/-- A value by cases that equals `R` in both cases equals `R`. -/
theorem dif_cases {α : Type} {c : Prop} [Decidable c] {A : c → α} {B : ¬c → α} {R : α} (hA : ∀ h, A h = R) (hB : ∀ h, B h = R) :
    dite c A B = R := by
  by_cases h : c
  · rw [dif_pos h]; exact hA h
  · rw [dif_neg h]; exact hB h

/-- One group's stored sum is the group's scale gradient. -/
theorem dsTile6 (a : S1024x6144.Idx → EReal) (d : S6144x256.Idx → EReal) (q : S1x64x256.Idx → BitVec 32) (z : S1x4x256.Idx → BitVec 32)
    (g : Fin 16) (n n' : Fin 256) (c0 c1 c2 c3 : Fin 16 → Fin 1024) (w0 w1 w2 w3 : Fin 64) (b : Fin 4) (sh : BitVec 32)
    (h0 : ∀ x, (c0 x).val = 64 * g.val + x.val) (h1 : ∀ x, (c1 x).val = 64 * g.val + 16 + x.val)
    (h2 : ∀ x, (c2 x).val = 64 * g.val + 32 + x.val) (h3 : ∀ x, (c3 x).val = 64 * g.val + 48 + x.val)
    (k0 : w0.val = 4 * g.val) (k1 : w1.val = 4 * g.val + 1) (k2 : w2.val = 4 * g.val + 2) (k3 : w3.val = 4 * g.val + 3)
    (hb : b.val = g.val / 4) (hs : sh.toNat = 2 * (g.val % 4)) (hn : n.val = n'.val) :
    ∑ x : Fin 16,
      ((∑ r : Fin 6144, a (ix2 (c0 x) r) * d (ix2 r n')) * FloatOps.sitofp (F := Ideal) FTy.f32 (IntOp.subi (IntOp.andi (IntOp.shrui ArithUnit.vector (q (ix3 0 w0 n')) (IntOp.muli 2#32 (BitVec.ofNat 32 x.val))) 3#32) (IntOp.andi (IntOp.shrsi ArithUnit.vector (z (ix3 0 b n')) sh) 3#32))
        + (∑ r : Fin 6144, a (ix2 (c1 x) r) * d (ix2 r n')) * FloatOps.sitofp (F := Ideal) FTy.f32 (IntOp.subi (IntOp.andi (IntOp.shrui ArithUnit.vector (q (ix3 0 w1 n')) (IntOp.muli 2#32 (BitVec.ofNat 32 x.val))) 3#32) (IntOp.andi (IntOp.shrsi ArithUnit.vector (z (ix3 0 b n')) sh) 3#32))
        + (∑ r : Fin 6144, a (ix2 (c2 x) r) * d (ix2 r n')) * FloatOps.sitofp (F := Ideal) FTy.f32 (IntOp.subi (IntOp.andi (IntOp.shrui ArithUnit.vector (q (ix3 0 w2 n')) (IntOp.muli 2#32 (BitVec.ofNat 32 x.val))) 3#32) (IntOp.andi (IntOp.shrsi ArithUnit.vector (z (ix3 0 b n')) sh) 3#32))
        + (∑ r : Fin 6144, a (ix2 (c3 x) r) * d (ix2 r n')) * FloatOps.sitofp (F := Ideal) FTy.f32 (IntOp.subi (IntOp.andi (IntOp.shrui ArithUnit.vector (q (ix3 0 w3 n')) (IntOp.muli 2#32 (BitVec.ofNat 32 x.val))) 3#32) (IntOp.andi (IntOp.shrsi ArithUnit.vector (z (ix3 0 b n')) sh) 3#32)))
      = dsBlk6 a d q z g n := by
  obtain rfl : n = n' := Fin.ext hn
  have e : sh = shiftOf g.val := BitVec.eq_of_toNat_eq (by rw [hs, shiftOf, BitVec.toNat_ofNat]; omega)
  subst e
  have fb : b = ⟨g.val / 4, zlt6 g⟩ := Fin.ext hb
  unfold dsBlk6
  refine Finset.sum_congr rfl fun x _ => ?_
  have e0 : c0 x = ⟨64 * g.val + 16 * (0 : Fin 4).val + x.val, clt6 g 0 x⟩ := Fin.ext (by rw [h0]; rfl)
  have e1 : c1 x = ⟨64 * g.val + 16 * (1 : Fin 4).val + x.val, clt6 g 1 x⟩ := Fin.ext (by rw [h1]; rfl)
  have e2 : c2 x = ⟨64 * g.val + 16 * (2 : Fin 4).val + x.val, clt6 g 2 x⟩ := Fin.ext (by rw [h2]; rfl)
  have e3 : c3 x = ⟨64 * g.val + 16 * (3 : Fin 4).val + x.val, clt6 g 3 x⟩ := Fin.ext (by rw [h3]; rfl)
  have f0 : w0 = ⟨4 * g.val + (0 : Fin 4).val, wlt6 g 0⟩ := Fin.ext (by rw [k0]; rfl)
  have f1 : w1 = ⟨4 * g.val + (1 : Fin 4).val, wlt6 g 1⟩ := Fin.ext (by rw [k1]; rfl)
  have f2 : w2 = ⟨4 * g.val + (2 : Fin 4).val, wlt6 g 2⟩ := Fin.ext (by rw [k2]; rfl)
  have f3 : w3 = ⟨4 * g.val + (3 : Fin 4).val, wlt6 g 3⟩ := Fin.ext (by rw [k3]; rfl)
  rw [e0, e1, e2, e3, f0, f1, f2, f3, fb]
  simp only [dsTerm6, diff, code, zeroPoint]

set_option maxHeartbeats 4000000 in
/-- The block the first scale gradient output stores. -/
theorem ds6_7_out (x0 : Vec Ideal S1024x6144 .bf16) (x1 x2 : Vec Ideal S6144x256 .bf16) (x3 : Vec Ideal S1x64x256 .i32) (x4 : Vec Ideal S1x4x256 .i32)
    (x5 : Vec Ideal S1x64x256 .i32) (x6 : Vec Ideal S1x4x256 .i32) (y : S1x16x256.Idx) :
    out6_7 x0 x1 x2 x3 x4 x5 x6 y = dsBlk6 x0 x1 x3 x4 (y 1) (y 2) := by
  generalize hG : dsBlk6 x0 x1 x3 x4 = G
  unfold out6_7
  canon_tiles y h
  all_goals
    unfold_payloads
    pointwise
    subst hG
    repeat' refine dif_cases (fun _ => ?_) fun _ => ?_
  all_goals
    refine dsTile6 _ _ _ _ _ _ _ _ _ _ _ _ _ _ _ _ _ (fun x => ?_) (fun x => ?_) (fun x => ?_) (fun x => ?_) ?_ ?_ ?_ ?_ ?_ ?_ h2
    all_goals first
      | omega
      | (simp only [Fin.isValue, Fin.coe_ofNat_eq_mod]; omega)
      | (simp only [BitVec.toNat_ofNat]; omega)

set_option maxHeartbeats 4000000 in
/-- The block the second scale gradient output stores. -/
theorem ds6_8_out (x0 : Vec Ideal S1024x6144 .bf16) (x1 x2 : Vec Ideal S6144x256 .bf16) (x3 : Vec Ideal S1x64x256 .i32) (x4 : Vec Ideal S1x4x256 .i32)
    (x5 : Vec Ideal S1x64x256 .i32) (x6 : Vec Ideal S1x4x256 .i32) (y : S1x16x256.Idx) :
    out6_8 x0 x1 x2 x3 x4 x5 x6 y = dsBlk6 x0 x2 x5 x6 (y 1) (y 2) := by
  generalize hG : dsBlk6 x0 x2 x5 x6 = G
  unfold out6_8
  canon_tiles y h
  all_goals
    unfold_payloads
    pointwise
    subst hG
    repeat' refine dif_cases (fun _ => ?_) fun _ => ?_
  all_goals
    refine dsTile6 _ _ _ _ _ _ _ _ _ _ _ _ _ _ _ _ _ (fun x => ?_) (fun x => ?_) (fun x => ?_) (fun x => ?_) ?_ ?_ ?_ ?_ ?_ ?_ h2
    all_goals first
      | omega
      | (simp only [Fin.isValue, Fin.coe_ofNat_eq_mod]; omega)
      | (simp only [BitVec.toNat_ofNat]; omega)

/-- One term of a group's scale gradient over the whole arrays. -/
def dsTermAt (a : S4096x6144.Idx → EReal) (d : S6144x11008.Idx → EReal) (q : S4x64x11008.Idx → BitVec 32) (z : S4x4x11008.Idx → BitVec 32)
    (b : Fin 4) (g : Fin 16) (n : Fin 11008) (j : Fin 4) (x : Fin 16) : EReal :=
  (∑ r : Fin 6144, a (ix2 ⟨1024 * b.val + (64 * g.val + 16 * j.val + x.val), by omega⟩ r) * d (ix2 r n))
    * diff (q (ix3 b ⟨4 * g.val + j.val, by omega⟩ n)) (z (ix3 b ⟨g.val / 4, by omega⟩ n)) x.val (shiftOf g.val)

/-- The scale gradients over the whole arrays. -/
def dsG (a : S4096x6144.Idx → EReal) (d : S6144x11008.Idx → EReal) (q : S4x64x11008.Idx → BitVec 32) (z : S4x4x11008.Idx → BitVec 32)
    (i : S4x16x11008.Idx) : EReal :=
  ∑ x : Fin 16, (dsTermAt a d q z (i 0) (i 1) (i 2) 0 x + dsTermAt a d q z (i 0) (i 1) (i 2) 1 x
    + dsTermAt a d q z (i 0) (i 1) (i 2) 2 x + dsTermAt a d q z (i 0) (i 1) (i 2) 3 x)

/-- One term of the block a grid point stores is the whole arrays' term. -/
theorem dsTerm6_eq7 (c : Dev nD) (t : Fin cfg6.N) (y : S1x16x256.Idx) (j : Fin 4) (x : Fin 16) :
    dsTerm6 (iblk6 V c 0 t) (iblk6 V c 1 t) (iblk6 V c 3 t) (iblk6 V c 4 t) (y 1) (y 2) j x
      = dsTermAt (V c (Pipeline.arrRef spec6 0)) (V c (Pipeline.arrRef spec6 1)) (V c (Pipeline.arrRef spec6 3)) (V c (Pipeline.arrRef spec6 4))
          ((((cfg6.win 7).blk t).view.emb y) 0) ((((cfg6.win 7).blk t).view.emb y) 1) ((((cfg6.win 7).blk t).view.emb y) 2) j x := by
  unfold dsTerm6 dsTermAt
  blk_simp
  blk_point [iblk6, idx6 t] <;> omega

/-- One term of the block a grid point stores is the whole arrays' term. -/
theorem dsTerm6_eq8 (c : Dev nD) (t : Fin cfg6.N) (y : S1x16x256.Idx) (j : Fin 4) (x : Fin 16) :
    dsTerm6 (iblk6 V c 0 t) (iblk6 V c 2 t) (iblk6 V c 5 t) (iblk6 V c 6 t) (y 1) (y 2) j x
      = dsTermAt (V c (Pipeline.arrRef spec6 0)) (V c (Pipeline.arrRef spec6 2)) (V c (Pipeline.arrRef spec6 5)) (V c (Pipeline.arrRef spec6 6))
          ((((cfg6.win 8).blk t).view.emb y) 0) ((((cfg6.win 8).blk t).view.emb y) 1) ((((cfg6.win 8).blk t).view.emb y) 2) j x := by
  unfold dsTerm6 dsTermAt
  blk_simp
  blk_point [iblk6, idx6 t] <;> omega

/-- The scale gradient call's first result: the gate's scale gradients. -/
theorem arr6_7 (c : Dev nD) : (dat6 V c).arrAt 7 cfg6.N
    = dsG (V c (Pipeline.arrRef spec6 0)) (V c (Pipeline.arrRef spec6 1)) (V c (Pipeline.arrRef spec6 3)) (V c (Pipeline.arrRef spec6 4)) := by
  refine (dat6 V c).arrAt_eq_of_covers 7 _ covers6_7 fun t hf y => ?_
  unfold dsG
  simp only [← dsTerm6_eq7 V c t y]
  blk_simp
  rw [after6_7, ds6_7_out]
  rfl

/-- The scale gradient call's second result: the up projection's scale gradients. -/
theorem arr6_8 (c : Dev nD) : (dat6 V c).arrAt 8 cfg6.N
    = dsG (V c (Pipeline.arrRef spec6 0)) (V c (Pipeline.arrRef spec6 2)) (V c (Pipeline.arrRef spec6 5)) (V c (Pipeline.arrRef spec6 6)) := by
  refine (dat6 V c).arrAt_eq_of_covers 8 _ covers6_8 fun t hf y => ?_
  unfold dsG
  simp only [← dsTerm6_eq8 V c t y]
  blk_simp
  rw [after6_8, ds6_8_out]
  rfl

end Cert.KernelIdeal.Gen
end
-- ==== Proof.DsDown.lean ====
module

public import proofs.«01_k».proof.Proof.Gen.KernelIdeal.Frame.Region7
public import proofs.«01_k».proof.Proof.Codes
public import Idealize.ShloMosaic.Lib.Pipeline.ValueKit
public import Idealize.ShloMosaic.Lib.Pipeline.Covers
public import Idealize.ShloMosaic.Lib.Pointwise
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx7 : ∀ t : Fin cfg7.N, win7_0.index t = ![(grid7.coords t 0).val, 0] ∧ win7_1.index t = ![0, (grid7.coords t 1).val]
    ∧ win7_2.index t = ![(grid7.coords t 1).val, 0, (grid7.coords t 0).val] ∧ win7_3.index t = ![(grid7.coords t 1).val, 0, (grid7.coords t 0).val]
    ∧ win7_4.index t = ![(grid7.coords t 1).val, 0, (grid7.coords t 0).val] := by
  decide +kernel

theorem covers7_4 : (cfg7.win 4).Covers := by decide +kernel

/-- The array index a read of one row, through the slice of columns from 0, takes. -/
theorem rdQ0 (k : ℕ) (w : Fin 16) (n : Fin 512) (n' : Fin 1024)
    (inb1 : ∀ a, (![0, 0, 0] : Fin 3 → ℕ) a + (![1, 16, 512] : Fin 3 → ℕ) a ≤ S1x16x1024.size a)
    (inb2 : ∀ a, (![0, k, 0] : Fin 3 → ℕ) a + (![1, 1, 512] : Fin 3 → ℕ) a ≤ S1x16x512.size a) (h₀)
    (hk : k = w.val) (hn : 0 + n.val = n'.val) :
    ((Rect.unit (s := S1x16x1024) ![0, 0, 0] ![1, 16, 512] inb1).withinL
      (Rect.unit (s := S1x16x512) ![0, k, 0] ![1, 1, 512] inb2).toLoadRect h₀).idx (ix3 0 0 n)
      = (ix3 0 w n' : S1x16x1024.Idx) := by
  funext a
  refine Fin.ext ?_
  rw [Rect.idx_withinL]
  fin_cases a
  · rfl
  · show 0 + 1 * (k + 1 * 0) = w.val; omega
  · show 0 + 1 * (0 + 1 * n.val) = n'.val; omega

/-- The array index a read of one row, through the slice of columns from 512, takes. -/
theorem rdQ1 (k : ℕ) (w : Fin 16) (n : Fin 512) (n' : Fin 1024)
    (inb1 : ∀ a, (![0, 0, 512] : Fin 3 → ℕ) a + (![1, 16, 512] : Fin 3 → ℕ) a ≤ S1x16x1024.size a)
    (inb2 : ∀ a, (![0, k, 0] : Fin 3 → ℕ) a + (![1, 1, 512] : Fin 3 → ℕ) a ≤ S1x16x512.size a) (h₀)
    (hk : k = w.val) (hn : 512 + n.val = n'.val) :
    ((Rect.unit (s := S1x16x1024) ![0, 0, 512] ![1, 16, 512] inb1).withinL
      (Rect.unit (s := S1x16x512) ![0, k, 0] ![1, 1, 512] inb2).toLoadRect h₀).idx (ix3 0 0 n)
      = (ix3 0 w n' : S1x16x1024.Idx) := by
  funext a
  refine Fin.ext ?_
  rw [Rect.idx_withinL]
  fin_cases a
  · rfl
  · show 0 + 1 * (k + 1 * 0) = w.val; omega
  · show 512 + 1 * (0 + 1 * n.val) = n'.val; omega

/-- The array index a read of one row, through the slice of columns from 0, takes. -/
theorem rdZ0 (k : ℕ) (w : Fin 1) (n : Fin 512) (n' : Fin 1024)
    (inb1 : ∀ a, (![0, 0, 0] : Fin 3 → ℕ) a + (![1, 1, 512] : Fin 3 → ℕ) a ≤ S1x1x1024.size a)
    (inb2 : ∀ a, (![0, k, 0] : Fin 3 → ℕ) a + (![1, 1, 512] : Fin 3 → ℕ) a ≤ S1x1x512.size a) (h₀)
    (hk : k = w.val) (hn : 0 + n.val = n'.val) :
    ((Rect.unit (s := S1x1x1024) ![0, 0, 0] ![1, 1, 512] inb1).withinL
      (Rect.unit (s := S1x1x512) ![0, k, 0] ![1, 1, 512] inb2).toLoadRect h₀).idx (ix3 0 0 n)
      = (ix3 0 w n' : S1x1x1024.Idx) := by
  funext a
  refine Fin.ext ?_
  rw [Rect.idx_withinL]
  fin_cases a
  · rfl
  · show 0 + 1 * (k + 1 * 0) = w.val; omega
  · show 0 + 1 * (0 + 1 * n.val) = n'.val; omega

/-- The array index a read of one row, through the slice of columns from 512, takes. -/
theorem rdZ1 (k : ℕ) (w : Fin 1) (n : Fin 512) (n' : Fin 1024)
    (inb1 : ∀ a, (![0, 0, 512] : Fin 3 → ℕ) a + (![1, 1, 512] : Fin 3 → ℕ) a ≤ S1x1x1024.size a)
    (inb2 : ∀ a, (![0, k, 0] : Fin 3 → ℕ) a + (![1, 1, 512] : Fin 3 → ℕ) a ≤ S1x1x512.size a) (h₀)
    (hk : k = w.val) (hn : 512 + n.val = n'.val) :
    ((Rect.unit (s := S1x1x1024) ![0, 0, 512] ![1, 1, 512] inb1).withinL
      (Rect.unit (s := S1x1x512) ![0, k, 0] ![1, 1, 512] inb2).toLoadRect h₀).idx (ix3 0 0 n)
      = (ix3 0 w n' : S1x1x1024.Idx) := by
  funext a
  refine Fin.ext ?_
  rw [Rect.idx_withinL]
  fin_cases a
  · rfl
  · show 0 + 1 * (k + 1 * 0) = w.val; omega
  · show 512 + 1 * (0 + 1 * n.val) = n'.val; omega

theorem wlt7 (g j : Fin 4) : 4 * g.val + j.val < 16 := by omega
theorem clt7 (g j : Fin 4) (x : Fin 16) : 64 * g.val + 16 * j.val + x.val < 256 := by omega

/-- The gradients of the sixteen weights of word `j` of group `g`, one term: the weight's gradient times its code minus zero point. -/
def dsTerm7 (a : S1024x6144.Idx → EReal) (d : S6144x256.Idx → EReal) (q : S1x16x1024.Idx → BitVec 32) (z : S1x1x1024.Idx → BitVec 32)
    (g : Fin 4) (n : Fin 1024) (j : Fin 4) (x : Fin 16) : EReal :=
  (∑ r : Fin 6144, a (ix2 n r) * d (ix2 r ⟨64 * g.val + 16 * j.val + x.val, by omega⟩))
    * diff (q (ix3 0 ⟨4 * g.val + j.val, by omega⟩ n)) (z (ix3 0 0 n)) x.val (shiftOf g.val)

/-- A group's scale gradient: its sixty-four terms summed as the kernel sums them. -/
def dsBlk7 (a : S1024x6144.Idx → EReal) (d : S6144x256.Idx → EReal) (q : S1x16x1024.Idx → BitVec 32) (z : S1x1x1024.Idx → BitVec 32)
    (g : Fin 4) (n : Fin 1024) : EReal :=
  ∑ x : Fin 16, (dsTerm7 a d q z g n 0 x + dsTerm7 a d q z g n 1 x + dsTerm7 a d q z g n 2 x + dsTerm7 a d q z g n 3 x)

/-- A value by cases that equals `R` in both cases equals `R`. -/
theorem dif_cases7 {α : Type} {c : Prop} [Decidable c] {A : c → α} {B : ¬c → α} {R : α} (hA : ∀ h, A h = R) (hB : ∀ h, B h = R) :
    dite c A B = R := by
  by_cases h : c
  · rw [dif_pos h]; exact hA h
  · rw [dif_neg h]; exact hB h

/-- One group's stored sum is the group's scale gradient. -/
theorem dsTile7 (a : S1024x6144.Idx → EReal) (d : S6144x256.Idx → EReal) (q : S1x16x1024.Idx → BitVec 32) (z : S1x1x1024.Idx → BitVec 32)
    (g : Fin 4) (n n' : Fin 1024) (c0 c1 c2 c3 : Fin 16 → Fin 256) (u0 u1 u2 u3 uz : BitVec 32) (sh : BitVec 32)
    (h0 : ∀ x, (c0 x).val = 64 * g.val + x.val) (h1 : ∀ x, (c1 x).val = 64 * g.val + 16 + x.val)
    (h2 : ∀ x, (c2 x).val = 64 * g.val + 32 + x.val) (h3 : ∀ x, (c3 x).val = 64 * g.val + 48 + x.val)
    (k0 : u0 = q (ix3 0 ⟨4 * g.val + (0 : Fin 4).val, wlt7 g 0⟩ n)) (k1 : u1 = q (ix3 0 ⟨4 * g.val + (1 : Fin 4).val, wlt7 g 1⟩ n))
    (k2 : u2 = q (ix3 0 ⟨4 * g.val + (2 : Fin 4).val, wlt7 g 2⟩ n)) (k3 : u3 = q (ix3 0 ⟨4 * g.val + (3 : Fin 4).val, wlt7 g 3⟩ n))
    (kz : uz = z (ix3 0 0 n)) (hs : sh.toNat = 2 * (g.val % 4)) (hn : n.val = n'.val) :
    ∑ x : Fin 16,
      ((∑ r : Fin 6144, a (ix2 (n' : Fin 1024) r) * d (ix2 r (c0 x))) * FloatOps.sitofp (F := Ideal) FTy.f32 (IntOp.subi (IntOp.andi (IntOp.shrui ArithUnit.vector u0 (IntOp.muli 2#32 (BitVec.ofNat 32 x.val))) 3#32) (IntOp.andi (IntOp.shrsi ArithUnit.vector uz sh) 3#32))
        + (∑ r : Fin 6144, a (ix2 (n' : Fin 1024) r) * d (ix2 r (c1 x))) * FloatOps.sitofp (F := Ideal) FTy.f32 (IntOp.subi (IntOp.andi (IntOp.shrui ArithUnit.vector u1 (IntOp.muli 2#32 (BitVec.ofNat 32 x.val))) 3#32) (IntOp.andi (IntOp.shrsi ArithUnit.vector uz sh) 3#32))
        + (∑ r : Fin 6144, a (ix2 (n' : Fin 1024) r) * d (ix2 r (c2 x))) * FloatOps.sitofp (F := Ideal) FTy.f32 (IntOp.subi (IntOp.andi (IntOp.shrui ArithUnit.vector u2 (IntOp.muli 2#32 (BitVec.ofNat 32 x.val))) 3#32) (IntOp.andi (IntOp.shrsi ArithUnit.vector uz sh) 3#32))
        + (∑ r : Fin 6144, a (ix2 (n' : Fin 1024) r) * d (ix2 r (c3 x))) * FloatOps.sitofp (F := Ideal) FTy.f32 (IntOp.subi (IntOp.andi (IntOp.shrui ArithUnit.vector u3 (IntOp.muli 2#32 (BitVec.ofNat 32 x.val))) 3#32) (IntOp.andi (IntOp.shrsi ArithUnit.vector uz sh) 3#32)))
      = dsBlk7 a d q z g n := by
  obtain rfl : n = n' := Fin.ext hn
  have e : sh = shiftOf g.val := BitVec.eq_of_toNat_eq (by rw [hs, shiftOf, BitVec.toNat_ofNat]; omega)
  subst e
  unfold dsBlk7
  refine Finset.sum_congr rfl fun x _ => ?_
  have e0 : c0 x = ⟨64 * g.val + 16 * (0 : Fin 4).val + x.val, clt7 g 0 x⟩ := Fin.ext (by rw [h0]; rfl)
  have e1 : c1 x = ⟨64 * g.val + 16 * (1 : Fin 4).val + x.val, clt7 g 1 x⟩ := Fin.ext (by rw [h1]; rfl)
  have e2 : c2 x = ⟨64 * g.val + 16 * (2 : Fin 4).val + x.val, clt7 g 2 x⟩ := Fin.ext (by rw [h2]; rfl)
  have e3 : c3 x = ⟨64 * g.val + 16 * (3 : Fin 4).val + x.val, clt7 g 3 x⟩ := Fin.ext (by rw [h3]; rfl)
  rw [e0, e1, e2, e3, k0, k1, k2, k3, kz]
  simp only [dsTerm7, diff, code, zeroPoint]

set_option maxHeartbeats 4000000 in
/-- The block the scale gradient call stores. -/
theorem ds7_out (c : Dev nD) (i : grid7.Coords) (arg2 : Memref sig .tc .vmem S1024x6144 .bf16) (harg2 : arg2.IsWhole) (arg3 : Memref sig .tc .vmem S6144x256 .bf16) (harg3 : arg3.IsWhole) (arg4 : Memref sig .tc .vmem S1x16x1024 .i32) (harg4 : arg4.IsWhole) (arg5 : Memref sig .tc .vmem S1x1x1024 .i32) (harg5 : arg5.IsWhole) (arg6 : Memref sig .tc .vmem S1x4x1024 .f32) (harg6 : arg6.IsWhole)
    (x0 : Vec Ideal S1024x6144 .bf16) (x1 : Vec Ideal S6144x256 .bf16) (x2 : Vec Ideal S1x16x1024 .i32) (x3 : Vec Ideal S1x1x1024 .i32) (y : S1x4x1024.Idx) :
    out7_A_4 c i arg2 harg2 arg3 harg3 arg4 harg4 arg5 harg5 arg6 harg6 x0 x1 x2 x3 y = dsBlk7 x0 x1 x2 x3 (y 1) (y 2) := by
  generalize hG : dsBlk7 x0 x1 x2 x3 = G
  frame_out
  canon_tiles y h
  all_goals
    unfold_payloads
    pointwise
    subst hG
    repeat' refine dif_cases7 (fun _ => ?_) fun _ => ?_
  all_goals
    refine dsTile7 _ _ _ _ _ _ _ _ _ _ _ _ _ _ _ _ _ (fun x => ?_) (fun x => ?_) (fun x => ?_) (fun x => ?_) ?_ ?_ ?_ ?_ ?_ ?_ h2
    all_goals first
      | omega
      | (simp only [Fin.isValue, Fin.coe_ofNat_eq_mod]; omega)
      | (simp only [BitVec.toNat_ofNat]; omega)
      | exact (harg4.readAt_unread _ _ _).trans (congrArg _ (rdQ0 _ _ _ _ _ _ _ (by first | omega | (dsimp only; omega) | (simp only [Fin.isValue, Fin.coe_ofNat_eq_mod]; omega)) (by omega)))
      | exact (harg4.readAt_unread _ _ _).trans (congrArg _ (rdQ1 _ _ _ _ _ _ _ (by first | omega | (dsimp only; omega) | (simp only [Fin.isValue, Fin.coe_ofNat_eq_mod]; omega)) (by omega)))
      | exact (harg5.readAt_unread _ _ _).trans (congrArg _ (rdZ0 _ _ _ _ _ _ _ (by first | omega | (dsimp only; omega) | (simp only [Fin.isValue, Fin.coe_ofNat_eq_mod]; omega)) (by omega)))
      | exact (harg5.readAt_unread _ _ _).trans (congrArg _ (rdZ1 _ _ _ _ _ _ _ (by first | omega | (dsimp only; omega) | (simp only [Fin.isValue, Fin.coe_ofNat_eq_mod]; omega)) (by omega)))

/-- One term of the scale gradients over the whole arrays. -/
def dsDownTermAt (a : S4096x6144.Idx → EReal) (d : S6144x11008.Idx → EReal) (q : S43x16x4096.Idx → BitVec 32) (z : S43x1x4096.Idx → BitVec 32)
    (b : Fin 43) (g : Fin 4) (n : Fin 4096) (j : Fin 4) (x : Fin 16) : EReal :=
  (∑ r : Fin 6144, a (ix2 n r) * d (ix2 r ⟨256 * b.val + (64 * g.val + 16 * j.val + x.val), by omega⟩))
    * diff (q (ix3 b ⟨4 * g.val + j.val, by omega⟩ n)) (z (ix3 b 0 n)) x.val (shiftOf g.val)

/-- The scale gradients over the whole arrays. -/
def dsDownG (a : S4096x6144.Idx → EReal) (d : S6144x11008.Idx → EReal) (q : S43x16x4096.Idx → BitVec 32) (z : S43x1x4096.Idx → BitVec 32)
    (i : S43x4x4096.Idx) : EReal :=
  ∑ x : Fin 16, (dsDownTermAt a d q z (i 0) (i 1) (i 2) 0 x + dsDownTermAt a d q z (i 0) (i 1) (i 2) 1 x
    + dsDownTermAt a d q z (i 0) (i 1) (i 2) 2 x + dsDownTermAt a d q z (i 0) (i 1) (i 2) 3 x)

/-- One term of the block a grid point stores is the whole arrays' term. -/
theorem dsTerm7_eq (c : Dev nD) (t : Fin cfg7.N) (y : S1x4x1024.Idx) (j : Fin 4) (x : Fin 16) :
    dsTerm7 (iblk7 V c 0 t) (iblk7 V c 1 t) (iblk7 V c 2 t) (iblk7 V c 3 t) (y 1) (y 2) j x
      = dsDownTermAt (V c (Pipeline.arrRef spec7 0)) (V c (Pipeline.arrRef spec7 1)) (V c (Pipeline.arrRef spec7 2)) (V c (Pipeline.arrRef spec7 3))
          ((((cfg7.win 4).blk t).view.emb y) 0) ((((cfg7.win 4).blk t).view.emb y) 1) ((((cfg7.win 4).blk t).view.emb y) 2) j x := by
  unfold dsTerm7 dsDownTermAt
  blk_simp
  blk_point [iblk7, idx7 t] <;> omega

/-- The down projection's scale gradient call's result. -/
theorem arr7_4 (c : Dev nD) : (dat7 V c).arrAt 4 cfg7.N
    = dsDownG (V c (Pipeline.arrRef spec7 0)) (V c (Pipeline.arrRef spec7 1)) (V c (Pipeline.arrRef spec7 2)) (V c (Pipeline.arrRef spec7 3)) := by
  refine (dat7 V c).arrAt_eq_of_covers 4 _ covers7_4 fun t hf y => ?_
  unfold dsDownG
  simp only [← dsTerm7_eq V c t y]
  blk_simp
  rw [after7_4]
  unfold outsAt7
  rw [ds7_out]
  rfl

end Cert.KernelIdeal.Gen
end
-- ==== Proof.Spec.lean ====
module

public import proofs.«01_k».proof.Proof.HostForms
public import proofs.«01_k».proof.Proof.Norm
public import proofs.«01_k».proof.Proof.Swiglu
public import proofs.«01_k».proof.Proof.Output
public import proofs.«01_k».proof.Proof.DequantGate
public import proofs.«01_k».proof.Proof.DequantUp
public import proofs.«01_k».proof.Proof.DequantDown
public import proofs.«01_k».proof.Proof.DsGateUp
public import proofs.«01_k».proof.Proof.DsDown
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

/-- Where a gate or up group's gradient stands in its four blocks of sixteen. -/
def groupWide (g : Fin 64) (n : Fin 11008) : S4x16x11008.Idx := ix3 ⟨g.val / 16, by omega⟩ ⟨g.val % 16, by omega⟩ n

/-- Where a down group's gradient stands in its forty-three blocks of four. -/
def groupTall (g : Fin 172) (n : Fin 4096) : S43x4x4096.Idx := ix3 ⟨g.val / 4, by omega⟩ ⟨g.val % 4, by omega⟩ n

/-- The optimiser's four numbers for scale array `k`. -/
def hyper (x18 x19 : S3.Idx → EReal) (x20 x21 : S_.Idx → EReal) (k : Fin 3) (i : S4.Idx) : EReal :=
  ![x18 (ix1 k), x19 (ix1 k), x20 ix0, x21 ix0] (i 0)

/-- Rows split again into batches of tokens. -/
def batchesAt {n : ℕ} (y : (⟨2, ![6144, n]⟩ : Shape).Idx → EReal) (a : Fin 3) (r : Fin 2048) (k : Fin n) : EReal :=
  y (ix2 ⟨a.val * 2048 + r.val, by omega⟩ k)

/-- The normalised activations. -/
def specAct (x0 : S3x2048x4096.Idx → EReal) (x2 : S4096.Idx → EReal) : S6144x4096.Idx → EReal :=
  normG (rows x0) (normRow x2)

/-- The gate weights. -/
def specGate (x3 : S11008x256.Idx → BitVec 32) (x4 : S11008x16.Idx → BitVec 8) (x5 : S11008x64.Idx → EReal) : S4096x11008.Idx → EReal :=
  dqGateG (qWide x3) (zWide x4) (sWide x5)

/-- The up weights. -/
def specUp (x8 : S11008x256.Idx → BitVec 32) (x9 : S11008x16.Idx → BitVec 8) (x10 : S11008x64.Idx → EReal) : S4096x11008.Idx → EReal :=
  dqUpG (qWide x8) (zWide x9) (sWide x10)

/-- The down weights. -/
def specDown (x13 : S4096x688.Idx → BitVec 32) (x14 : S4096x43.Idx → BitVec 8) (x15 : S4096x172.Idx → EReal) : S11008x4096.Idx → EReal :=
  dqDownG (qTall x13) (zTall x14) (sTall x15)

/-- The hidden activations. -/
def specHidden (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) : S6144x11008.Idx → EReal :=
  hiddenG (specAct x0 x2) (specGate x3 x4 x5) (specUp x8 x9 x10)

/-- The gate gradients. -/
def specDGate (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : S6144x11008.Idx → EReal :=
  dgateG (specAct x0 x2) (rows x1) (specGate x3 x4 x5) (specUp x8 x9 x10) (specDown x13 x14 x15)

/-- The up gradients. -/
def specDUp (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x13 : S4096x688.Idx → BitVec 32) (x14 : S4096x43.Idx → BitVec 8) (x15 : S4096x172.Idx → EReal) : S6144x11008.Idx → EReal :=
  dupG (specAct x0 x2) (rows x1) (specGate x3 x4 x5) (specDown x13 x14 x15)

/-- The block output, one row per token. -/
def specOut (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : S6144x4096.Idx → EReal :=
  outputG (specHidden x0 x2 x3 x4 x5 x8 x9 x10) (specDown x13 x14 x15) (rows x0)

/-- The gate scale gradients. -/
def specDsGate (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) (i : S64x11008.Idx) : EReal :=
  dsG (transG (specAct x0 x2)) (specDGate x0 x1 x2 x3 x4 x5 x8 x9 x10 x13 x14 x15) (qWide x3) (zWide x4) (groupWide (i 0) (i 1))

/-- The up scale gradients. -/
def specDsUp (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x13 : S4096x688.Idx → BitVec 32) (x14 : S4096x43.Idx → BitVec 8) (x15 : S4096x172.Idx → EReal) (i : S64x11008.Idx) : EReal :=
  dsG (transG (specAct x0 x2)) (specDUp x0 x1 x2 x3 x4 x5 x13 x14 x15) (qWide x8) (zWide x9) (groupWide (i 0) (i 1))

/-- The down scale gradients. -/
def specDsDown (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (i : S172x4096.Idx) : EReal :=
  dsDownG (transG (rows x1)) (specHidden x0 x2 x3 x4 x5 x8 x9 x10) (qTall x13) (zTall x14) (groupTall (i 0) (i 1))

end Cert.KernelIdeal.Gen
end
-- ==== Proof.HostReads.lean ====
module

public import proofs.«01_k».proof.Proof.Spec
public import proofs.«01_k».proof.Proof.Gen.KernelIdeal.Frame.Hosts0
public import Idealize.ShloMosaic.Lib.Pipeline.ValueKit
public import Idealize.ShloMosaic.Lib.Pipeline.Covers
public import Idealize.ShloMosaic.Lib.Pointwise
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

/-- A two-dimensional array transposed. -/
def swap {m n : ℕ} {α : Type} (x : (⟨2, ![n, m]⟩ : Shape).Idx → α) (i : (⟨2, ![m, n]⟩ : Shape).Idx) : α := x (ix2 (i 1) (i 0))

/-- A two-dimensional array of bytes transposed, its bytes as words. -/
def swapWord {m n : ℕ} (x : (⟨2, ![n, m]⟩ : Shape).Idx → BitVec 8) (i : (⟨2, ![m, n]⟩ : Shape).Idx) : BitVec 32 := (x (ix2 (i 1) (i 0))).setWidth 32

variable (U : Valuation τ sig (Elt Ideal))

theorem host0_v0 : StableHlo.after hostOps0 U (Proc.devRef .tc main_v0) = rows (U (Proc.devRef .tc main_arg0)) := by
  after_reads_simp
  refine ext_ix2 _ _ fun a b => ?_
  generalize hG : (rows (U (Proc.devRef .tc main_arg0))) (ix2 a b) = G
  pointwise
  subst hG
  rfl

theorem host0_v1 : StableHlo.after hostOps0 U (Proc.devRef .tc main_v1) = rows (U (Proc.devRef .tc main_arg1)) := by
  after_reads_simp
  refine ext_ix2 _ _ fun a b => ?_
  generalize hG : (rows (U (Proc.devRef .tc main_arg1))) (ix2 a b) = G
  pointwise
  subst hG
  rfl

theorem host0_v2 : StableHlo.after hostOps0 U (Proc.devRef .tc main_v2) = swap (U (Proc.devRef .tc main_arg3)) := by
  after_reads_simp
  refine ext_ix2 _ _ fun a b => ?_
  generalize hG : (swap (U (Proc.devRef .tc main_arg3))) (ix2 a b) = G
  pointwise
  subst hG
  rfl

theorem host0_v3 : StableHlo.after hostOps0 U (Proc.devRef .tc main_v3) = swap (U (Proc.devRef .tc main_arg8)) := by
  after_reads_simp
  refine ext_ix2 _ _ fun a b => ?_
  generalize hG : (swap (U (Proc.devRef .tc main_arg8))) (ix2 a b) = G
  pointwise
  subst hG
  rfl

theorem host0_v4 : StableHlo.after hostOps0 U (Proc.devRef .tc main_v4) = swap (U (Proc.devRef .tc main_arg13)) := by
  after_reads_simp
  refine ext_ix2 _ _ fun a b => ?_
  generalize hG : (swap (U (Proc.devRef .tc main_arg13))) (ix2 a b) = G
  pointwise
  subst hG
  rfl

theorem host0_v6 : StableHlo.after hostOps0 U (Proc.devRef .tc main_v6) = swapWord (U (Proc.devRef .tc main_arg4)) := by
  after_reads_simp
  refine ext_ix2 _ _ fun a b => ?_
  generalize hG : (swapWord (U (Proc.devRef .tc main_arg4))) (ix2 a b) = G
  pointwise
  subst hG
  rfl

theorem host0_v8 : StableHlo.after hostOps0 U (Proc.devRef .tc main_v8) = swapWord (U (Proc.devRef .tc main_arg9)) := by
  after_reads_simp
  refine ext_ix2 _ _ fun a b => ?_
  generalize hG : (swapWord (U (Proc.devRef .tc main_arg9))) (ix2 a b) = G
  pointwise
  subst hG
  rfl

theorem host0_v10 : StableHlo.after hostOps0 U (Proc.devRef .tc main_v10) = swapWord (U (Proc.devRef .tc main_arg14)) := by
  after_reads_simp
  refine ext_ix2 _ _ fun a b => ?_
  generalize hG : (swapWord (U (Proc.devRef .tc main_arg14))) (ix2 a b) = G
  pointwise
  subst hG
  rfl

theorem host0_v12 : StableHlo.after hostOps0 U (Proc.devRef .tc main_v12) = qWide (U (Proc.devRef .tc main_arg3)) := by
  after_reads_simp
  refine ext_ix3 _ _ fun a b n => ?_
  generalize hG : (qWide (U (Proc.devRef .tc main_arg3))) (ix3 a b n) = G
  pointwise
  subst hG
  unfold qWide qWideAt
  exact congrArg _ (congrArg (ix2 n) (Fin.ext (by simp only [ix3]; omega)))

theorem host0_v13 : StableHlo.after hostOps0 U (Proc.devRef .tc main_v13) = zWide (U (Proc.devRef .tc main_arg4)) := by
  after_reads_simp
  refine ext_ix3 _ _ fun a b n => ?_
  generalize hG : (zWide (U (Proc.devRef .tc main_arg4))) (ix3 a b n) = G
  pointwise
  subst hG
  unfold zWide zWideAt
  exact congrArg (fun j => BitVec.setWidth 32 (U (Proc.devRef .tc main_arg4) j)) (congrArg (ix2 n) (Fin.ext (by simp only [ix3]; omega)))

theorem host0_v14 : StableHlo.after hostOps0 U (Proc.devRef .tc main_v14) = sWide (U (Proc.devRef .tc main_arg5)) := by
  after_reads_simp
  refine ext_ix3 _ _ fun a b n => ?_
  generalize hG : (sWide (U (Proc.devRef .tc main_arg5))) (ix3 a b n) = G
  pointwise
  subst hG
  unfold sWide sWideAt
  exact congrArg _ (congrArg (ix2 n) (Fin.ext (by simp only [ix3]; omega)))

theorem host1_v19 : StableHlo.after hostOps1 U (Proc.devRef .tc main_v19) = sWide (U (Proc.devRef .tc main_arg10)) := by
  after_reads_simp
  refine ext_ix3 _ _ fun a b n => ?_
  generalize hG : (sWide (U (Proc.devRef .tc main_arg10))) (ix3 a b n) = G
  pointwise
  subst hG
  unfold sWide sWideAt
  exact congrArg _ (congrArg (ix2 n) (Fin.ext (by simp only [ix3]; omega)))

theorem host2_v24 : StableHlo.after hostOps2 U (Proc.devRef .tc main_v24) = sTall (U (Proc.devRef .tc main_arg15)) := by
  after_reads_simp
  refine ext_ix3 _ _ fun a b n => ?_
  generalize hG : (sTall (U (Proc.devRef .tc main_arg15))) (ix3 a b n) = G
  pointwise
  subst hG
  unfold sTall sTallAt
  exact congrArg _ (congrArg (ix2 n) (Fin.ext (by simp only [ix3]; omega)))

theorem host1_v17 (x : S11008x256.Idx → BitVec 32) (h : U (Proc.devRef .tc main_v3) = swap x) : StableHlo.after hostOps1 U (Proc.devRef .tc main_v17) = qWide x := by
  after_reads_simp
  refine ext_ix3 _ _ fun a b n => ?_
  generalize hG : (qWide x) (ix3 a b n) = G
  rw [h]
  pointwise
  subst hG
  unfold qWide qWideAt swap
  exact congrArg x (congrArg (ix2 n) (Fin.ext (by simp only [ix2, ix3]; omega)))

theorem host1_v18 (x : S11008x16.Idx → BitVec 8) (h : U (Proc.devRef .tc main_v8) = swapWord x) : StableHlo.after hostOps1 U (Proc.devRef .tc main_v18) = zWide x := by
  after_reads_simp
  refine ext_ix3 _ _ fun a b n => ?_
  generalize hG : (zWide x) (ix3 a b n) = G
  rw [h]
  pointwise
  subst hG
  unfold zWide zWideAt swapWord
  exact congrArg (fun j => BitVec.setWidth 32 (x j)) (congrArg (ix2 n) (Fin.ext (by simp only [ix2, ix3]; omega)))

theorem host2_v22 (x : S4096x688.Idx → BitVec 32) (h : U (Proc.devRef .tc main_v4) = swap x) : StableHlo.after hostOps2 U (Proc.devRef .tc main_v22) = qTall x := by
  after_reads_simp
  refine ext_ix3 _ _ fun a b n => ?_
  generalize hG : (qTall x) (ix3 a b n) = G
  rw [h]
  pointwise
  subst hG
  unfold qTall qTallAt swap
  exact congrArg x (congrArg (ix2 n) (Fin.ext (by simp only [ix2, ix3]; omega)))

theorem host2_v23 (x : S4096x43.Idx → BitVec 8) (h : U (Proc.devRef .tc main_v10) = swapWord x) : StableHlo.after hostOps2 U (Proc.devRef .tc main_v23) = zTall x := by
  after_reads_simp
  refine ext_ix3 _ _ fun a b n => ?_
  generalize hG : (zTall x) (ix3 a b n) = G
  rw [h]
  pointwise
  subst hG
  rfl

theorem host6_v30 (x : S11008x256.Idx → BitVec 32) (h : U (Proc.devRef .tc main_v2) = swap x) : StableHlo.after hostOps6 U (Proc.devRef .tc main_v30) = qWide x := by
  after_reads_simp
  refine ext_ix3 _ _ fun a b n => ?_
  generalize hG : (qWide x) (ix3 a b n) = G
  rw [h]
  pointwise
  subst hG
  unfold qWide qWideAt swap
  exact congrArg x (congrArg (ix2 n) (Fin.ext (by simp only [ix2, ix3]; omega)))

theorem host6_v31 (x : S11008x16.Idx → BitVec 8) (h : U (Proc.devRef .tc main_v6) = swapWord x) : StableHlo.after hostOps6 U (Proc.devRef .tc main_v31) = zWide x := by
  after_reads_simp
  refine ext_ix3 _ _ fun a b n => ?_
  generalize hG : (zWide x) (ix3 a b n) = G
  rw [h]
  pointwise
  subst hG
  unfold zWide zWideAt swapWord
  exact congrArg (fun j => BitVec.setWidth 32 (x j)) (congrArg (ix2 n) (Fin.ext (by simp only [ix2, ix3]; omega)))

theorem host6_v32 (x : S11008x256.Idx → BitVec 32) (h : U (Proc.devRef .tc main_v3) = swap x) : StableHlo.after hostOps6 U (Proc.devRef .tc main_v32) = qWide x := by
  after_reads_simp
  refine ext_ix3 _ _ fun a b n => ?_
  generalize hG : (qWide x) (ix3 a b n) = G
  rw [h]
  pointwise
  subst hG
  unfold qWide qWideAt swap
  exact congrArg x (congrArg (ix2 n) (Fin.ext (by simp only [ix2, ix3]; omega)))

theorem host6_v33 (x : S11008x16.Idx → BitVec 8) (h : U (Proc.devRef .tc main_v8) = swapWord x) : StableHlo.after hostOps6 U (Proc.devRef .tc main_v33) = zWide x := by
  after_reads_simp
  refine ext_ix3 _ _ fun a b n => ?_
  generalize hG : (zWide x) (ix3 a b n) = G
  rw [h]
  pointwise
  subst hG
  unfold zWide zWideAt swapWord
  exact congrArg (fun j => BitVec.setWidth 32 (x j)) (congrArg (ix2 n) (Fin.ext (by simp only [ix2, ix3]; omega)))

theorem host7_v37 (x : S4096x688.Idx → BitVec 32) (h : U (Proc.devRef .tc main_v4) = swap x) : StableHlo.after hostOps7 U (Proc.devRef .tc main_v37) = qTall x := by
  after_reads_simp
  refine ext_ix3 _ _ fun a b n => ?_
  generalize hG : (qTall x) (ix3 a b n) = G
  rw [h]
  pointwise
  subst hG
  unfold qTall qTallAt swap
  exact congrArg x (congrArg (ix2 n) (Fin.ext (by simp only [ix2, ix3]; omega)))

theorem host7_v38 (x : S4096x43.Idx → BitVec 8) (h : U (Proc.devRef .tc main_v10) = swapWord x) : StableHlo.after hostOps7 U (Proc.devRef .tc main_v38) = zTall x := by
  after_reads_simp
  refine ext_ix3 _ _ fun a b n => ?_
  generalize hG : (zTall x) (ix3 a b n) = G
  rw [h]
  pointwise
  subst hG
  rfl

theorem host3_v26 : StableHlo.after hostOps3 U (Proc.devRef .tc main_v26) = normRow (U (Proc.devRef .tc main_arg2)) := by
  after_reads_simp
  refine ext_ix2 _ _ fun a b => ?_
  generalize hG : (normRow (U (Proc.devRef .tc main_arg2))) (ix2 a b) = G
  pointwise
  subst hG
  rfl

theorem host7_v35 : StableHlo.after hostOps7 U (Proc.devRef .tc main_v35) = fun i : S64x11008.Idx => (U (Proc.devRef .tc main_v34_0) : S4x16x11008.Idx → EReal) (groupWide (i 0) (i 1)) := by
  after_reads_simp
  refine ext_ix2 _ _ fun a b => ?_
  generalize hG : (fun i : S64x11008.Idx => (U (Proc.devRef .tc main_v34_0) : S4x16x11008.Idx → EReal) (groupWide (i 0) (i 1))) (ix2 a b) = G
  pointwise
  subst hG
  rfl

theorem host7_v36 : StableHlo.after hostOps7 U (Proc.devRef .tc main_v36) = fun i : S64x11008.Idx => (U (Proc.devRef .tc main_v34_1) : S4x16x11008.Idx → EReal) (groupWide (i 0) (i 1)) := by
  after_reads_simp
  refine ext_ix2 _ _ fun a b => ?_
  generalize hG : (fun i : S64x11008.Idx => (U (Proc.devRef .tc main_v34_1) : S4x16x11008.Idx → EReal) (groupWide (i 0) (i 1))) (ix2 a b) = G
  pointwise
  subst hG
  rfl

theorem host8_v40 : StableHlo.after hostOps8 U (Proc.devRef .tc main_v40) = fun i : S172x4096.Idx => (U (Proc.devRef .tc main_v39) : S43x4x4096.Idx → EReal) (groupTall (i 0) (i 1)) := by
  after_reads_simp
  refine ext_ix2 _ _ fun a b => ?_
  generalize hG : (fun i : S172x4096.Idx => (U (Proc.devRef .tc main_v39) : S43x4x4096.Idx → EReal) (groupTall (i 0) (i 1))) (ix2 a b) = G
  pointwise
  subst hG
  rfl

theorem host11_v71 : StableHlo.after hostOps11 U (Proc.devRef .tc main_v71) = fun i : S3x2048x4096.Idx => batchesAt (n := 4096) (U (Proc.devRef .tc main_v29)) (i 0) (i 1) (i 2) := by
  after_reads_simp
  refine ext_ix3 _ _ fun a b n => ?_
  generalize hG : (fun i : S3x2048x4096.Idx => batchesAt (n := 4096) (U (Proc.devRef .tc main_v29)) (i 0) (i 1) (i 2)) (ix3 a b n) = G
  pointwise
  subst hG
  rfl

theorem host11_v72 : StableHlo.after hostOps11 U (Proc.devRef .tc main_v72) = fun i : S3x2048x11008.Idx => batchesAt (n := 11008) (U (Proc.devRef .tc main_v28_0)) (i 0) (i 1) (i 2) := by
  after_reads_simp
  refine ext_ix3 _ _ fun a b n => ?_
  generalize hG : (fun i : S3x2048x11008.Idx => batchesAt (n := 11008) (U (Proc.devRef .tc main_v28_0)) (i 0) (i 1) (i 2)) (ix3 a b n) = G
  pointwise
  subst hG
  rfl

theorem host8_v49 : StableHlo.after hostOps8 U (Proc.devRef .tc main_v49) = hyper (U (Proc.devRef .tc main_arg18)) (U (Proc.devRef .tc main_arg19)) (U (Proc.devRef .tc main_arg20)) (U (Proc.devRef .tc main_arg21)) 0 := by
  after_reads_simp
  funext i
  obtain ⟨a, rfl⟩ : ∃ a : Fin 4, i = ix1 a := ⟨i 0, by funext d; fin_cases d; rfl⟩
  generalize hG : (hyper (U (Proc.devRef .tc main_arg18)) (U (Proc.devRef .tc main_arg19)) (U (Proc.devRef .tc main_arg20)) (U (Proc.devRef .tc main_arg21)) 0) (ix1 a) = G
  pointwise
  after_reads_simp
  pointwise
  subst hG
  fin_cases a <;> rfl

theorem host9_v59 : StableHlo.after hostOps9 U (Proc.devRef .tc main_v59) = hyper (U (Proc.devRef .tc main_arg18)) (U (Proc.devRef .tc main_arg19)) (U (Proc.devRef .tc main_arg20)) (U (Proc.devRef .tc main_arg21)) 1 := by
  after_reads_simp
  funext i
  obtain ⟨a, rfl⟩ : ∃ a : Fin 4, i = ix1 a := ⟨i 0, by funext d; fin_cases d; rfl⟩
  generalize hG : (hyper (U (Proc.devRef .tc main_arg18)) (U (Proc.devRef .tc main_arg19)) (U (Proc.devRef .tc main_arg20)) (U (Proc.devRef .tc main_arg21)) 1) (ix1 a) = G
  pointwise
  after_reads_simp
  pointwise
  subst hG
  fin_cases a <;> rfl

theorem host10_v69 : StableHlo.after hostOps10 U (Proc.devRef .tc main_v69) = hyper (U (Proc.devRef .tc main_arg18)) (U (Proc.devRef .tc main_arg19)) (U (Proc.devRef .tc main_arg20)) (U (Proc.devRef .tc main_arg21)) 2 := by
  after_reads_simp
  funext i
  obtain ⟨a, rfl⟩ : ∃ a : Fin 4, i = ix1 a := ⟨i 0, by funext d; fin_cases d; rfl⟩
  generalize hG : (hyper (U (Proc.devRef .tc main_arg18)) (U (Proc.devRef .tc main_arg19)) (U (Proc.devRef .tc main_arg20)) (U (Proc.devRef .tc main_arg21)) 2) (ix1 a) = G
  pointwise
  after_reads_simp
  pointwise
  subst hG
  fin_cases a <;> rfl

end Cert.KernelIdeal.Gen
end
-- ==== Proof.AdamGate.lean ====
module

public import proofs.«01_k».proof.Proof.Gen.KernelIdeal.Frame.Region8
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx8 : ∀ t : Fin cfg8.N, win8_0.index t = ![0] ∧ win8_1.index t = ![0, (grid8.coords t 0).val] ∧ win8_2.index t = ![(grid8.coords t 0).val, 0] ∧ win8_3.index t = ![(grid8.coords t 0).val, 0] ∧ win8_4.index t = ![(grid8.coords t 0).val, 0] ∧ win8_5.index t = ![(grid8.coords t 0).val, 0] ∧ win8_6.index t = ![(grid8.coords t 0).val, 0] ∧ win8_7.index t = ![(grid8.coords t 0).val, 0] ∧ win8_8.index t = ![(grid8.coords t 0).val, 0] ∧ win8_9.index t = ![(grid8.coords t 0).val, 0] := by
  decide +kernel

theorem covers8_5 : (cfg8.win 5).Covers := by decide +kernel
theorem covers8_6 : (cfg8.win 6).Covers := by decide +kernel
theorem covers8_7 : (cfg8.win 7).Covers := by decide +kernel
theorem covers8_8 : (cfg8.win 8).Covers := by decide +kernel
theorem covers8_9 : (cfg8.win 9).Covers := by decide +kernel

/-- The scale gradient in the layout of the scales. -/
def adamGateDs (d : S64x11008.Idx → EReal) (i : S11008x64.Idx) : EReal := d (ix2 (i 1) (i 0))

/-- The updated first moment. -/
def adamGateM (d : S64x11008.Idx → EReal) (mo : S11008x64.Idx → EReal) (i : S11008x64.Idx) : EReal := momentOf (d (ix2 (i 1) (i 0))) (mo i)

/-- The updated second moment. -/
def adamGateV (d : S64x11008.Idx → EReal) (v : S11008x64.Idx → EReal) (i : S11008x64.Idx) : EReal := varianceOf (d (ix2 (i 1) (i 0))) (v i)

/-- The step taken on the scales. -/
def adamGateStep (hp : S4.Idx → EReal) (d : S64x11008.Idx → EReal) (mo v : S11008x64.Idx → EReal) (i : S11008x64.Idx) : EReal :=
  stepOf (hp (ix1 0)) (hp (ix1 1)) (hp (ix1 2)) (hp (ix1 3)) (d (ix2 (i 1) (i 0))) (mo i) (v i)

/-- The updated scales. -/
def adamGateS (hp : S4.Idx → EReal) (d : S64x11008.Idx → EReal) (s mo v : S11008x64.Idx → EReal) (i : S11008x64.Idx) : EReal :=
  newScaleOf (hp (ix1 0)) (hp (ix1 1)) (hp (ix1 2)) (hp (ix1 3)) (d (ix2 (i 1) (i 0))) (s i) (mo i) (v i)

/-- The gate optimiser call's result: the scale gradient. -/
theorem arr8_5 (c : Dev nD) : (dat8 V c).arrAt 5 cfg8.N = adamGateDs (V c (Pipeline.arrRef spec8 1)) := by
  refine (dat8 V c).arrAt_eq_of_covers 5 _ covers8_5 fun t hf y => ?_
  blk_simp
  rw [after8_5]
  generalize hG : adamGateDs (V c (Pipeline.arrRef spec8 1)) = G
  unfold outsAt8
  frame_out
  unfold_payloads
  pointwise!
  subst hG
  unfold adamGateDs
  blk_point [iblk8, idx8 t]

/-- The gate optimiser call's result: the step. -/
theorem arr8_6 (c : Dev nD) : (dat8 V c).arrAt 6 cfg8.N = adamGateStep (V c (Pipeline.arrRef spec8 0)) (V c (Pipeline.arrRef spec8 1)) (V c (Pipeline.arrRef spec8 3)) (V c (Pipeline.arrRef spec8 4)) := by
  refine (dat8 V c).arrAt_eq_of_covers 6 _ covers8_6 fun t hf y => ?_
  blk_simp
  rw [after8_6]
  generalize hG : adamGateStep (V c (Pipeline.arrRef spec8 0)) (V c (Pipeline.arrRef spec8 1)) (V c (Pipeline.arrRef spec8 3)) (V c (Pipeline.arrRef spec8 4)) = G
  unfold outsAt8
  frame_out
  unfold_payloads
  pointwise!
  subst hG
  unfold adamGateStep
  show stepOf _ _ _ _ _ _ _ = stepOf _ _ _ _ _ _ _
  congr 1 <;> blk_point [iblk8, idx8 t]

/-- The gate optimiser call's result: the updated scales. -/
theorem arr8_7 (c : Dev nD) : (dat8 V c).arrAt 7 cfg8.N = adamGateS (V c (Pipeline.arrRef spec8 0)) (V c (Pipeline.arrRef spec8 1)) (V c (Pipeline.arrRef spec8 2)) (V c (Pipeline.arrRef spec8 3)) (V c (Pipeline.arrRef spec8 4)) := by
  refine (dat8 V c).arrAt_eq_of_covers 7 _ covers8_7 fun t hf y => ?_
  blk_simp
  rw [after8_7]
  generalize hG : adamGateS (V c (Pipeline.arrRef spec8 0)) (V c (Pipeline.arrRef spec8 1)) (V c (Pipeline.arrRef spec8 2)) (V c (Pipeline.arrRef spec8 3)) (V c (Pipeline.arrRef spec8 4)) = G
  unfold outsAt8
  frame_out
  unfold_payloads
  pointwise!
  subst hG
  unfold adamGateS
  show newScaleOf _ _ _ _ _ _ _ _ = newScaleOf _ _ _ _ _ _ _ _
  congr 1 <;> blk_point [iblk8, idx8 t]

/-- The gate optimiser call's result: the updated first moment. -/
theorem arr8_8 (c : Dev nD) : (dat8 V c).arrAt 8 cfg8.N = adamGateM (V c (Pipeline.arrRef spec8 1)) (V c (Pipeline.arrRef spec8 3)) := by
  refine (dat8 V c).arrAt_eq_of_covers 8 _ covers8_8 fun t hf y => ?_
  blk_simp
  rw [after8_8]
  generalize hG : adamGateM (V c (Pipeline.arrRef spec8 1)) (V c (Pipeline.arrRef spec8 3)) = G
  unfold outsAt8
  frame_out
  unfold_payloads
  pointwise!
  subst hG
  unfold adamGateM
  show momentOf _ _ = momentOf _ _
  congr 1 <;> blk_point [iblk8, idx8 t]

/-- The gate optimiser call's result: the updated second moment. -/
theorem arr8_9 (c : Dev nD) : (dat8 V c).arrAt 9 cfg8.N = adamGateV (V c (Pipeline.arrRef spec8 1)) (V c (Pipeline.arrRef spec8 4)) := by
  refine (dat8 V c).arrAt_eq_of_covers 9 _ covers8_9 fun t hf y => ?_
  blk_simp
  rw [after8_9]
  generalize hG : adamGateV (V c (Pipeline.arrRef spec8 1)) (V c (Pipeline.arrRef spec8 4)) = G
  unfold outsAt8
  frame_out
  unfold_payloads
  pointwise!
  subst hG
  unfold adamGateV
  show varianceOf _ _ = varianceOf _ _
  congr 1 <;> blk_point [iblk8, idx8 t]

end Cert.KernelIdeal.Gen
end
-- ==== Proof.AdamUp.lean ====
module

public import proofs.«01_k».proof.Proof.Gen.KernelIdeal.Frame.Region9
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx9 : ∀ t : Fin cfg9.N, win9_0.index t = ![0] ∧ win9_1.index t = ![0, (grid9.coords t 0).val] ∧ win9_2.index t = ![(grid9.coords t 0).val, 0] ∧ win9_3.index t = ![(grid9.coords t 0).val, 0] ∧ win9_4.index t = ![(grid9.coords t 0).val, 0] ∧ win9_5.index t = ![(grid9.coords t 0).val, 0] ∧ win9_6.index t = ![(grid9.coords t 0).val, 0] ∧ win9_7.index t = ![(grid9.coords t 0).val, 0] ∧ win9_8.index t = ![(grid9.coords t 0).val, 0] ∧ win9_9.index t = ![(grid9.coords t 0).val, 0] := by
  decide +kernel

theorem covers9_5 : (cfg9.win 5).Covers := by decide +kernel
theorem covers9_6 : (cfg9.win 6).Covers := by decide +kernel
theorem covers9_7 : (cfg9.win 7).Covers := by decide +kernel
theorem covers9_8 : (cfg9.win 8).Covers := by decide +kernel
theorem covers9_9 : (cfg9.win 9).Covers := by decide +kernel

/-- The scale gradient in the layout of the scales. -/
def adamUpDs (d : S64x11008.Idx → EReal) (i : S11008x64.Idx) : EReal := d (ix2 (i 1) (i 0))

/-- The updated first moment. -/
def adamUpM (d : S64x11008.Idx → EReal) (mo : S11008x64.Idx → EReal) (i : S11008x64.Idx) : EReal := momentOf (d (ix2 (i 1) (i 0))) (mo i)

/-- The updated second moment. -/
def adamUpV (d : S64x11008.Idx → EReal) (v : S11008x64.Idx → EReal) (i : S11008x64.Idx) : EReal := varianceOf (d (ix2 (i 1) (i 0))) (v i)

/-- The step taken on the scales. -/
def adamUpStep (hp : S4.Idx → EReal) (d : S64x11008.Idx → EReal) (mo v : S11008x64.Idx → EReal) (i : S11008x64.Idx) : EReal :=
  stepOf (hp (ix1 0)) (hp (ix1 1)) (hp (ix1 2)) (hp (ix1 3)) (d (ix2 (i 1) (i 0))) (mo i) (v i)

/-- The updated scales. -/
def adamUpS (hp : S4.Idx → EReal) (d : S64x11008.Idx → EReal) (s mo v : S11008x64.Idx → EReal) (i : S11008x64.Idx) : EReal :=
  newScaleOf (hp (ix1 0)) (hp (ix1 1)) (hp (ix1 2)) (hp (ix1 3)) (d (ix2 (i 1) (i 0))) (s i) (mo i) (v i)

/-- The up optimiser call's result: the scale gradient. -/
theorem arr9_5 (c : Dev nD) : (dat9 V c).arrAt 5 cfg9.N = adamUpDs (V c (Pipeline.arrRef spec9 1)) := by
  refine (dat9 V c).arrAt_eq_of_covers 5 _ covers9_5 fun t hf y => ?_
  blk_simp
  rw [after9_5]
  generalize hG : adamUpDs (V c (Pipeline.arrRef spec9 1)) = G
  unfold outsAt9
  frame_out
  unfold_payloads
  pointwise!
  subst hG
  unfold adamUpDs
  blk_point [iblk9, idx9 t]

/-- The up optimiser call's result: the step. -/
theorem arr9_6 (c : Dev nD) : (dat9 V c).arrAt 6 cfg9.N = adamUpStep (V c (Pipeline.arrRef spec9 0)) (V c (Pipeline.arrRef spec9 1)) (V c (Pipeline.arrRef spec9 3)) (V c (Pipeline.arrRef spec9 4)) := by
  refine (dat9 V c).arrAt_eq_of_covers 6 _ covers9_6 fun t hf y => ?_
  blk_simp
  rw [after9_6]
  generalize hG : adamUpStep (V c (Pipeline.arrRef spec9 0)) (V c (Pipeline.arrRef spec9 1)) (V c (Pipeline.arrRef spec9 3)) (V c (Pipeline.arrRef spec9 4)) = G
  unfold outsAt9
  frame_out
  unfold_payloads
  pointwise!
  subst hG
  unfold adamUpStep
  show stepOf _ _ _ _ _ _ _ = stepOf _ _ _ _ _ _ _
  congr 1 <;> blk_point [iblk9, idx9 t]

/-- The up optimiser call's result: the updated scales. -/
theorem arr9_7 (c : Dev nD) : (dat9 V c).arrAt 7 cfg9.N = adamUpS (V c (Pipeline.arrRef spec9 0)) (V c (Pipeline.arrRef spec9 1)) (V c (Pipeline.arrRef spec9 2)) (V c (Pipeline.arrRef spec9 3)) (V c (Pipeline.arrRef spec9 4)) := by
  refine (dat9 V c).arrAt_eq_of_covers 7 _ covers9_7 fun t hf y => ?_
  blk_simp
  rw [after9_7]
  generalize hG : adamUpS (V c (Pipeline.arrRef spec9 0)) (V c (Pipeline.arrRef spec9 1)) (V c (Pipeline.arrRef spec9 2)) (V c (Pipeline.arrRef spec9 3)) (V c (Pipeline.arrRef spec9 4)) = G
  unfold outsAt9
  frame_out
  unfold_payloads
  pointwise!
  subst hG
  unfold adamUpS
  show newScaleOf _ _ _ _ _ _ _ _ = newScaleOf _ _ _ _ _ _ _ _
  congr 1 <;> blk_point [iblk9, idx9 t]

/-- The up optimiser call's result: the updated first moment. -/
theorem arr9_8 (c : Dev nD) : (dat9 V c).arrAt 8 cfg9.N = adamUpM (V c (Pipeline.arrRef spec9 1)) (V c (Pipeline.arrRef spec9 3)) := by
  refine (dat9 V c).arrAt_eq_of_covers 8 _ covers9_8 fun t hf y => ?_
  blk_simp
  rw [after9_8]
  generalize hG : adamUpM (V c (Pipeline.arrRef spec9 1)) (V c (Pipeline.arrRef spec9 3)) = G
  unfold outsAt9
  frame_out
  unfold_payloads
  pointwise!
  subst hG
  unfold adamUpM
  show momentOf _ _ = momentOf _ _
  congr 1 <;> blk_point [iblk9, idx9 t]

/-- The up optimiser call's result: the updated second moment. -/
theorem arr9_9 (c : Dev nD) : (dat9 V c).arrAt 9 cfg9.N = adamUpV (V c (Pipeline.arrRef spec9 1)) (V c (Pipeline.arrRef spec9 4)) := by
  refine (dat9 V c).arrAt_eq_of_covers 9 _ covers9_9 fun t hf y => ?_
  blk_simp
  rw [after9_9]
  generalize hG : adamUpV (V c (Pipeline.arrRef spec9 1)) (V c (Pipeline.arrRef spec9 4)) = G
  unfold outsAt9
  frame_out
  unfold_payloads
  pointwise!
  subst hG
  unfold adamUpV
  show varianceOf _ _ = varianceOf _ _
  congr 1 <;> blk_point [iblk9, idx9 t]

end Cert.KernelIdeal.Gen
end
-- ==== Proof.AdamDown.lean ====
module

public import proofs.«01_k».proof.Proof.Gen.KernelIdeal.Frame.Region10
public import proofs.«01_k».proof.Proof.Codes
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (V : (c : Dev nD) → (b : Ref sig .tc) → Buf (Elt Ideal) ((c : Thread nD τ).loc b))

theorem idx10 : ∀ t : Fin cfg10.N, win10_0.index t = ![0] ∧ win10_1.index t = ![0, (grid10.coords t 0).val] ∧ win10_2.index t = ![(grid10.coords t 0).val, 0] ∧ win10_3.index t = ![(grid10.coords t 0).val, 0] ∧ win10_4.index t = ![(grid10.coords t 0).val, 0] ∧ win10_5.index t = ![(grid10.coords t 0).val, 0] ∧ win10_6.index t = ![(grid10.coords t 0).val, 0] ∧ win10_7.index t = ![(grid10.coords t 0).val, 0] ∧ win10_8.index t = ![(grid10.coords t 0).val, 0] ∧ win10_9.index t = ![(grid10.coords t 0).val, 0] := by
  decide +kernel

theorem covers10_5 : (cfg10.win 5).Covers := by decide +kernel
theorem covers10_6 : (cfg10.win 6).Covers := by decide +kernel
theorem covers10_7 : (cfg10.win 7).Covers := by decide +kernel
theorem covers10_8 : (cfg10.win 8).Covers := by decide +kernel
theorem covers10_9 : (cfg10.win 9).Covers := by decide +kernel

/-- The scale gradient in the layout of the scales. -/
def adamDownDs (d : S172x4096.Idx → EReal) (i : S4096x172.Idx) : EReal := d (ix2 (i 1) (i 0))

/-- The updated first moment. -/
def adamDownM (d : S172x4096.Idx → EReal) (mo : S4096x172.Idx → EReal) (i : S4096x172.Idx) : EReal := momentOf (d (ix2 (i 1) (i 0))) (mo i)

/-- The updated second moment. -/
def adamDownV (d : S172x4096.Idx → EReal) (v : S4096x172.Idx → EReal) (i : S4096x172.Idx) : EReal := varianceOf (d (ix2 (i 1) (i 0))) (v i)

/-- The step taken on the scales. -/
def adamDownStep (hp : S4.Idx → EReal) (d : S172x4096.Idx → EReal) (mo v : S4096x172.Idx → EReal) (i : S4096x172.Idx) : EReal :=
  stepOf (hp (ix1 0)) (hp (ix1 1)) (hp (ix1 2)) (hp (ix1 3)) (d (ix2 (i 1) (i 0))) (mo i) (v i)

/-- The updated scales. -/
def adamDownS (hp : S4.Idx → EReal) (d : S172x4096.Idx → EReal) (s mo v : S4096x172.Idx → EReal) (i : S4096x172.Idx) : EReal :=
  newScaleOf (hp (ix1 0)) (hp (ix1 1)) (hp (ix1 2)) (hp (ix1 3)) (d (ix2 (i 1) (i 0))) (s i) (mo i) (v i)

/-- The down optimiser call's result: the scale gradient. -/
theorem arr10_5 (c : Dev nD) : (dat10 V c).arrAt 5 cfg10.N = adamDownDs (V c (Pipeline.arrRef spec10 1)) := by
  refine (dat10 V c).arrAt_eq_of_covers 5 _ covers10_5 fun t hf y => ?_
  blk_simp
  rw [after10_5]
  generalize hG : adamDownDs (V c (Pipeline.arrRef spec10 1)) = G
  unfold outsAt10
  frame_out
  unfold_payloads
  pointwise!
  subst hG
  unfold adamDownDs
  blk_point [iblk10, idx10 t]

/-- The down optimiser call's result: the step. -/
theorem arr10_6 (c : Dev nD) : (dat10 V c).arrAt 6 cfg10.N = adamDownStep (V c (Pipeline.arrRef spec10 0)) (V c (Pipeline.arrRef spec10 1)) (V c (Pipeline.arrRef spec10 3)) (V c (Pipeline.arrRef spec10 4)) := by
  refine (dat10 V c).arrAt_eq_of_covers 6 _ covers10_6 fun t hf y => ?_
  blk_simp
  rw [after10_6]
  generalize hG : adamDownStep (V c (Pipeline.arrRef spec10 0)) (V c (Pipeline.arrRef spec10 1)) (V c (Pipeline.arrRef spec10 3)) (V c (Pipeline.arrRef spec10 4)) = G
  unfold outsAt10
  frame_out
  unfold_payloads
  pointwise!
  subst hG
  unfold adamDownStep
  show stepOf _ _ _ _ _ _ _ = stepOf _ _ _ _ _ _ _
  congr 1 <;> blk_point [iblk10, idx10 t]

/-- The down optimiser call's result: the updated scales. -/
theorem arr10_7 (c : Dev nD) : (dat10 V c).arrAt 7 cfg10.N = adamDownS (V c (Pipeline.arrRef spec10 0)) (V c (Pipeline.arrRef spec10 1)) (V c (Pipeline.arrRef spec10 2)) (V c (Pipeline.arrRef spec10 3)) (V c (Pipeline.arrRef spec10 4)) := by
  refine (dat10 V c).arrAt_eq_of_covers 7 _ covers10_7 fun t hf y => ?_
  blk_simp
  rw [after10_7]
  generalize hG : adamDownS (V c (Pipeline.arrRef spec10 0)) (V c (Pipeline.arrRef spec10 1)) (V c (Pipeline.arrRef spec10 2)) (V c (Pipeline.arrRef spec10 3)) (V c (Pipeline.arrRef spec10 4)) = G
  unfold outsAt10
  frame_out
  unfold_payloads
  pointwise!
  subst hG
  unfold adamDownS
  show newScaleOf _ _ _ _ _ _ _ _ = newScaleOf _ _ _ _ _ _ _ _
  congr 1 <;> blk_point [iblk10, idx10 t]

/-- The down optimiser call's result: the updated first moment. -/
theorem arr10_8 (c : Dev nD) : (dat10 V c).arrAt 8 cfg10.N = adamDownM (V c (Pipeline.arrRef spec10 1)) (V c (Pipeline.arrRef spec10 3)) := by
  refine (dat10 V c).arrAt_eq_of_covers 8 _ covers10_8 fun t hf y => ?_
  blk_simp
  rw [after10_8]
  generalize hG : adamDownM (V c (Pipeline.arrRef spec10 1)) (V c (Pipeline.arrRef spec10 3)) = G
  unfold outsAt10
  frame_out
  unfold_payloads
  pointwise!
  subst hG
  unfold adamDownM
  show momentOf _ _ = momentOf _ _
  congr 1 <;> blk_point [iblk10, idx10 t]

/-- The down optimiser call's result: the updated second moment. -/
theorem arr10_9 (c : Dev nD) : (dat10 V c).arrAt 9 cfg10.N = adamDownV (V c (Pipeline.arrRef spec10 1)) (V c (Pipeline.arrRef spec10 4)) := by
  refine (dat10 V c).arrAt_eq_of_covers 9 _ covers10_9 fun t hf y => ?_
  blk_simp
  rw [after10_9]
  generalize hG : adamDownV (V c (Pipeline.arrRef spec10 1)) (V c (Pipeline.arrRef spec10 4)) = G
  unfold outsAt10
  frame_out
  unfold_payloads
  pointwise!
  subst hG
  unfold adamDownV
  show varianceOf _ _ = varianceOf _ _
  congr 1 <;> blk_point [iblk10, idx10 t]

end Cert.KernelIdeal.Gen
end
-- ==== Proof.Chain.lean ====
module

public import proofs.«01_k».proof.Proof.HostReads
public import proofs.«01_k».proof.Proof.AdamGate
public import proofs.«01_k».proof.Proof.AdamUp
public import proofs.«01_k».proof.Proof.AdamDown
public import proofs.«01_k».proof.Proof.Gen.KernelIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (ρ : Dev nD → PrngReg)

theorem w0_arg3 (c : Dev nD) : W0 m ρ c (Proc.devRef .tc main_arg3) = (m ((c : Thread nD τ).loc main_arg3)) :=
  rfl

theorem w0_arg4 (c : Dev nD) : W0 m ρ c (Proc.devRef .tc main_arg4) = (m ((c : Thread nD τ).loc main_arg4)) :=
  rfl

theorem w0_arg5 (c : Dev nD) : W0 m ρ c (Proc.devRef .tc main_arg5) = (m ((c : Thread nD τ).loc main_arg5)) :=
  rfl

theorem w0_arg8 (c : Dev nD) : W0 m ρ c (Proc.devRef .tc main_arg8) = (m ((c : Thread nD τ).loc main_arg8)) :=
  rfl

theorem w0_arg9 (c : Dev nD) : W0 m ρ c (Proc.devRef .tc main_arg9) = (m ((c : Thread nD τ).loc main_arg9)) :=
  rfl

theorem w0_arg13 (c : Dev nD) : W0 m ρ c (Proc.devRef .tc main_arg13) = (m ((c : Thread nD τ).loc main_arg13)) :=
  rfl

theorem w0_arg14 (c : Dev nD) : W0 m ρ c (Proc.devRef .tc main_arg14) = (m ((c : Thread nD τ).loc main_arg14)) :=
  rfl

theorem w0_arg0 (c : Dev nD) : W0 m ρ c (Proc.devRef .tc main_arg0) = (m ((c : Thread nD τ).loc main_arg0)) :=
  rfl

theorem w0_arg1 (c : Dev nD) : W0 m ρ c (Proc.devRef .tc main_arg1) = (m ((c : Thread nD τ).loc main_arg1)) :=
  rfl

theorem w1_v0 (c : Dev nD) : W1 m ρ c (Proc.devRef .tc main_v0) = rows (m ((c : Thread nD τ).loc main_arg0)) :=
  (host0_v0 (W0 m ρ c)).trans (congrArg rows (w0_arg0 m ρ c))

theorem w1_v1 (c : Dev nD) : W1 m ρ c (Proc.devRef .tc main_v1) = rows (m ((c : Thread nD τ).loc main_arg1)) :=
  (host0_v1 (W0 m ρ c)).trans (congrArg rows (w0_arg1 m ρ c))

theorem w1_v2 (c : Dev nD) : W1 m ρ c (Proc.devRef .tc main_v2) = swap (m ((c : Thread nD τ).loc main_arg3)) :=
  (host0_v2 (W0 m ρ c)).trans (congrArg swap (w0_arg3 m ρ c))

theorem w1_v3 (c : Dev nD) : W1 m ρ c (Proc.devRef .tc main_v3) = swap (m ((c : Thread nD τ).loc main_arg8)) :=
  (host0_v3 (W0 m ρ c)).trans (congrArg swap (w0_arg8 m ρ c))

theorem w1_v4 (c : Dev nD) : W1 m ρ c (Proc.devRef .tc main_v4) = swap (m ((c : Thread nD τ).loc main_arg13)) :=
  (host0_v4 (W0 m ρ c)).trans (congrArg swap (w0_arg13 m ρ c))

theorem w1_v6 (c : Dev nD) : W1 m ρ c (Proc.devRef .tc main_v6) = swapWord (m ((c : Thread nD τ).loc main_arg4)) :=
  (host0_v6 (W0 m ρ c)).trans (congrArg swapWord (w0_arg4 m ρ c))

theorem w1_v8 (c : Dev nD) : W1 m ρ c (Proc.devRef .tc main_v8) = swapWord (m ((c : Thread nD τ).loc main_arg9)) :=
  (host0_v8 (W0 m ρ c)).trans (congrArg swapWord (w0_arg9 m ρ c))

theorem w1_v10 (c : Dev nD) : W1 m ρ c (Proc.devRef .tc main_v10) = swapWord (m ((c : Thread nD τ).loc main_arg14)) :=
  (host0_v10 (W0 m ρ c)).trans (congrArg swapWord (w0_arg14 m ρ c))

theorem w1_v12 (c : Dev nD) : W1 m ρ c (Proc.devRef .tc main_v12) = qWide (m ((c : Thread nD τ).loc main_arg3)) :=
  (host0_v12 (W0 m ρ c)).trans (congrArg qWide (w0_arg3 m ρ c))

theorem w1_v13 (c : Dev nD) : W1 m ρ c (Proc.devRef .tc main_v13) = zWide (m ((c : Thread nD τ).loc main_arg4)) :=
  (host0_v13 (W0 m ρ c)).trans (congrArg zWide (w0_arg4 m ρ c))

theorem w1_v14 (c : Dev nD) : W1 m ρ c (Proc.devRef .tc main_v14) = sWide (m ((c : Thread nD τ).loc main_arg5)) :=
  (host0_v14 (W0 m ρ c)).trans (congrArg sWide (w0_arg5 m ρ c))

theorem w2_v15 (c : Dev nD) : W2 m ρ c (Proc.devRef .tc main_v15) = (specGate (m ((c : Thread nD τ).loc main_arg3)) (m ((c : Thread nD τ).loc main_arg4)) (m ((c : Thread nD τ).loc main_arg5))) :=
  (W2_arr m ρ c 3).trans ((arr0 (V1 m ρ) c).trans (congr (congr (congrArg dqGateG (w1_v12 m ρ c)) (w1_v13 m ρ c)) (w1_v14 m ρ c)))

theorem w2_v3 (c : Dev nD) : W2 m ρ c (Proc.devRef .tc main_v3) = swap (m ((c : Thread nD τ).loc main_arg8)) :=
  (W2_of m ρ c main_v3 (by decide +kernel)).trans (w1_v3 m ρ c)

theorem w3_v17 (c : Dev nD) : W3 m ρ c (Proc.devRef .tc main_v17) = qWide (m ((c : Thread nD τ).loc main_arg8)) :=
  host1_v17 (W2 m ρ c) _ (w2_v3 m ρ c)

theorem w2_v8 (c : Dev nD) : W2 m ρ c (Proc.devRef .tc main_v8) = swapWord (m ((c : Thread nD τ).loc main_arg9)) :=
  (W2_of m ρ c main_v8 (by decide +kernel)).trans (w1_v8 m ρ c)

theorem w3_v18 (c : Dev nD) : W3 m ρ c (Proc.devRef .tc main_v18) = zWide (m ((c : Thread nD τ).loc main_arg9)) :=
  host1_v18 (W2 m ρ c) _ (w2_v8 m ρ c)

theorem w2_arg10 (c : Dev nD) : W2 m ρ c (Proc.devRef .tc main_arg10) = (m ((c : Thread nD τ).loc main_arg10)) :=
  W2_args m ρ c main_arg10 (by decide)

theorem w3_v19 (c : Dev nD) : W3 m ρ c (Proc.devRef .tc main_v19) = sWide (m ((c : Thread nD τ).loc main_arg10)) :=
  (host1_v19 (W2 m ρ c)).trans (congrArg sWide (w2_arg10 m ρ c))

theorem w4_v20 (c : Dev nD) : W4 m ρ c (Proc.devRef .tc main_v20) = (specUp (m ((c : Thread nD τ).loc main_arg8)) (m ((c : Thread nD τ).loc main_arg9)) (m ((c : Thread nD τ).loc main_arg10))) :=
  (W4_arr m ρ c 3).trans ((arr1 (V3 m ρ) c).trans (congr (congr (congrArg dqUpG (w3_v17 m ρ c)) (w3_v18 m ρ c)) (w3_v19 m ρ c)))

theorem w4_v4 (c : Dev nD) : W4 m ρ c (Proc.devRef .tc main_v4) = swap (m ((c : Thread nD τ).loc main_arg13)) :=
  (W4_of m ρ c main_v4 (by decide +kernel)).trans ((W3_of m ρ c main_v4 (by decide +kernel)).trans ((W2_of m ρ c main_v4 (by decide +kernel)).trans (w1_v4 m ρ c)))

theorem w5_v22 (c : Dev nD) : W5 m ρ c (Proc.devRef .tc main_v22) = qTall (m ((c : Thread nD τ).loc main_arg13)) :=
  host2_v22 (W4 m ρ c) _ (w4_v4 m ρ c)

theorem w4_v10 (c : Dev nD) : W4 m ρ c (Proc.devRef .tc main_v10) = swapWord (m ((c : Thread nD τ).loc main_arg14)) :=
  (W4_of m ρ c main_v10 (by decide +kernel)).trans ((W3_of m ρ c main_v10 (by decide +kernel)).trans ((W2_of m ρ c main_v10 (by decide +kernel)).trans (w1_v10 m ρ c)))

theorem w5_v23 (c : Dev nD) : W5 m ρ c (Proc.devRef .tc main_v23) = zTall (m ((c : Thread nD τ).loc main_arg14)) :=
  host2_v23 (W4 m ρ c) _ (w4_v10 m ρ c)

theorem w4_arg15 (c : Dev nD) : W4 m ρ c (Proc.devRef .tc main_arg15) = (m ((c : Thread nD τ).loc main_arg15)) :=
  W4_args m ρ c main_arg15 (by decide)

theorem w5_v24 (c : Dev nD) : W5 m ρ c (Proc.devRef .tc main_v24) = sTall (m ((c : Thread nD τ).loc main_arg15)) :=
  (host2_v24 (W4 m ρ c)).trans (congrArg sTall (w4_arg15 m ρ c))

theorem w6_v25 (c : Dev nD) : W6 m ρ c (Proc.devRef .tc main_v25) = (specDown (m ((c : Thread nD τ).loc main_arg13)) (m ((c : Thread nD τ).loc main_arg14)) (m ((c : Thread nD τ).loc main_arg15))) :=
  (W6_arr m ρ c 3).trans ((arr2 (V5 m ρ) c).trans (congr (congr (congrArg dqDownG (w5_v22 m ρ c)) (w5_v23 m ρ c)) (w5_v24 m ρ c)))

theorem w6_arg2 (c : Dev nD) : W6 m ρ c (Proc.devRef .tc main_arg2) = (m ((c : Thread nD τ).loc main_arg2)) :=
  W6_args m ρ c main_arg2 (by decide)

theorem w7_v26 (c : Dev nD) : W7 m ρ c (Proc.devRef .tc main_v26) = normRow (m ((c : Thread nD τ).loc main_arg2)) :=
  (host3_v26 (W6 m ρ c)).trans (congrArg normRow (w6_arg2 m ρ c))

theorem w7_v0 (c : Dev nD) : W7 m ρ c (Proc.devRef .tc main_v0) = rows (m ((c : Thread nD τ).loc main_arg0)) :=
  (W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (w1_v0 m ρ c))))))

theorem w8_v27_0 (c : Dev nD) : W8 m ρ c (Proc.devRef .tc main_v27_0) = (specAct (m ((c : Thread nD τ).loc main_arg0)) (m ((c : Thread nD τ).loc main_arg2))) :=
  (W8_arr m ρ c 3).trans ((arr3_3 (V7 m ρ) c).trans (congr (congrArg normG (w7_v0 m ρ c)) (w7_v26 m ρ c)))

theorem w8_v27_1 (c : Dev nD) : W8 m ρ c (Proc.devRef .tc main_v27_1) = transG (specAct (m ((c : Thread nD τ).loc main_arg0)) (m ((c : Thread nD τ).loc main_arg2))) :=
  (W8_arr m ρ c 4).trans ((arr3_4 (V7 m ρ) c).trans (congrArg transG (congr (congrArg normG (w7_v0 m ρ c)) (w7_v26 m ρ c))))

theorem w7_v1 (c : Dev nD) : W7 m ρ c (Proc.devRef .tc main_v1) = rows (m ((c : Thread nD τ).loc main_arg1)) :=
  (W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans ((W2_of m ρ c main_v1 (by decide +kernel)).trans (w1_v1 m ρ c))))))

theorem w8_v27_2 (c : Dev nD) : W8 m ρ c (Proc.devRef .tc main_v27_2) = transG (rows (m ((c : Thread nD τ).loc main_arg1))) :=
  (W8_arr m ρ c 5).trans ((arr3_5 (V7 m ρ) c).trans (congrArg transG (w7_v1 m ρ c)))

theorem w8_v15 (c : Dev nD) : W8 m ρ c (Proc.devRef .tc main_v15) = (specGate (m ((c : Thread nD τ).loc main_arg3)) (m ((c : Thread nD τ).loc main_arg4)) (m ((c : Thread nD τ).loc main_arg5))) :=
  (W8_of m ρ c main_v15 (by decide +kernel)).trans ((W7_of m ρ c main_v15 (by decide +kernel)).trans ((W6_of m ρ c main_v15 (by decide +kernel)).trans ((W5_of m ρ c main_v15 (by decide +kernel)).trans ((W4_of m ρ c main_v15 (by decide +kernel)).trans ((W3_of m ρ c main_v15 (by decide +kernel)).trans (w2_v15 m ρ c))))))

theorem w8_v20 (c : Dev nD) : W8 m ρ c (Proc.devRef .tc main_v20) = (specUp (m ((c : Thread nD τ).loc main_arg8)) (m ((c : Thread nD τ).loc main_arg9)) (m ((c : Thread nD τ).loc main_arg10))) :=
  (W8_of m ρ c main_v20 (by decide +kernel)).trans ((W7_of m ρ c main_v20 (by decide +kernel)).trans ((W6_of m ρ c main_v20 (by decide +kernel)).trans ((W5_of m ρ c main_v20 (by decide +kernel)).trans (w4_v20 m ρ c))))

theorem w9_v28_0 (c : Dev nD) : W9 m ρ c (Proc.devRef .tc main_v28_0) = (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) :=
  (W9_arr m ρ c 5).trans ((arr4_5 (V8 m ρ) c).trans (congr (congr (congrArg hiddenG (w8_v27_0 m ρ c)) (w8_v15 m ρ c)) (w8_v20 m ρ c)))

theorem w8_v1 (c : Dev nD) : W8 m ρ c (Proc.devRef .tc main_v1) = rows (m ((c : Thread nD τ).loc main_arg1)) :=
  (W8_of m ρ c main_v1 (by decide +kernel)).trans (w7_v1 m ρ c)

theorem w8_v25 (c : Dev nD) : W8 m ρ c (Proc.devRef .tc main_v25) = (specDown (m ((c : Thread nD τ).loc main_arg13)) (m ((c : Thread nD τ).loc main_arg14)) (m ((c : Thread nD τ).loc main_arg15))) :=
  (W8_of m ρ c main_v25 (by decide +kernel)).trans ((W7_of m ρ c main_v25 (by decide +kernel)).trans (w6_v25 m ρ c))

theorem w9_v28_1 (c : Dev nD) : W9 m ρ c (Proc.devRef .tc main_v28_1) = (specDGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W9_arr m ρ c 6).trans ((arr4_6 (V8 m ρ) c).trans (congr (congr (congr (congr (congrArg dgateG (w8_v27_0 m ρ c)) (w8_v1 m ρ c)) (w8_v15 m ρ c)) (w8_v20 m ρ c)) (w8_v25 m ρ c)))

theorem w9_v28_2 (c : Dev nD) : W9 m ρ c (Proc.devRef .tc main_v28_2) = (specDUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15))) :=
  (W9_arr m ρ c 7).trans ((arr4_7 (V8 m ρ) c).trans (congr (congr (congr (congrArg dupG (w8_v27_0 m ρ c)) (w8_v1 m ρ c)) (w8_v15 m ρ c)) (w8_v25 m ρ c)))

theorem w9_v25 (c : Dev nD) : W9 m ρ c (Proc.devRef .tc main_v25) = (specDown (m ((c : Thread nD τ).loc main_arg13)) (m ((c : Thread nD τ).loc main_arg14)) (m ((c : Thread nD τ).loc main_arg15))) :=
  (W9_of m ρ c main_v25 (by decide +kernel)).trans (w8_v25 m ρ c)

theorem w9_v0 (c : Dev nD) : W9 m ρ c (Proc.devRef .tc main_v0) = rows (m ((c : Thread nD τ).loc main_arg0)) :=
  (W9_of m ρ c main_v0 (by decide +kernel)).trans ((W8_of m ρ c main_v0 (by decide +kernel)).trans (w7_v0 m ρ c))

theorem w10_v29 (c : Dev nD) : W10 m ρ c (Proc.devRef .tc main_v29) = (specOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W10_arr m ρ c 3).trans ((arr5 (V9 m ρ) c).trans (congr (congr (congrArg outputG (w9_v28_0 m ρ c)) (w9_v25 m ρ c)) (w9_v0 m ρ c)))

theorem w10_v2 (c : Dev nD) : W10 m ρ c (Proc.devRef .tc main_v2) = swap (m ((c : Thread nD τ).loc main_arg3)) :=
  (W10_of m ρ c main_v2 (by decide +kernel)).trans ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans ((W2_of m ρ c main_v2 (by decide +kernel)).trans (w1_v2 m ρ c)))))))))

theorem w11_v30 (c : Dev nD) : W11 m ρ c (Proc.devRef .tc main_v30) = qWide (m ((c : Thread nD τ).loc main_arg3)) :=
  host6_v30 (W10 m ρ c) _ (w10_v2 m ρ c)

theorem w10_v6 (c : Dev nD) : W10 m ρ c (Proc.devRef .tc main_v6) = swapWord (m ((c : Thread nD τ).loc main_arg4)) :=
  (W10_of m ρ c main_v6 (by decide +kernel)).trans ((W9_of m ρ c main_v6 (by decide +kernel)).trans ((W8_of m ρ c main_v6 (by decide +kernel)).trans ((W7_of m ρ c main_v6 (by decide +kernel)).trans ((W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (w1_v6 m ρ c)))))))))

theorem w11_v31 (c : Dev nD) : W11 m ρ c (Proc.devRef .tc main_v31) = zWide (m ((c : Thread nD τ).loc main_arg4)) :=
  host6_v31 (W10 m ρ c) _ (w10_v6 m ρ c)

theorem w10_v3 (c : Dev nD) : W10 m ρ c (Proc.devRef .tc main_v3) = swap (m ((c : Thread nD τ).loc main_arg8)) :=
  (W10_of m ρ c main_v3 (by decide +kernel)).trans ((W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans ((W4_of m ρ c main_v3 (by decide +kernel)).trans ((W3_of m ρ c main_v3 (by decide +kernel)).trans (w2_v3 m ρ c))))))))

theorem w11_v32 (c : Dev nD) : W11 m ρ c (Proc.devRef .tc main_v32) = qWide (m ((c : Thread nD τ).loc main_arg8)) :=
  host6_v32 (W10 m ρ c) _ (w10_v3 m ρ c)

theorem w10_v8 (c : Dev nD) : W10 m ρ c (Proc.devRef .tc main_v8) = swapWord (m ((c : Thread nD τ).loc main_arg9)) :=
  (W10_of m ρ c main_v8 (by decide +kernel)).trans ((W9_of m ρ c main_v8 (by decide +kernel)).trans ((W8_of m ρ c main_v8 (by decide +kernel)).trans ((W7_of m ρ c main_v8 (by decide +kernel)).trans ((W6_of m ρ c main_v8 (by decide +kernel)).trans ((W5_of m ρ c main_v8 (by decide +kernel)).trans ((W4_of m ρ c main_v8 (by decide +kernel)).trans ((W3_of m ρ c main_v8 (by decide +kernel)).trans (w2_v8 m ρ c))))))))

theorem w11_v33 (c : Dev nD) : W11 m ρ c (Proc.devRef .tc main_v33) = zWide (m ((c : Thread nD τ).loc main_arg9)) :=
  host6_v33 (W10 m ρ c) _ (w10_v8 m ρ c)

theorem w11_v27_1 (c : Dev nD) : W11 m ρ c (Proc.devRef .tc main_v27_1) = transG (specAct (m ((c : Thread nD τ).loc main_arg0)) (m ((c : Thread nD τ).loc main_arg2))) :=
  (W11_of m ρ c main_v27_1 (by decide +kernel)).trans ((W10_of m ρ c main_v27_1 (by decide +kernel)).trans ((W9_of m ρ c main_v27_1 (by decide +kernel)).trans (w8_v27_1 m ρ c)))

theorem w11_v28_1 (c : Dev nD) : W11 m ρ c (Proc.devRef .tc main_v28_1) = (specDGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W11_of m ρ c main_v28_1 (by decide +kernel)).trans ((W10_of m ρ c main_v28_1 (by decide +kernel)).trans (w9_v28_1 m ρ c))

theorem w12_v34_0 (c : Dev nD) : W12 m ρ c (Proc.devRef .tc main_v34_0) = (dsG (transG (specAct (m ((c : Thread nD τ).loc main_arg0)) (m ((c : Thread nD τ).loc main_arg2)))) (specDGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (qWide (m ((c : Thread nD τ).loc main_arg3))) (zWide (m ((c : Thread nD τ).loc main_arg4)))) :=
  (W12_arr m ρ c 7).trans ((arr6_7 (V11 m ρ) c).trans (congr (congr (congr (congrArg dsG (w11_v27_1 m ρ c)) (w11_v28_1 m ρ c)) (w11_v30 m ρ c)) (w11_v31 m ρ c)))

theorem w11_v28_2 (c : Dev nD) : W11 m ρ c (Proc.devRef .tc main_v28_2) = (specDUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15))) :=
  (W11_of m ρ c main_v28_2 (by decide +kernel)).trans ((W10_of m ρ c main_v28_2 (by decide +kernel)).trans (w9_v28_2 m ρ c))

theorem w12_v34_1 (c : Dev nD) : W12 m ρ c (Proc.devRef .tc main_v34_1) = (dsG (transG (specAct (m ((c : Thread nD τ).loc main_arg0)) (m ((c : Thread nD τ).loc main_arg2)))) (specDUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15))) (qWide (m ((c : Thread nD τ).loc main_arg8))) (zWide (m ((c : Thread nD τ).loc main_arg9)))) :=
  (W12_arr m ρ c 8).trans ((arr6_8 (V11 m ρ) c).trans (congr (congr (congr (congrArg dsG (w11_v27_1 m ρ c)) (w11_v28_2 m ρ c)) (w11_v32 m ρ c)) (w11_v33 m ρ c)))

theorem w13_v35 (c : Dev nD) : W13 m ρ c (Proc.devRef .tc main_v35) = (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (host7_v35 (W12 m ρ c)).trans (congrArg (fun (f : S4x16x11008.Idx → EReal) (i : S64x11008.Idx) => f (groupWide (i 0) (i 1))) (w12_v34_0 m ρ c))

theorem w13_v36 (c : Dev nD) : W13 m ρ c (Proc.devRef .tc main_v36) = (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) :=
  (host7_v36 (W12 m ρ c)).trans (congrArg (fun (f : S4x16x11008.Idx → EReal) (i : S64x11008.Idx) => f (groupWide (i 0) (i 1))) (w12_v34_1 m ρ c))

theorem w12_v4 (c : Dev nD) : W12 m ρ c (Proc.devRef .tc main_v4) = swap (m ((c : Thread nD τ).loc main_arg13)) :=
  (W12_of m ρ c main_v4 (by decide +kernel)).trans ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans ((W6_of m ρ c main_v4 (by decide +kernel)).trans ((W5_of m ρ c main_v4 (by decide +kernel)).trans (w4_v4 m ρ c))))))))

theorem w13_v37 (c : Dev nD) : W13 m ρ c (Proc.devRef .tc main_v37) = qTall (m ((c : Thread nD τ).loc main_arg13)) :=
  host7_v37 (W12 m ρ c) _ (w12_v4 m ρ c)

theorem w12_v10 (c : Dev nD) : W12 m ρ c (Proc.devRef .tc main_v10) = swapWord (m ((c : Thread nD τ).loc main_arg14)) :=
  (W12_of m ρ c main_v10 (by decide +kernel)).trans ((W11_of m ρ c main_v10 (by decide +kernel)).trans ((W10_of m ρ c main_v10 (by decide +kernel)).trans ((W9_of m ρ c main_v10 (by decide +kernel)).trans ((W8_of m ρ c main_v10 (by decide +kernel)).trans ((W7_of m ρ c main_v10 (by decide +kernel)).trans ((W6_of m ρ c main_v10 (by decide +kernel)).trans ((W5_of m ρ c main_v10 (by decide +kernel)).trans (w4_v10 m ρ c))))))))

theorem w13_v38 (c : Dev nD) : W13 m ρ c (Proc.devRef .tc main_v38) = zTall (m ((c : Thread nD τ).loc main_arg14)) :=
  host7_v38 (W12 m ρ c) _ (w12_v10 m ρ c)

theorem w13_v27_2 (c : Dev nD) : W13 m ρ c (Proc.devRef .tc main_v27_2) = transG (rows (m ((c : Thread nD τ).loc main_arg1))) :=
  (W13_of m ρ c main_v27_2 (by decide +kernel)).trans ((W12_of m ρ c main_v27_2 (by decide +kernel)).trans ((W11_of m ρ c main_v27_2 (by decide +kernel)).trans ((W10_of m ρ c main_v27_2 (by decide +kernel)).trans ((W9_of m ρ c main_v27_2 (by decide +kernel)).trans (w8_v27_2 m ρ c)))))

theorem w13_v28_0 (c : Dev nD) : W13 m ρ c (Proc.devRef .tc main_v28_0) = (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) :=
  (W13_of m ρ c main_v28_0 (by decide +kernel)).trans ((W12_of m ρ c main_v28_0 (by decide +kernel)).trans ((W11_of m ρ c main_v28_0 (by decide +kernel)).trans ((W10_of m ρ c main_v28_0 (by decide +kernel)).trans (w9_v28_0 m ρ c))))

theorem w14_v39 (c : Dev nD) : W14 m ρ c (Proc.devRef .tc main_v39) = (dsDownG (transG (rows (m ((c : Thread nD τ).loc main_arg1)))) (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) (qTall (m ((c : Thread nD τ).loc main_arg13))) (zTall (m ((c : Thread nD τ).loc main_arg14)))) :=
  (W14_arr m ρ c 4).trans ((arr7_4 (V13 m ρ) c).trans (congr (congr (congr (congrArg dsDownG (w13_v27_2 m ρ c)) (w13_v28_0 m ρ c)) (w13_v37 m ρ c)) (w13_v38 m ρ c)))

theorem w15_v40 (c : Dev nD) : W15 m ρ c (Proc.devRef .tc main_v40) = (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) :=
  (host8_v40 (W14 m ρ c)).trans (congrArg (fun (f : S43x4x4096.Idx → EReal) (i : S172x4096.Idx) => f (groupTall (i 0) (i 1))) (w14_v39 m ρ c))

theorem w14_arg18 (c : Dev nD) : W14 m ρ c (Proc.devRef .tc main_arg18) = (m ((c : Thread nD τ).loc main_arg18)) :=
  W14_args m ρ c main_arg18 (by decide)

theorem w14_arg19 (c : Dev nD) : W14 m ρ c (Proc.devRef .tc main_arg19) = (m ((c : Thread nD τ).loc main_arg19)) :=
  W14_args m ρ c main_arg19 (by decide)

theorem w14_arg20 (c : Dev nD) : W14 m ρ c (Proc.devRef .tc main_arg20) = (m ((c : Thread nD τ).loc main_arg20)) :=
  W14_args m ρ c main_arg20 (by decide)

theorem w14_arg21 (c : Dev nD) : W14 m ρ c (Proc.devRef .tc main_arg21) = (m ((c : Thread nD τ).loc main_arg21)) :=
  W14_args m ρ c main_arg21 (by decide)

theorem w15_v49 (c : Dev nD) : W15 m ρ c (Proc.devRef .tc main_v49) = hyper (m ((c : Thread nD τ).loc main_arg18)) (m ((c : Thread nD τ).loc main_arg19)) (m ((c : Thread nD τ).loc main_arg20)) (m ((c : Thread nD τ).loc main_arg21)) 0 :=
  (host8_v49 (W14 m ρ c)).trans (congrFun (congr (congr (congr (congrArg hyper (w14_arg18 m ρ c)) (w14_arg19 m ρ c)) (w14_arg20 m ρ c)) (w14_arg21 m ρ c)) 0)

theorem w15_v35 (c : Dev nD) : W15 m ρ c (Proc.devRef .tc main_v35) = (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W15_of m ρ c main_v35 (by decide +kernel)).trans ((W14_of m ρ c main_v35 (by decide +kernel)).trans (w13_v35 m ρ c))

theorem w16_v50_0 (c : Dev nD) : W16 m ρ c (Proc.devRef .tc main_v50_0) = adamGateDs (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W16_arr m ρ c 5).trans ((arr8_5 (V15 m ρ) c).trans (congrArg adamGateDs (w15_v35 m ρ c)))

theorem w15_arg6 (c : Dev nD) : W15 m ρ c (Proc.devRef .tc main_arg6) = (m ((c : Thread nD τ).loc main_arg6)) :=
  W15_args m ρ c main_arg6 (by decide)

theorem w15_arg7 (c : Dev nD) : W15 m ρ c (Proc.devRef .tc main_arg7) = (m ((c : Thread nD τ).loc main_arg7)) :=
  W15_args m ρ c main_arg7 (by decide)

theorem w16_v50_1 (c : Dev nD) : W16 m ρ c (Proc.devRef .tc main_v50_1) = adamGateStep (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)) (m ((c : Thread nD τ).loc main_arg7)) :=
  (W16_arr m ρ c 6).trans ((arr8_6 (V15 m ρ) c).trans (congr (congr (congr (congrArg adamGateStep (w15_v49 m ρ c)) (w15_v35 m ρ c)) (w15_arg6 m ρ c)) (w15_arg7 m ρ c)))

theorem w15_arg5 (c : Dev nD) : W15 m ρ c (Proc.devRef .tc main_arg5) = (m ((c : Thread nD τ).loc main_arg5)) :=
  W15_args m ρ c main_arg5 (by decide)

theorem w16_v50_2 (c : Dev nD) : W16 m ρ c (Proc.devRef .tc main_v50_2) = adamGateS (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg5)) (m ((c : Thread nD τ).loc main_arg6)) (m ((c : Thread nD τ).loc main_arg7)) :=
  (W16_arr m ρ c 7).trans ((arr8_7 (V15 m ρ) c).trans (congr (congr (congr (congr (congrArg adamGateS (w15_v49 m ρ c)) (w15_v35 m ρ c)) (w15_arg5 m ρ c)) (w15_arg6 m ρ c)) (w15_arg7 m ρ c)))

theorem w16_v50_3 (c : Dev nD) : W16 m ρ c (Proc.devRef .tc main_v50_3) = adamGateM (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)) :=
  (W16_arr m ρ c 8).trans ((arr8_8 (V15 m ρ) c).trans (congr (congrArg adamGateM (w15_v35 m ρ c)) (w15_arg6 m ρ c)))

theorem w16_v50_4 (c : Dev nD) : W16 m ρ c (Proc.devRef .tc main_v50_4) = adamGateV (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg7)) :=
  (W16_arr m ρ c 9).trans ((arr8_9 (V15 m ρ) c).trans (congr (congrArg adamGateV (w15_v35 m ρ c)) (w15_arg7 m ρ c)))

theorem w16_arg18 (c : Dev nD) : W16 m ρ c (Proc.devRef .tc main_arg18) = (m ((c : Thread nD τ).loc main_arg18)) :=
  W16_args m ρ c main_arg18 (by decide)

theorem w16_arg19 (c : Dev nD) : W16 m ρ c (Proc.devRef .tc main_arg19) = (m ((c : Thread nD τ).loc main_arg19)) :=
  W16_args m ρ c main_arg19 (by decide)

theorem w16_arg20 (c : Dev nD) : W16 m ρ c (Proc.devRef .tc main_arg20) = (m ((c : Thread nD τ).loc main_arg20)) :=
  W16_args m ρ c main_arg20 (by decide)

theorem w16_arg21 (c : Dev nD) : W16 m ρ c (Proc.devRef .tc main_arg21) = (m ((c : Thread nD τ).loc main_arg21)) :=
  W16_args m ρ c main_arg21 (by decide)

theorem w17_v59 (c : Dev nD) : W17 m ρ c (Proc.devRef .tc main_v59) = hyper (m ((c : Thread nD τ).loc main_arg18)) (m ((c : Thread nD τ).loc main_arg19)) (m ((c : Thread nD τ).loc main_arg20)) (m ((c : Thread nD τ).loc main_arg21)) 1 :=
  (host9_v59 (W16 m ρ c)).trans (congrFun (congr (congr (congr (congrArg hyper (w16_arg18 m ρ c)) (w16_arg19 m ρ c)) (w16_arg20 m ρ c)) (w16_arg21 m ρ c)) 1)

theorem w17_v36 (c : Dev nD) : W17 m ρ c (Proc.devRef .tc main_v36) = (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) :=
  (W17_of m ρ c main_v36 (by decide +kernel)).trans ((W16_of m ρ c main_v36 (by decide +kernel)).trans ((W15_of m ρ c main_v36 (by decide +kernel)).trans ((W14_of m ρ c main_v36 (by decide +kernel)).trans (w13_v36 m ρ c))))

theorem w18_v60_0 (c : Dev nD) : W18 m ρ c (Proc.devRef .tc main_v60_0) = adamUpDs (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) :=
  (W18_arr m ρ c 5).trans ((arr9_5 (V17 m ρ) c).trans (congrArg adamUpDs (w17_v36 m ρ c)))

theorem w17_arg11 (c : Dev nD) : W17 m ρ c (Proc.devRef .tc main_arg11) = (m ((c : Thread nD τ).loc main_arg11)) :=
  W17_args m ρ c main_arg11 (by decide)

theorem w17_arg12 (c : Dev nD) : W17 m ρ c (Proc.devRef .tc main_arg12) = (m ((c : Thread nD τ).loc main_arg12)) :=
  W17_args m ρ c main_arg12 (by decide)

theorem w18_v60_1 (c : Dev nD) : W18 m ρ c (Proc.devRef .tc main_v60_1) = adamUpStep (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)) (m ((c : Thread nD τ).loc main_arg12)) :=
  (W18_arr m ρ c 6).trans ((arr9_6 (V17 m ρ) c).trans (congr (congr (congr (congrArg adamUpStep (w17_v59 m ρ c)) (w17_v36 m ρ c)) (w17_arg11 m ρ c)) (w17_arg12 m ρ c)))

theorem w17_arg10 (c : Dev nD) : W17 m ρ c (Proc.devRef .tc main_arg10) = (m ((c : Thread nD τ).loc main_arg10)) :=
  W17_args m ρ c main_arg10 (by decide)

theorem w18_v60_2 (c : Dev nD) : W18 m ρ c (Proc.devRef .tc main_v60_2) = adamUpS (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg10)) (m ((c : Thread nD τ).loc main_arg11)) (m ((c : Thread nD τ).loc main_arg12)) :=
  (W18_arr m ρ c 7).trans ((arr9_7 (V17 m ρ) c).trans (congr (congr (congr (congr (congrArg adamUpS (w17_v59 m ρ c)) (w17_v36 m ρ c)) (w17_arg10 m ρ c)) (w17_arg11 m ρ c)) (w17_arg12 m ρ c)))

theorem w18_v60_3 (c : Dev nD) : W18 m ρ c (Proc.devRef .tc main_v60_3) = adamUpM (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)) :=
  (W18_arr m ρ c 8).trans ((arr9_8 (V17 m ρ) c).trans (congr (congrArg adamUpM (w17_v36 m ρ c)) (w17_arg11 m ρ c)))

theorem w18_v60_4 (c : Dev nD) : W18 m ρ c (Proc.devRef .tc main_v60_4) = adamUpV (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg12)) :=
  (W18_arr m ρ c 9).trans ((arr9_9 (V17 m ρ) c).trans (congr (congrArg adamUpV (w17_v36 m ρ c)) (w17_arg12 m ρ c)))

theorem w18_arg18 (c : Dev nD) : W18 m ρ c (Proc.devRef .tc main_arg18) = (m ((c : Thread nD τ).loc main_arg18)) :=
  W18_args m ρ c main_arg18 (by decide)

theorem w18_arg19 (c : Dev nD) : W18 m ρ c (Proc.devRef .tc main_arg19) = (m ((c : Thread nD τ).loc main_arg19)) :=
  W18_args m ρ c main_arg19 (by decide)

theorem w18_arg20 (c : Dev nD) : W18 m ρ c (Proc.devRef .tc main_arg20) = (m ((c : Thread nD τ).loc main_arg20)) :=
  W18_args m ρ c main_arg20 (by decide)

theorem w18_arg21 (c : Dev nD) : W18 m ρ c (Proc.devRef .tc main_arg21) = (m ((c : Thread nD τ).loc main_arg21)) :=
  W18_args m ρ c main_arg21 (by decide)

theorem w19_v69 (c : Dev nD) : W19 m ρ c (Proc.devRef .tc main_v69) = hyper (m ((c : Thread nD τ).loc main_arg18)) (m ((c : Thread nD τ).loc main_arg19)) (m ((c : Thread nD τ).loc main_arg20)) (m ((c : Thread nD τ).loc main_arg21)) 2 :=
  (host10_v69 (W18 m ρ c)).trans (congrFun (congr (congr (congr (congrArg hyper (w18_arg18 m ρ c)) (w18_arg19 m ρ c)) (w18_arg20 m ρ c)) (w18_arg21 m ρ c)) 2)

theorem w19_v40 (c : Dev nD) : W19 m ρ c (Proc.devRef .tc main_v40) = (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) :=
  (W19_of m ρ c main_v40 (by decide +kernel)).trans ((W18_of m ρ c main_v40 (by decide +kernel)).trans ((W17_of m ρ c main_v40 (by decide +kernel)).trans ((W16_of m ρ c main_v40 (by decide +kernel)).trans (w15_v40 m ρ c))))

theorem w20_v70_0 (c : Dev nD) : W20 m ρ c (Proc.devRef .tc main_v70_0) = adamDownDs (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) :=
  (W20_arr m ρ c 5).trans ((arr10_5 (V19 m ρ) c).trans (congrArg adamDownDs (w19_v40 m ρ c)))

theorem w19_arg16 (c : Dev nD) : W19 m ρ c (Proc.devRef .tc main_arg16) = (m ((c : Thread nD τ).loc main_arg16)) :=
  W19_args m ρ c main_arg16 (by decide)

theorem w19_arg17 (c : Dev nD) : W19 m ρ c (Proc.devRef .tc main_arg17) = (m ((c : Thread nD τ).loc main_arg17)) :=
  W19_args m ρ c main_arg17 (by decide)

theorem w20_v70_1 (c : Dev nD) : W20 m ρ c (Proc.devRef .tc main_v70_1) = adamDownStep (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)) (m ((c : Thread nD τ).loc main_arg17)) :=
  (W20_arr m ρ c 6).trans ((arr10_6 (V19 m ρ) c).trans (congr (congr (congr (congrArg adamDownStep (w19_v69 m ρ c)) (w19_v40 m ρ c)) (w19_arg16 m ρ c)) (w19_arg17 m ρ c)))

theorem w19_arg15 (c : Dev nD) : W19 m ρ c (Proc.devRef .tc main_arg15) = (m ((c : Thread nD τ).loc main_arg15)) :=
  W19_args m ρ c main_arg15 (by decide)

theorem w20_v70_2 (c : Dev nD) : W20 m ρ c (Proc.devRef .tc main_v70_2) = adamDownS (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg15)) (m ((c : Thread nD τ).loc main_arg16)) (m ((c : Thread nD τ).loc main_arg17)) :=
  (W20_arr m ρ c 7).trans ((arr10_7 (V19 m ρ) c).trans (congr (congr (congr (congr (congrArg adamDownS (w19_v69 m ρ c)) (w19_v40 m ρ c)) (w19_arg15 m ρ c)) (w19_arg16 m ρ c)) (w19_arg17 m ρ c)))

theorem w20_v70_3 (c : Dev nD) : W20 m ρ c (Proc.devRef .tc main_v70_3) = adamDownM (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)) :=
  (W20_arr m ρ c 8).trans ((arr10_8 (V19 m ρ) c).trans (congr (congrArg adamDownM (w19_v40 m ρ c)) (w19_arg16 m ρ c)))

theorem w20_v70_4 (c : Dev nD) : W20 m ρ c (Proc.devRef .tc main_v70_4) = adamDownV (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg17)) :=
  (W20_arr m ρ c 9).trans ((arr10_9 (V19 m ρ) c).trans (congr (congrArg adamDownV (w19_v40 m ρ c)) (w19_arg17 m ρ c)))

theorem w20_v29 (c : Dev nD) : W20 m ρ c (Proc.devRef .tc main_v29) = (specOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W20_of m ρ c main_v29 (by decide +kernel)).trans ((W19_of m ρ c main_v29 (by decide +kernel)).trans ((W18_of m ρ c main_v29 (by decide +kernel)).trans ((W17_of m ρ c main_v29 (by decide +kernel)).trans ((W16_of m ρ c main_v29 (by decide +kernel)).trans ((W15_of m ρ c main_v29 (by decide +kernel)).trans ((W14_of m ρ c main_v29 (by decide +kernel)).trans ((W13_of m ρ c main_v29 (by decide +kernel)).trans ((W12_of m ρ c main_v29 (by decide +kernel)).trans ((W11_of m ρ c main_v29 (by decide +kernel)).trans (w10_v29 m ρ c))))))))))

theorem w21_v71 (c : Dev nD) : W21 m ρ c (Proc.devRef .tc main_v71) = fun i : S3x2048x4096.Idx => batchesAt (n := 4096) (specOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (i 0) (i 1) (i 2) :=
  (host11_v71 (W20 m ρ c)).trans (congrArg (fun (f : S6144x4096.Idx → EReal) (i : S3x2048x4096.Idx) => batchesAt (n := 4096) f (i 0) (i 1) (i 2)) (w20_v29 m ρ c))

theorem w20_v28_0 (c : Dev nD) : W20 m ρ c (Proc.devRef .tc main_v28_0) = (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) :=
  (W20_of m ρ c main_v28_0 (by decide +kernel)).trans ((W19_of m ρ c main_v28_0 (by decide +kernel)).trans ((W18_of m ρ c main_v28_0 (by decide +kernel)).trans ((W17_of m ρ c main_v28_0 (by decide +kernel)).trans ((W16_of m ρ c main_v28_0 (by decide +kernel)).trans ((W15_of m ρ c main_v28_0 (by decide +kernel)).trans ((W14_of m ρ c main_v28_0 (by decide +kernel)).trans (w13_v28_0 m ρ c)))))))

theorem w21_v72 (c : Dev nD) : W21 m ρ c (Proc.devRef .tc main_v72) = fun i : S3x2048x11008.Idx => batchesAt (n := 11008) (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) (i 0) (i 1) (i 2) :=
  (host11_v72 (W20 m ρ c)).trans (congrArg (fun (f : S6144x11008.Idx → EReal) (i : S3x2048x11008.Idx) => batchesAt (n := 11008) f (i 0) (i 1) (i 2)) (w20_v28_0 m ρ c))

theorem w21_v50_0 (c : Dev nD) : W21 m ρ c (Proc.devRef .tc main_v50_0) = adamGateDs (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (W21_of m ρ c main_v50_0 (by decide +kernel)).trans ((W20_of m ρ c main_v50_0 (by decide +kernel)).trans ((W19_of m ρ c main_v50_0 (by decide +kernel)).trans ((W18_of m ρ c main_v50_0 (by decide +kernel)).trans ((W17_of m ρ c main_v50_0 (by decide +kernel)).trans (w16_v50_0 m ρ c)))))

theorem w21_v50_1 (c : Dev nD) : W21 m ρ c (Proc.devRef .tc main_v50_1) = adamGateStep (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)) (m ((c : Thread nD τ).loc main_arg7)) :=
  (W21_of m ρ c main_v50_1 (by decide +kernel)).trans ((W20_of m ρ c main_v50_1 (by decide +kernel)).trans ((W19_of m ρ c main_v50_1 (by decide +kernel)).trans ((W18_of m ρ c main_v50_1 (by decide +kernel)).trans ((W17_of m ρ c main_v50_1 (by decide +kernel)).trans (w16_v50_1 m ρ c)))))

theorem w21_v50_2 (c : Dev nD) : W21 m ρ c (Proc.devRef .tc main_v50_2) = adamGateS (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg5)) (m ((c : Thread nD τ).loc main_arg6)) (m ((c : Thread nD τ).loc main_arg7)) :=
  (W21_of m ρ c main_v50_2 (by decide +kernel)).trans ((W20_of m ρ c main_v50_2 (by decide +kernel)).trans ((W19_of m ρ c main_v50_2 (by decide +kernel)).trans ((W18_of m ρ c main_v50_2 (by decide +kernel)).trans ((W17_of m ρ c main_v50_2 (by decide +kernel)).trans (w16_v50_2 m ρ c)))))

theorem w21_v50_3 (c : Dev nD) : W21 m ρ c (Proc.devRef .tc main_v50_3) = adamGateM (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)) :=
  (W21_of m ρ c main_v50_3 (by decide +kernel)).trans ((W20_of m ρ c main_v50_3 (by decide +kernel)).trans ((W19_of m ρ c main_v50_3 (by decide +kernel)).trans ((W18_of m ρ c main_v50_3 (by decide +kernel)).trans ((W17_of m ρ c main_v50_3 (by decide +kernel)).trans (w16_v50_3 m ρ c)))))

theorem w21_v50_4 (c : Dev nD) : W21 m ρ c (Proc.devRef .tc main_v50_4) = adamGateV (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg7)) :=
  (W21_of m ρ c main_v50_4 (by decide +kernel)).trans ((W20_of m ρ c main_v50_4 (by decide +kernel)).trans ((W19_of m ρ c main_v50_4 (by decide +kernel)).trans ((W18_of m ρ c main_v50_4 (by decide +kernel)).trans ((W17_of m ρ c main_v50_4 (by decide +kernel)).trans (w16_v50_4 m ρ c)))))

theorem w21_v60_0 (c : Dev nD) : W21 m ρ c (Proc.devRef .tc main_v60_0) = adamUpDs (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) :=
  (W21_of m ρ c main_v60_0 (by decide +kernel)).trans ((W20_of m ρ c main_v60_0 (by decide +kernel)).trans ((W19_of m ρ c main_v60_0 (by decide +kernel)).trans (w18_v60_0 m ρ c)))

theorem w21_v60_1 (c : Dev nD) : W21 m ρ c (Proc.devRef .tc main_v60_1) = adamUpStep (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)) (m ((c : Thread nD τ).loc main_arg12)) :=
  (W21_of m ρ c main_v60_1 (by decide +kernel)).trans ((W20_of m ρ c main_v60_1 (by decide +kernel)).trans ((W19_of m ρ c main_v60_1 (by decide +kernel)).trans (w18_v60_1 m ρ c)))

theorem w21_v60_2 (c : Dev nD) : W21 m ρ c (Proc.devRef .tc main_v60_2) = adamUpS (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg10)) (m ((c : Thread nD τ).loc main_arg11)) (m ((c : Thread nD τ).loc main_arg12)) :=
  (W21_of m ρ c main_v60_2 (by decide +kernel)).trans ((W20_of m ρ c main_v60_2 (by decide +kernel)).trans ((W19_of m ρ c main_v60_2 (by decide +kernel)).trans (w18_v60_2 m ρ c)))

theorem w21_v60_3 (c : Dev nD) : W21 m ρ c (Proc.devRef .tc main_v60_3) = adamUpM (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)) :=
  (W21_of m ρ c main_v60_3 (by decide +kernel)).trans ((W20_of m ρ c main_v60_3 (by decide +kernel)).trans ((W19_of m ρ c main_v60_3 (by decide +kernel)).trans (w18_v60_3 m ρ c)))

theorem w21_v60_4 (c : Dev nD) : W21 m ρ c (Proc.devRef .tc main_v60_4) = adamUpV (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg12)) :=
  (W21_of m ρ c main_v60_4 (by decide +kernel)).trans ((W20_of m ρ c main_v60_4 (by decide +kernel)).trans ((W19_of m ρ c main_v60_4 (by decide +kernel)).trans (w18_v60_4 m ρ c)))

theorem w21_v70_0 (c : Dev nD) : W21 m ρ c (Proc.devRef .tc main_v70_0) = adamDownDs (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) :=
  (W21_of m ρ c main_v70_0 (by decide +kernel)).trans (w20_v70_0 m ρ c)

theorem w21_v70_1 (c : Dev nD) : W21 m ρ c (Proc.devRef .tc main_v70_1) = adamDownStep (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)) (m ((c : Thread nD τ).loc main_arg17)) :=
  (W21_of m ρ c main_v70_1 (by decide +kernel)).trans (w20_v70_1 m ρ c)

theorem w21_v70_2 (c : Dev nD) : W21 m ρ c (Proc.devRef .tc main_v70_2) = adamDownS (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg15)) (m ((c : Thread nD τ).loc main_arg16)) (m ((c : Thread nD τ).loc main_arg17)) :=
  (W21_of m ρ c main_v70_2 (by decide +kernel)).trans (w20_v70_2 m ρ c)

theorem w21_v70_3 (c : Dev nD) : W21 m ρ c (Proc.devRef .tc main_v70_3) = adamDownM (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)) :=
  (W21_of m ρ c main_v70_3 (by decide +kernel)).trans (w20_v70_3 m ρ c)

theorem w21_v70_4 (c : Dev nD) : W21 m ρ c (Proc.devRef .tc main_v70_4) = adamDownV (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg17)) :=
  (W21_of m ρ c main_v70_4 (by decide +kernel)).trans (w20_v70_4 m ρ c)

end Cert.KernelIdeal.Gen
end
-- ==== Proof.KernelRun.lean ====
module

public import proofs.«01_k».proof.Proof.Chain

@[expose] public section

-- membership in a rectangle of production extents (`View.cover_of_tiled`): the elaborator's structural look
-- recurses once per coordinate of the long axes
set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel's run: every result array ends at its value over the argument arrays, and the argument arrays end unchanged. -/
theorem run_values : θ_run defs (onTc (τ := τ) (main (F := Ideal))) ⟨m, fun _ => 0, ρ⟩ (fun r => (∀ c : Dev nD,
      r.2.mem ((c.tc : Thread nD τ).loc main_v71) = (fun i : S3x2048x4096.Idx => batchesAt (n := 4096) (specOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (i 0) (i 1) (i 2))
      ∧ r.2.mem ((c.tc : Thread nD τ).loc main_v72) = (fun i : S3x2048x11008.Idx => batchesAt (n := 11008) (specHidden (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10))) (i 0) (i 1) (i 2))
      ∧ r.2.mem ((c.tc : Thread nD τ).loc main_v50_0) = (adamGateDs (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))))
      ∧ r.2.mem ((c.tc : Thread nD τ).loc main_v50_1) = (adamGateStep (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)) (m ((c : Thread nD τ).loc main_arg7)))
      ∧ r.2.mem ((c.tc : Thread nD τ).loc main_v50_2) = (adamGateS (hyper (m ((c : Thread nD τ).loc main_arg18)) (m ((c : Thread nD τ).loc main_arg19)) (m ((c : Thread nD τ).loc main_arg20)) (m ((c : Thread nD τ).loc main_arg21)) 0) (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg5)) (m ((c : Thread nD τ).loc main_arg6)) (m ((c : Thread nD τ).loc main_arg7)))
      ∧ r.2.mem ((c.tc : Thread nD τ).loc main_v50_3) = (adamGateM (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg6)))
      ∧ r.2.mem ((c.tc : Thread nD τ).loc main_v50_4) = (adamGateV (specDsGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) (m ((c : Thread nD τ).loc main_arg7)))
      ∧ r.2.mem ((c.tc : Thread nD τ).loc main_v60_0) = (adamUpDs (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))))
      ∧ r.2.mem ((c.tc : Thread nD τ).loc main_v60_1) = (adamUpStep (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)) (m ((c : Thread nD τ).loc main_arg12)))
      ∧ r.2.mem ((c.tc : Thread nD τ).loc main_v60_2) = (adamUpS (hyper (m ((c : Thread nD τ).loc main_arg18)) (m ((c : Thread nD τ).loc main_arg19)) (m ((c : Thread nD τ).loc main_arg20)) (m ((c : Thread nD τ).loc main_arg21)) 1) (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg10)) (m ((c : Thread nD τ).loc main_arg11)) (m ((c : Thread nD τ).loc main_arg12)))
      ∧ r.2.mem ((c.tc : Thread nD τ).loc main_v60_3) = (adamUpM (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg11)))
      ∧ r.2.mem ((c.tc : Thread nD τ).loc main_v60_4) = (adamUpV (specDsUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg13)) (m ((c : Thread nD τ).loc main_arg14)) (m ((c : Thread nD τ).loc main_arg15))) (m ((c : Thread nD τ).loc main_arg12)))
      ∧ r.2.mem ((c.tc : Thread nD τ).loc main_v70_0) = (adamDownDs (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))))
      ∧ r.2.mem ((c.tc : Thread nD τ).loc main_v70_1) = (adamDownStep (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)) (m ((c : Thread nD τ).loc main_arg17)))
      ∧ r.2.mem ((c.tc : Thread nD τ).loc main_v70_2) = (adamDownS (hyper (m ((c : Thread nD τ).loc main_arg18)) (m ((c : Thread nD τ).loc main_arg19)) (m ((c : Thread nD τ).loc main_arg20)) (m ((c : Thread nD τ).loc main_arg21)) 2) (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg15)) (m ((c : Thread nD τ).loc main_arg16)) (m ((c : Thread nD τ).loc main_arg17)))
      ∧ r.2.mem ((c.tc : Thread nD τ).loc main_v70_3) = (adamDownM (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg16)))
      ∧ r.2.mem ((c.tc : Thread nD τ).loc main_v70_4) = (adamDownV (specDsDown (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg13)) (m ((c : Thread nD τ).loc main_arg14))) (m ((c : Thread nD τ).loc main_arg17)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => ⟨(fun c =>
      ⟨(h c _ (mem_uc main_v71 (by decide))).trans (w21_v71 m ρ c),
       (h c _ (mem_uc main_v72 (by decide))).trans (w21_v72 m ρ c),
       (h c _ (mem_uc main_v50_0 (by decide))).trans (w21_v50_0 m ρ c),
       (h c _ (mem_uc main_v50_1 (by decide))).trans (w21_v50_1 m ρ c),
       (h c _ (mem_uc main_v50_2 (by decide))).trans (w21_v50_2 m ρ c),
       (h c _ (mem_uc main_v50_3 (by decide))).trans (w21_v50_3 m ρ c),
       (h c _ (mem_uc main_v50_4 (by decide))).trans (w21_v50_4 m ρ c),
       (h c _ (mem_uc main_v60_0 (by decide))).trans (w21_v60_0 m ρ c),
       (h c _ (mem_uc main_v60_1 (by decide))).trans (w21_v60_1 m ρ c),
       (h c _ (mem_uc main_v60_2 (by decide))).trans (w21_v60_2 m ρ c),
       (h c _ (mem_uc main_v60_3 (by decide))).trans (w21_v60_3 m ρ c),
       (h c _ (mem_uc main_v60_4 (by decide))).trans (w21_v60_4 m ρ c),
       (h c _ (mem_uc main_v70_0 (by decide))).trans (w21_v70_0 m ρ c),
       (h c _ (mem_uc main_v70_1 (by decide))).trans (w21_v70_1 m ρ c),
       (h c _ (mem_uc main_v70_2 (by decide))).trans (w21_v70_2 m ρ c),
       (h c _ (mem_uc main_v70_3 (by decide))).trans (w21_v70_3 m ρ c),
       (h c _ (mem_uc main_v70_4 (by decide))).trans (w21_v70_4 m ρ c),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c),
       (h c _ (mem_uc main_arg19 (by decide))).trans (W21_main_arg19 m ρ c),
       (h c _ (mem_uc main_arg20 (by decide))).trans (W21_main_arg20 m ρ c),
       (h c _ (mem_uc main_arg21 (by decide))).trans (W21_main_arg21 m ρ c)⟩), funext fun g => hz g (.inr (no_unscoped g.2))⟩)

end Cert.KernelIdeal.Gen
end
-- ==== Proof.RefWeights.lean ====
module

public import proofs.«01_k».proof.Proof.HostForms
public import proofs.«01_k».proof.Proof.DequantGate
public import proofs.«01_k».proof.Proof.DequantUp
public import proofs.«01_k».proof.Proof.DequantDown
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Bridge

open Idealize.ShloMosaic Idealize.ShloMosaic.TcCoe Idealize.ShloMosaic.Tactic
open Cert.KernelIdeal.Gen (dqGateAt dqUpAt dqDownAt diff code zeroPoint shiftOf qWideAt qWide zWideAt zWide sWideAt sWide qTallAt qTall zTallAt zTall sTallAt sTall)
open Cert.ReferenceIdeal Cert.ReferenceIdeal.Read

/-- A difference of two numbers of two bits, taken on words or on numbers, is the same. -/
theorem sub_small (a b : BitVec 32) (ha : a.toNat ≤ 3) (hb : b.toNat ≤ 3) : (a - b).toInt = (a.toNat : ℤ) - b.toInt := by
  obtain ⟨k, hk, rfl⟩ : ∃ k, k < 4 ∧ a = BitVec.ofNat 32 k := ⟨a.toNat, by omega, by simp⟩
  obtain ⟨l, hl, rfl⟩ : ∃ l, l < 4 ∧ b = BitVec.ofNat 32 l := ⟨b.toNat, by omega, by simp⟩
  interval_cases k <;> interval_cases l <;> decide

theorem and3_le (x : BitVec 32) : (IntOp.andi x 3#32).toNat ≤ 3 := by
  show (x &&& 3#32).toNat ≤ 3
  rw [BitVec.toNat_and]
  exact Nat.and_le_right

theorem shift_lt (i : ℕ) (hi : i < 16) : (IntOp.muli 2#32 (BitVec.ofNat 32 i)).toNat < 32 := by
  interval_cases i <;> decide

theorem shift_eq (g g' : ℕ) (hg : g < 4) (h : g' % 4 = g) : IntOp.muli 2#32 (BitVec.ofNat 32 g) = shiftOf g' := by
  unfold shiftOf
  rw [h]
  interval_cases g <;> decide

/-- A code as a number minus a zero point as a number is the number of their difference. -/
theorem code_sub (w : BitVec 32) (z : BitVec 8) (i : ℕ) (hi : i < 16) (g g' : ℕ) (hg : g < 4) (h : g' % 4 = g) :
    FloatOps.uitofp (F := Ideal) FTy.f32 (IntOp.andi (IntOp.shrui ArithUnit.host w (IntOp.muli 2#32 (BitVec.ofNat 32 i))) 3#32)
      - FloatOps.sitofp (F := Ideal) FTy.f32 (IntOp.andi (IntOp.shrsi ArithUnit.host (BitVec.setWidth 32 z) (IntOp.muli 2#32 (BitVec.ofNat 32 g))) 3#32)
      = diff w (BitVec.setWidth 32 z) i (shiftOf g') := by
  have e1 : IntOp.shrui ArithUnit.host w (IntOp.muli 2#32 (BitVec.ofNat 32 i)) = IntOp.shrui ArithUnit.vector w (IntOp.muli 2#32 (BitVec.ofNat 32 i)) := by
    unfold IntOp.shrui
    rw [if_pos (shift_lt i hi), if_pos (shift_lt i hi)]
  have e2 : IntOp.shrsi ArithUnit.host (BitVec.setWidth 32 z) (IntOp.muli 2#32 (BitVec.ofNat 32 g)) = IntOp.shrsi ArithUnit.vector (BitVec.setWidth 32 z) (shiftOf g') := by
    rw [← shift_eq g g' hg h]
    unfold IntOp.shrsi
    rw [if_pos (shift_lt g (by omega)), if_pos (shift_lt g (by omega))]
  unfold diff code zeroPoint
  rw [e1, e2]
  have ha := and3_le (IntOp.shrui ArithUnit.vector w (IntOp.muli 2#32 (BitVec.ofNat 32 i)))
  have hb := and3_le (IntOp.shrsi ArithUnit.vector (BitVec.setWidth 32 z) (shiftOf g'))
  generalize IntOp.andi (IntOp.shrui ArithUnit.vector w (IntOp.muli 2#32 (BitVec.ofNat 32 i))) 3#32 = a at ha ⊢
  generalize IntOp.andi (IntOp.shrsi ArithUnit.vector (BitVec.setWidth 32 z) (shiftOf g')) 3#32 = b at hb ⊢
  show (((a.toNat : ℝ)) : EReal) - ((b.toInt : ℝ) : EReal) = (((a - b).toInt : ℝ) : EReal)
  rw [← EReal.coe_sub, sub_small a b ha hb]
  push_cast
  rfl

/-- Sixteen interleaved sums are one sum. -/
theorem sum_interleaved {N L : ℕ} (f : Fin L → EReal) (hL : L = N * 16) (b : ∀ (x : Fin 16) (y : Fin N), y.val * 16 + x.val < L) :
    ∑ x : Fin 16, ∑ y : Fin N, f ⟨y.val * 16 + x.val, b x y⟩ = ∑ k : Fin L, f k := by
  rw [Finset.sum_comm]
  exact Fin.sum_mul_add_congr (fun s k hl => rfl) hL

/-- The gate codes minus zero points of the reference. -/
theorem diffGate (x3 : S11008x256.Idx → BitVec 32) (x4 : S11008x16.Idx → BitVec 8) (i : Fin 16) (n : Fin 11008) (w : Fin 256) :
    val_main_v31 (F := Ideal) x3 x4 (ix3 i n w) = diff (x3 (ix2 n w)) (BitVec.setWidth 32 (x4 (ix2 n ⟨w.val / 16, by omega⟩))) i.val (shiftOf (w.val / 4)) := by
  generalize hG : diff (x3 (ix2 n w)) (BitVec.setWidth 32 (x4 (ix2 n ⟨w.val / 16, by omega⟩))) i.val (shiftOf (w.val / 4)) = G
  pointwise [val_main_v31, val_main_v28, val_main_v30, val_main_v12, val_main_v29, val_main_v10, val_main_v11, val_main_v27, val_main_v8, val_main_v9, val_main_c_0, val_main_v26, val_main_v7, val_main_v6, val_main_v25, val_main_v2, val_main_v5, val_main_v4, val_main_v24, val_main_c, val_main_v3, val_main_v23, val_main_v21, val_main_v22, val_main_v19, val_main_v20, val_main_c_2, val_main_v17, val_main_v18, val_main_v16, val_main_v15, val_main_v14, val_main_v13, val_main_c_1]
  subst hG
  have e : (⟨w.val / 4 / 4, by omega⟩ : Fin 16) = ⟨w.val / 16, by omega⟩ := Fin.ext (by show w.val / 4 / 4 = w.val / 16; omega)
  rw [← e]
  exact code_sub _ _ _ i.isLt _ _ (by omega) rfl

/-- The gate weights of the reference are the dequantised weights, transposed and interleaved. -/
theorem weightGate (x3 : S11008x256.Idx → BitVec 32) (x4 : S11008x16.Idx → BitVec 8) (x5 : S11008x64.Idx → EReal) (i : Fin 16) (n : Fin 11008) (w : Fin 256) (k : Fin 4096) (hk : k.val = w.val * 16 + i.val) :
    val_main_v37 (F := Ideal) x3 x4 x5 (ix3 i n w) = dqGateAt (qWide x3) (zWide x4) (sWide x5) k n := by
  generalize hG : dqGateAt (qWide x3) (zWide x4) (sWide x5) k n = G
  pointwise [val_main_v37, val_main_v36, val_main_v35, val_main_v34, val_main_v33, val_main_v32]
  rw [diffGate]
  subst hG
  have hi := i.isLt
  have hw := w.isLt
  have h1 : k.val % 1024 % 16 = i.val := by omega
  have h2 : shiftOf (k.val % 1024 / 64) = shiftOf (w.val / 4) := by
    unfold shiftOf
    rw [show k.val % 1024 / 64 % 4 = w.val / 4 % 4 by omega]
  unfold dqGateAt qWide zWide sWide qWideAt zWideAt sWideAt
  rw [h1, h2]
  congr 1
  · congr 2
    exact Fin.ext (by simp only [ix3]; omega)
  · congr 2
    · congr 1; exact Fin.ext (by simp only [ix3]; omega)
    · congr 2; exact Fin.ext (by simp only [ix3]; omega)

/-- The up codes minus zero points of the reference. -/
theorem diffUp (x8 : S11008x256.Idx → BitVec 32) (x9 : S11008x16.Idx → BitVec 8) (i : Fin 16) (n : Fin 11008) (w : Fin 256) :
    val_main_v67 (F := Ideal) x8 x9 (ix3 i n w) = diff (x8 (ix2 n w)) (BitVec.setWidth 32 (x9 (ix2 n ⟨w.val / 16, by omega⟩))) i.val (shiftOf (w.val / 4)) := by
  generalize hG : diff (x8 (ix2 n w)) (BitVec.setWidth 32 (x9 (ix2 n ⟨w.val / 16, by omega⟩))) i.val (shiftOf (w.val / 4)) = G
  pointwise [val_main_v67, val_main_v64, val_main_v66, val_main_v48, val_main_v65, val_main_v46, val_main_v47, val_main_v63, val_main_v44, val_main_v45, val_main_c_4, val_main_v62, val_main_v43, val_main_v42, val_main_v61, val_main_v38, val_main_v41, val_main_v40, val_main_v60, val_main_c_3, val_main_v39, val_main_v59, val_main_v57, val_main_v58, val_main_v55, val_main_v56, val_main_c_6, val_main_v53, val_main_v54, val_main_v52, val_main_v51, val_main_v50, val_main_v49, val_main_c_5]
  subst hG
  have e : (⟨w.val / 4 / 4, by omega⟩ : Fin 16) = ⟨w.val / 16, by omega⟩ := Fin.ext (by show w.val / 4 / 4 = w.val / 16; omega)
  rw [← e]
  exact code_sub _ _ _ i.isLt _ _ (by omega) rfl

/-- The up weights of the reference are the dequantised weights, transposed and interleaved. -/
theorem weightUp (x8 : S11008x256.Idx → BitVec 32) (x9 : S11008x16.Idx → BitVec 8) (x10 : S11008x64.Idx → EReal) (i : Fin 16) (n : Fin 11008) (w : Fin 256) (k : Fin 4096) (hk : k.val = w.val * 16 + i.val) :
    val_main_v73 (F := Ideal) x8 x9 x10 (ix3 i n w) = dqUpAt (qWide x8) (zWide x9) (sWide x10) k n := by
  generalize hG : dqUpAt (qWide x8) (zWide x9) (sWide x10) k n = G
  pointwise [val_main_v73, val_main_v72, val_main_v71, val_main_v70, val_main_v69, val_main_v68]
  rw [diffUp]
  subst hG
  have hi := i.isLt
  have hw := w.isLt
  have h1 : k.val % 1024 % 16 = i.val := by omega
  have h2 : shiftOf (k.val % 1024 / 64) = shiftOf (w.val / 4) := by
    unfold shiftOf
    rw [show k.val % 1024 / 64 % 4 = w.val / 4 % 4 by omega]
  unfold dqUpAt qWide zWide sWide qWideAt zWideAt sWideAt
  rw [h1, h2]
  congr 1
  · congr 2
    exact Fin.ext (by simp only [ix3]; omega)
  · congr 2
    · congr 1; exact Fin.ext (by simp only [ix3]; omega)
    · congr 2; exact Fin.ext (by simp only [ix3]; omega)

/-- The down codes minus zero points of the reference. -/
theorem diffDown (x13 : S4096x688.Idx → BitVec 32) (x14 : S4096x43.Idx → BitVec 8) (i : Fin 16) (n : Fin 4096) (w : Fin 688) :
    val_main_v103 (F := Ideal) x13 x14 (ix3 i n w) = diff (x13 (ix2 n w)) (BitVec.setWidth 32 (x14 (ix2 n ⟨w.val / 16, by omega⟩))) i.val (shiftOf (w.val / 4)) := by
  generalize hG : diff (x13 (ix2 n w)) (BitVec.setWidth 32 (x14 (ix2 n ⟨w.val / 16, by omega⟩))) i.val (shiftOf (w.val / 4)) = G
  pointwise [val_main_v103, val_main_v100, val_main_v102, val_main_v84, val_main_v101, val_main_v82, val_main_v83, val_main_v99, val_main_v80, val_main_v81, val_main_c_8, val_main_v98, val_main_v79, val_main_v78, val_main_v97, val_main_v74, val_main_v77, val_main_v76, val_main_v96, val_main_c_7, val_main_v75, val_main_v95, val_main_v93, val_main_v94, val_main_v91, val_main_v92, val_main_c_10, val_main_v89, val_main_v90, val_main_v88, val_main_v87, val_main_v86, val_main_v85, val_main_c_9]
  subst hG
  have e : (⟨w.val / 4 / 4, by omega⟩ : Fin 43) = ⟨w.val / 16, by omega⟩ := Fin.ext (by show w.val / 4 / 4 = w.val / 16; omega)
  rw [← e]
  exact code_sub _ _ _ i.isLt _ _ (by omega) rfl

/-- The down weights of the reference are the dequantised weights, transposed and interleaved. -/
theorem weightDown (x13 : S4096x688.Idx → BitVec 32) (x14 : S4096x43.Idx → BitVec 8) (x15 : S4096x172.Idx → EReal) (i : Fin 16) (n : Fin 4096) (w : Fin 688) (k : Fin 11008) (hk : k.val = w.val * 16 + i.val) :
    val_main_v109 (F := Ideal) x13 x14 x15 (ix3 i n w) = dqDownAt (qTall x13) (zTall x14) (sTall x15) k n := by
  generalize hG : dqDownAt (qTall x13) (zTall x14) (sTall x15) k n = G
  pointwise [val_main_v109, val_main_v108, val_main_v107, val_main_v106, val_main_v105, val_main_v104]
  rw [diffDown]
  subst hG
  have hi := i.isLt
  have hw := w.isLt
  have h1 : k.val % 256 % 16 = i.val := by omega
  have h2 : shiftOf (k.val % 256 / 64) = shiftOf (w.val / 4) := by
    unfold shiftOf
    rw [show k.val % 256 / 64 % 4 = w.val / 4 % 4 by omega]
  unfold dqDownAt qTall zTall sTall qTallAt zTallAt sTallAt
  rw [h1, h2]
  congr 1
  · congr 2
    exact Fin.ext (by simp only [ix3]; omega)
  · congr 2
    · congr 1; exact Fin.ext (by simp only [ix3]; omega)
    · congr 2; exact Fin.ext (by simp only [ix3]; omega)

end Cert.Bridge
end
-- ==== Proof.RefDots.lean ====
module

public import proofs.«01_k».proof.Proof.RefWeights
public import proofs.«01_k».proof.Proof.Spec
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Bridge

open Idealize.ShloMosaic Idealize.ShloMosaic.TcCoe Idealize.ShloMosaic.Tactic
open Cert.ReferenceIdeal Cert.ReferenceIdeal.Read

open Cert.KernelIdeal.Gen (dqGateAt dqUpAt dqDownAt dqGateG dqUpG dqDownG diff shiftOf qWideAt qWide zWideAt zWide sWideAt sWide qTallAt qTall zTallAt zTall sTallAt sTall rows rowsAt normRow normG transG dotG dotTG hiddenG dgateG dupG outputG sigm dsTermAt dsG dsDownTermAt dsDownG ext_ix2 ext_ix3 groupWide groupTall hyper batchesAt specAct specGate specUp specDown specHidden specDGate specDUp specOut specDsGate specDsUp specDsDown)

/-- The logistic function with the negation written as such. -/
theorem sigm_neg (x : EReal) : sigm x = Ideal.div 1 (1 + Ideal.exp (-x)) := by
  unfold sigm
  rw [sub_eq_add_neg, zero_add]

/-- The input rows. -/
theorem refRows0 (x0 : S3x2048x4096.Idx → EReal) : val_main_v0 (F := Ideal) x0 = rows x0 := by
  refine ext_ix2 _ _ fun r k => ?_
  generalize hG : (rows x0) (ix2 r k) = G
  pointwise [val_main_v0]
  subst hG
  rfl
/-- The gradient rows. -/
theorem refRows1 (x1 : S3x2048x4096.Idx → EReal) : val_main_v1 (F := Ideal) x1 = rows x1 := by
  refine ext_ix2 _ _ fun r k => ?_
  generalize hG : (rows x1) (ix2 r k) = G
  pointwise [val_main_v1]
  subst hG
  rfl
/-- The normalised activations. -/
theorem refAct (x0 : S3x2048x4096.Idx → EReal) (x2 : S4096.Idx → EReal) : val_main_v126 (F := Ideal) x0 x2 = specAct x0 x2 := by
  refine ext_ix2 _ _ fun r k => ?_
  generalize hG : (specAct x0 x2) (ix2 r k) = G
  pointwise [val_main_v126, val_main_v125, val_main_v122, val_main_v124, val_main_v110, val_main_v121, val_main_v123, val_main_v120, val_main_v119, val_main_v118, val_main_cst_13, val_main_v117, val_main_v115, val_main_v116, val_main_v113, val_main_v114, val_main_cst_12, val_main_v112, val_main_cst_11, val_main_v111, val_main_cst]
  subst hG
  rw [refRows0]
  rfl
/-- A projection of the activations. -/
theorem refGate (x0 : S3x2048x4096.Idx → EReal) (x2 : S4096.Idx → EReal) (x3 : S11008x256.Idx → BitVec 32) (x4 : S11008x16.Idx → BitVec 8) (x5 : S11008x64.Idx → EReal) : val_main_v128 (F := Ideal) x0 x2 x3 x4 x5 = dotG (specAct x0 x2) (specGate x3 x4 x5) := by
  refine ext_ix2 _ _ fun r k => ?_
  generalize hG : (dotG (specAct x0 x2) (specGate x3 x4 x5)) (ix2 r k) = G
  pointwise [val_main_v128, val_main_v127]
  subst hG
  rw [refAct]
  refine (Finset.sum_congr rfl fun x _ => Finset.sum_congr rfl fun y _ => ?_).trans
    (sum_interleaved (N := 256) (fun j : Fin 4096 => specAct x0 x2 (ix2 r j) * dqGateAt (qWide x3) (zWide x4) (sWide x5) j k) rfl fun x y => by omega)
  rw [weightGate _ _ _ x k y ⟨y.val * 16 + x.val, by omega⟩ rfl]
/-- A projection of the activations. -/
theorem refUp (x0 : S3x2048x4096.Idx → EReal) (x2 : S4096.Idx → EReal) (x8 : S11008x256.Idx → BitVec 32) (x9 : S11008x16.Idx → BitVec 8) (x10 : S11008x64.Idx → EReal) : val_main_v130 (F := Ideal) x0 x2 x8 x9 x10 = dotG (specAct x0 x2) (specUp x8 x9 x10) := by
  refine ext_ix2 _ _ fun r k => ?_
  generalize hG : (dotG (specAct x0 x2) (specUp x8 x9 x10)) (ix2 r k) = G
  pointwise [val_main_v130, val_main_v129]
  subst hG
  rw [refAct]
  refine (Finset.sum_congr rfl fun x _ => Finset.sum_congr rfl fun y _ => ?_).trans
    (sum_interleaved (N := 256) (fun j : Fin 4096 => specAct x0 x2 (ix2 r j) * dqUpAt (qWide x8) (zWide x9) (sWide x10) j k) rfl fun x y => by omega)
  rw [weightUp _ _ _ x k y ⟨y.val * 16 + x.val, by omega⟩ rfl]
/-- The hidden activations. -/
theorem refHidden (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) : val_main_v139 (F := Ideal) x0 x2 x3 x4 x5 x8 x9 x10 = specHidden x0 x2 x3 x4 x5 x8 x9 x10 := by
  refine ext_ix2 _ _ fun r k => ?_
  generalize hG : (specHidden x0 x2 x3 x4 x5 x8 x9 x10) (ix2 r k) = G
  pointwise [val_main_v139, val_main_v138, val_main_v137, val_main_v136, val_main_v135, val_main_v134, val_main_cst_15, val_main_v133, val_main_v132, val_main_cst_14, val_main_v131]
  subst hG
  rw [refGate, refUp, ← sigm_neg]
  rfl
/-- The gradients sent back through the down projection. -/
theorem refBack (x1 : S3x2048x4096.Idx → EReal) (x13 : S4096x688.Idx → BitVec 32) (x14 : S4096x43.Idx → BitVec 8) (x15 : S4096x172.Idx → EReal) : val_main_v147 (F := Ideal) x1 x13 x14 x15 = dotTG (rows x1) (specDown x13 x14 x15) := by
  refine ext_ix2 _ _ fun r k => ?_
  generalize hG : (dotTG (rows x1) (specDown x13 x14 x15)) (ix2 r k) = G
  pointwise [val_main_v147, val_main_v146, val_main_v145]
  subst hG
  rw [refRows1]
  refine Finset.sum_congr rfl fun x _ => ?_
  rw [weightDown _ _ _ ⟨k.val % 16, by omega⟩ x ⟨k.val / 16, by omega⟩ k (by dsimp only; omega), mul_comm]
  rfl
/-- The gate gradients. -/
theorem refDGate (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v156 (F := Ideal) x0 x1 x2 x3 x4 x5 x8 x9 x10 x13 x14 x15 = specDGate x0 x1 x2 x3 x4 x5 x8 x9 x10 x13 x14 x15 := by
  refine ext_ix2 _ _ fun r k => ?_
  generalize hG : (specDGate x0 x1 x2 x3 x4 x5 x8 x9 x10 x13 x14 x15) (ix2 r k) = G
  pointwise [val_main_v156, val_main_v155, val_main_v149, val_main_v154, val_main_v148, val_main_v136, val_main_v153, val_main_v152, val_main_v135, val_main_v134, val_main_cst_17, val_main_v151, val_main_cst_15, val_main_v133, val_main_v132, val_main_v150, val_main_cst_14, val_main_v131, val_main_cst_16]
  subst hG
  rw [refGate, refUp, refBack, ← sigm_neg]
  rfl
/-- The up gradients. -/
theorem refDUp (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x13 : S4096x688.Idx → BitVec 32) (x14 : S4096x43.Idx → BitVec 8) (x15 : S4096x172.Idx → EReal) : val_main_v159 (F := Ideal) x0 x1 x2 x3 x4 x5 x13 x14 x15 = specDUp x0 x1 x2 x3 x4 x5 x13 x14 x15 := by
  refine ext_ix2 _ _ fun r k => ?_
  generalize hG : (specDUp x0 x1 x2 x3 x4 x5 x13 x14 x15) (ix2 r k) = G
  pointwise [val_main_v159, val_main_v158, val_main_v157, val_main_v136, val_main_v135, val_main_v134, val_main_cst_15, val_main_v133, val_main_v132, val_main_cst_14, val_main_v131]
  subst hG
  rw [refGate, refBack, ← sigm_neg]
  rfl
/-- The block output. -/
theorem refOut (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v143 (F := Ideal) x0 x2 x3 x4 x5 x8 x9 x10 x13 x14 x15 = specOut x0 x2 x3 x4 x5 x8 x9 x10 x13 x14 x15 := by
  refine ext_ix2 _ _ fun r k => ?_
  generalize hG : (specOut x0 x2 x3 x4 x5 x8 x9 x10 x13 x14 x15) (ix2 r k) = G
  pointwise [val_main_v143, val_main_v142, val_main_v110, val_main_v141, val_main_v140]
  subst hG
  rw [refHidden, refRows0]
  show _ = rows x0 (ix2 r k) + _
  congr 1
  refine (Finset.sum_congr rfl fun x _ => Finset.sum_congr rfl fun y _ => ?_).trans
    (sum_interleaved (N := 688) (fun j : Fin 11008 => specHidden x0 x2 x3 x4 x5 x8 x9 x10 (ix2 r j) * dqDownAt (qTall x13) (zTall x14) (sTall x15) j k) rfl fun x y => by omega)
  rw [weightDown _ _ _ x k y ⟨y.val * 16 + x.val, by omega⟩ rfl]

end Cert.Bridge
end
-- ==== Proof.RefDs.lean ====
module

public import proofs.«01_k».proof.Proof.RefDots
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Bridge

open Idealize.ShloMosaic Idealize.ShloMosaic.TcCoe Idealize.ShloMosaic.Tactic
open Cert.ReferenceIdeal Cert.ReferenceIdeal.Read

open Cert.KernelIdeal.Gen (dqGateAt dqUpAt dqDownAt dqGateG dqUpG dqDownG diff shiftOf qWideAt qWide zWideAt zWide sWideAt sWide qTallAt qTall zTallAt zTall sTallAt sTall rows rowsAt normRow normG transG dotG dotTG hiddenG dgateG dupG outputG sigm dsTermAt dsG dsDownTermAt dsDownG ext_ix2 ext_ix3 groupWide groupTall hyper batchesAt specAct specGate specUp specDown specHidden specDGate specDUp specOut specDsGate specDsUp specDsDown)

/-- One term of a gate scale gradient. -/
theorem dsTermGate (a : S6144x4096.Idx → EReal) (d : S6144x11008.Idx → EReal) (x3 : S11008x256.Idx → BitVec 32) (x4 : S11008x16.Idx → BitVec 8)
    (n : Fin 11008) (k : Fin 64) (j : Fin 4) (x : Fin 16) (h1 : (k.val * 4 + j.val) * 16 + x.val < 4096) (h2 : k.val * 4 + j.val < 256) :
    (∑ r : Fin 6144, a (ix2 r ⟨(k.val * 4 + j.val) * 16 + x.val, h1⟩) * d (ix2 r n)) * val_main_v31 (F := Ideal) x3 x4 (ix3 x n ⟨k.val * 4 + j.val, h2⟩)
      = dsTermAt (transG a) d (qWide x3) (zWide x4) ⟨k.val / 16, by omega⟩ ⟨k.val % 16, by omega⟩ n j x := by
  rw [diffGate]
  have hs : shiftOf ((k.val * 4 + j.val) / 4) = shiftOf (k.val % 16) := by
    unfold shiftOf
    rw [show (k.val * 4 + j.val) / 4 % 4 = k.val % 16 % 4 by omega]
  rw [hs]
  have e1 : (⟨(k.val * 4 + j.val) * 16 + x.val, h1⟩ : Fin 4096) = ⟨1024 * (k.val / 16) + (64 * (k.val % 16) + 16 * j.val + x.val), by omega⟩ := Fin.ext (by dsimp only; omega)
  have e2 : (⟨k.val * 4 + j.val, h2⟩ : Fin 256) = ⟨64 * (k.val / 16) + (4 * (k.val % 16) + j.val), by omega⟩ := Fin.ext (by dsimp only; omega)
  have e3 : (⟨(k.val * 4 + j.val) / 16, by omega⟩ : Fin 16) = ⟨4 * (k.val / 16) + k.val % 16 / 4, by omega⟩ := Fin.ext (by dsimp only; omega)
  refine congrArg₂ (fun p q : EReal => p * q) (Finset.sum_congr rfl fun r _ => ?_) ?_
  · exact congrArg (fun e : Fin 4096 => a (ix2 r e) * d (ix2 r n)) e1
  · exact congrArg₂ (fun (e : Fin 256) (f : Fin 16) => diff (x3 (ix2 n e)) (BitVec.setWidth 32 (x4 (ix2 n f))) x.val (shiftOf (k.val % 16))) e2 e3

/-- One term of a up scale gradient. -/
theorem dsTermUp (a : S6144x4096.Idx → EReal) (d : S6144x11008.Idx → EReal) (x8 : S11008x256.Idx → BitVec 32) (x9 : S11008x16.Idx → BitVec 8)
    (n : Fin 11008) (k : Fin 64) (j : Fin 4) (x : Fin 16) (h1 : (k.val * 4 + j.val) * 16 + x.val < 4096) (h2 : k.val * 4 + j.val < 256) :
    (∑ r : Fin 6144, a (ix2 r ⟨(k.val * 4 + j.val) * 16 + x.val, h1⟩) * d (ix2 r n)) * val_main_v67 (F := Ideal) x8 x9 (ix3 x n ⟨k.val * 4 + j.val, h2⟩)
      = dsTermAt (transG a) d (qWide x8) (zWide x9) ⟨k.val / 16, by omega⟩ ⟨k.val % 16, by omega⟩ n j x := by
  rw [diffUp]
  have hs : shiftOf ((k.val * 4 + j.val) / 4) = shiftOf (k.val % 16) := by
    unfold shiftOf
    rw [show (k.val * 4 + j.val) / 4 % 4 = k.val % 16 % 4 by omega]
  rw [hs]
  have e1 : (⟨(k.val * 4 + j.val) * 16 + x.val, h1⟩ : Fin 4096) = ⟨1024 * (k.val / 16) + (64 * (k.val % 16) + 16 * j.val + x.val), by omega⟩ := Fin.ext (by dsimp only; omega)
  have e2 : (⟨k.val * 4 + j.val, h2⟩ : Fin 256) = ⟨64 * (k.val / 16) + (4 * (k.val % 16) + j.val), by omega⟩ := Fin.ext (by dsimp only; omega)
  have e3 : (⟨(k.val * 4 + j.val) / 16, by omega⟩ : Fin 16) = ⟨4 * (k.val / 16) + k.val % 16 / 4, by omega⟩ := Fin.ext (by dsimp only; omega)
  refine congrArg₂ (fun p q : EReal => p * q) (Finset.sum_congr rfl fun r _ => ?_) ?_
  · exact congrArg (fun e : Fin 4096 => a (ix2 r e) * d (ix2 r n)) e1
  · exact congrArg₂ (fun (e : Fin 256) (f : Fin 16) => diff (x8 (ix2 n e)) (BitVec.setWidth 32 (x9 (ix2 n f))) x.val (shiftOf (k.val % 16))) e2 e3

/-- One term of a down scale gradient. -/
theorem dsTermDown (d : S6144x4096.Idx → EReal) (a : S6144x11008.Idx → EReal) (x13 : S4096x688.Idx → BitVec 32) (x14 : S4096x43.Idx → BitVec 8)
    (n : Fin 4096) (k : Fin 172) (j : Fin 4) (x : Fin 16) (h1 : (k.val * 4 + j.val) * 16 + x.val < 11008) (h2 : k.val * 4 + j.val < 688) :
    (∑ r : Fin 6144, a (ix2 r ⟨(k.val * 4 + j.val) * 16 + x.val, h1⟩) * d (ix2 r n)) * val_main_v103 (F := Ideal) x13 x14 (ix3 x n ⟨k.val * 4 + j.val, h2⟩)
      = dsDownTermAt (transG d) a (qTall x13) (zTall x14) ⟨k.val / 4, by omega⟩ ⟨k.val % 4, by omega⟩ n j x := by
  rw [diffDown]
  have hs : shiftOf ((k.val * 4 + j.val) / 4) = shiftOf (k.val % 4) := by
    unfold shiftOf
    rw [show (k.val * 4 + j.val) / 4 % 4 = k.val % 4 % 4 by omega]
  rw [hs]
  have e1 : (⟨(k.val * 4 + j.val) * 16 + x.val, h1⟩ : Fin 11008) = ⟨256 * (k.val / 4) + (64 * (k.val % 4) + 16 * j.val + x.val), by omega⟩ := Fin.ext (by dsimp only; omega)
  have e2 : (⟨k.val * 4 + j.val, h2⟩ : Fin 688) = ⟨16 * (k.val / 4) + (4 * (k.val % 4) + j.val), by omega⟩ := Fin.ext (by dsimp only; omega)
  have e3 : (⟨(k.val * 4 + j.val) / 16, by omega⟩ : Fin 43) = ⟨k.val / 4, by omega⟩ := Fin.ext (by dsimp only; omega)
  refine congrArg₂ (fun p q : EReal => p * q) (Finset.sum_congr rfl fun r _ => ?_) ?_
  · exact (congrArg (fun e : Fin 11008 => a (ix2 r e) * d (ix2 r n)) e1).trans (mul_comm _ _)
  · exact congrArg₂ (fun (e : Fin 688) (f : Fin 43) => diff (x13 (ix2 n e)) (BitVec.setWidth 32 (x14 (ix2 n f))) x.val (shiftOf (k.val % 4))) e2 e3

/-- The scale gradients. -/
theorem refDsGate (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) (n : Fin 11008) (k : Fin 64) : val_main_v174 (F := Ideal) x0 x1 x2 x3 x4 x5 x8 x9 x10 x13 x14 x15 (ix2 n k) = specDsGate x0 x1 x2 x3 x4 x5 x8 x9 x10 x13 x14 x15 (ix2 k n) := by
  generalize hG : (specDsGate x0 x1 x2 x3 x4 x5 x8 x9 x10 x13 x14 x15) (ix2 k n) = G
  pointwise [val_main_v174, val_main_v173, val_main_cst_21, val_main_v172, val_main_v171, val_main_cst_20, val_main_v170, val_main_v169, val_main_v168]
  subst hG
  rw [refAct, refDGate]
  unfold specDsGate dsG
  refine Finset.sum_comm.trans ?_
  refine Finset.sum_congr rfl fun x _ => ?_
  rw [Fin.sum_univ_four]
  exact congrArg₂ _ (congrArg₂ _ (congrArg₂ _ (dsTermGate _ _ _ _ n k 0 x _ _) (dsTermGate _ _ _ _ n k 1 x _ _)) (dsTermGate _ _ _ _ n k 2 x _ _)) (dsTermGate _ _ _ _ n k 3 x _ _)

/-- The scale gradients. -/
theorem refDsUp (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x13 : S4096x688.Idx → BitVec 32) (x14 : S4096x43.Idx → BitVec 8) (x15 : S4096x172.Idx → EReal) (n : Fin 11008) (k : Fin 64) : val_main_v181 (F := Ideal) x0 x1 x2 x3 x4 x5 x8 x9 x13 x14 x15 (ix2 n k) = specDsUp x0 x1 x2 x3 x4 x5 x8 x9 x13 x14 x15 (ix2 k n) := by
  generalize hG : (specDsUp x0 x1 x2 x3 x4 x5 x8 x9 x13 x14 x15) (ix2 k n) = G
  pointwise [val_main_v181, val_main_v180, val_main_cst_23, val_main_v179, val_main_v178, val_main_cst_22, val_main_v177, val_main_v176, val_main_v175]
  subst hG
  rw [refAct, refDUp]
  unfold specDsUp dsG
  refine Finset.sum_comm.trans ?_
  refine Finset.sum_congr rfl fun x _ => ?_
  rw [Fin.sum_univ_four]
  exact congrArg₂ _ (congrArg₂ _ (congrArg₂ _ (dsTermUp _ _ _ _ n k 0 x _ _) (dsTermUp _ _ _ _ n k 1 x _ _)) (dsTermUp _ _ _ _ n k 2 x _ _)) (dsTermUp _ _ _ _ n k 3 x _ _)

/-- The scale gradients. -/
theorem refDsDown (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (n : Fin 4096) (k : Fin 172) : val_main_v167 (F := Ideal) x0 x1 x2 x3 x4 x5 x8 x9 x10 x13 x14 (ix2 n k) = specDsDown x0 x1 x2 x3 x4 x5 x8 x9 x10 x13 x14 (ix2 k n) := by
  generalize hG : (specDsDown x0 x1 x2 x3 x4 x5 x8 x9 x10 x13 x14) (ix2 k n) = G
  pointwise [val_main_v167, val_main_v166, val_main_cst_19, val_main_v165, val_main_v164, val_main_cst_18, val_main_v163, val_main_v162, val_main_v161]
  subst hG
  rw [refHidden, refRows1]
  unfold specDsDown dsDownG
  refine Finset.sum_comm.trans ?_
  refine Finset.sum_congr rfl fun x _ => ?_
  rw [Fin.sum_univ_four]
  exact congrArg₂ _ (congrArg₂ _ (congrArg₂ _ (dsTermDown _ _ _ _ n k 0 x _ _) (dsTermDown _ _ _ _ n k 1 x _ _)) (dsTermDown _ _ _ _ n k 2 x _ _)) (dsTermDown _ _ _ _ n k 3 x _ _)

end Cert.Bridge
end
-- ==== Proof.RefResults.lean ====
module

public import proofs.«01_k».proof.Proof.RefDs
public import proofs.«01_k».proof.Proof.AdamGate
public import proofs.«01_k».proof.Proof.AdamUp
public import proofs.«01_k».proof.Proof.AdamDown
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Bridge

open Idealize.ShloMosaic Idealize.ShloMosaic.TcCoe Idealize.ShloMosaic.Tactic
open Cert.ReferenceIdeal Cert.ReferenceIdeal.Read

open Cert.KernelIdeal.Gen (hyper batchesAt ext_ix2 ext_ix3 momentOf varianceOf stepOf newScaleOf adamGateDs adamGateM adamGateV adamGateStep adamGateS adamUpDs adamUpM adamUpV adamUpStep adamUpS adamDownDs adamDownM adamDownV adamDownStep adamDownS specAct specGate specUp specDown specHidden specDGate specDUp specOut specDsGate specDsUp specDsDown)

/-- The result, split into batches. -/
theorem res_v144 (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v144 (F := Ideal) x0 x2 x3 x4 x5 x8 x9 x10 x13 x14 x15 = fun i : S3x2048x4096.Idx => batchesAt (n := 4096) (specOut x0 x2 x3 x4 x5 x8 x9 x10 x13 x14 x15) (i 0) (i 1) (i 2) := by
  refine ext_ix3 _ _ fun a r k => ?_
  generalize hG : (fun i : S3x2048x4096.Idx => batchesAt (n := 4096) (specOut x0 x2 x3 x4 x5 x8 x9 x10 x13 x14 x15) (i 0) (i 1) (i 2)) (ix3 a r k) = G
  pointwise [val_main_v144]
  subst hG
  rw [refOut]
  rfl

/-- The result, split into batches. -/
theorem res_v160 (x0 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) : val_main_v160 (F := Ideal) x0 x2 x3 x4 x5 x8 x9 x10 = fun i : S3x2048x11008.Idx => batchesAt (n := 11008) (specHidden x0 x2 x3 x4 x5 x8 x9 x10) (i 0) (i 1) (i 2) := by
  refine ext_ix3 _ _ fun a r k => ?_
  generalize hG : (fun i : S3x2048x11008.Idx => batchesAt (n := 11008) (specHidden x0 x2 x3 x4 x5 x8 x9 x10) (i 0) (i 1) (i 2)) (ix3 a r k) = G
  pointwise [val_main_v160]
  subst hG
  rw [refHidden]
  rfl

/-- One of the optimiser's results for the gate scales. -/
theorem res_v174 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v174 (F := Ideal) x0 x1 x2 x3 x4 x5 x8 x9 x10 x13 x14 x15 = adamGateDs (specDsGate x0 x1 x2 x3 x4 x5 x8 x9 x10 x13 x14 x15) := by
  refine ext_ix2 _ _ fun n k => ?_
  rw [refDsGate]
  rfl

/-- One of the optimiser's results for the gate scales. -/
theorem res_v190 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x6 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v190 (F := Ideal) x0 x1 x2 x3 x4 x5 x6 x8 x9 x10 x13 x14 x15 = adamGateM (specDsGate x0 x1 x2 x3 x4 x5 x8 x9 x10 x13 x14 x15) x6 := by
  refine ext_ix2 _ _ fun n k => ?_
  generalize hG : (adamGateM (specDsGate x0 x1 x2 x3 x4 x5 x8 x9 x10 x13 x14 x15) x6) (ix2 n k) = G
  pointwise [val_main_v190, val_main_v187, val_main_v189, val_main_v186, val_main_v188, val_main_cst_24, val_main_cst_25]
  subst hG
  rw [refDsGate]
  rfl

/-- One of the optimiser's results for the gate scales. -/
theorem res_v196 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x7 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) : val_main_v196 (F := Ideal) x0 x1 x2 x3 x4 x5 x7 x8 x9 x10 x13 x14 x15 = adamGateV (specDsGate x0 x1 x2 x3 x4 x5 x8 x9 x10 x13 x14 x15) x7 := by
  refine ext_ix2 _ _ fun n k => ?_
  generalize hG : (adamGateV (specDsGate x0 x1 x2 x3 x4 x5 x8 x9 x10 x13 x14 x15) x7) (ix2 n k) = G
  pointwise [val_main_v196, val_main_v192, val_main_v195, val_main_v191, val_main_v194, val_main_v193, val_main_cst_26, val_main_cst_27]
  subst hG
  rw [refDsGate]
  rfl

/-- One of the optimiser's results for the gate scales. -/
theorem res_v206 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x6 : S11008x64.Idx → EReal) (x7 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) (x18 : S3.Idx → EReal) (x19 : S3.Idx → EReal) (x20 : S_.Idx → EReal) (x21 : S_.Idx → EReal) : val_main_v206 (F := Ideal) x0 x1 x2 x3 x4 x5 x6 x7 x8 x9 x10 x13 x14 x15 x18 x19 x20 x21 = adamGateStep (hyper x18 x19 x20 x21 0) (specDsGate x0 x1 x2 x3 x4 x5 x8 x9 x10 x13 x14 x15) x6 x7 := by
  refine ext_ix2 _ _ fun n k => ?_
  generalize hG : (adamGateStep (hyper x18 x19 x20 x21 0) (specDsGate x0 x1 x2 x3 x4 x5 x8 x9 x10 x13 x14 x15) x6 x7) (ix2 n k) = G
  pointwise [val_main_v206, val_main_v200, val_main_v205, val_main_v199, val_main_v198, val_main_v203, val_main_v204, val_main_v183, val_main_v197, val_main_v202, val_main_v185, val_main_v182, val_main_v201, val_main_v184]
  subst hG
  rw [res_v190, res_v196]
  rfl

/-- One of the optimiser's results for the gate scales. -/
theorem res_v207 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x6 : S11008x64.Idx → EReal) (x7 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) (x18 : S3.Idx → EReal) (x19 : S3.Idx → EReal) (x20 : S_.Idx → EReal) (x21 : S_.Idx → EReal) : val_main_v207 (F := Ideal) x0 x1 x2 x3 x4 x5 x6 x7 x8 x9 x10 x13 x14 x15 x18 x19 x20 x21 = adamGateS (hyper x18 x19 x20 x21 0) (specDsGate x0 x1 x2 x3 x4 x5 x8 x9 x10 x13 x14 x15) x5 x6 x7 := by
  refine ext_ix2 _ _ fun n k => ?_
  generalize hG : (adamGateS (hyper x18 x19 x20 x21 0) (specDsGate x0 x1 x2 x3 x4 x5 x8 x9 x10 x13 x14 x15) x5 x6 x7) (ix2 n k) = G
  pointwise [val_main_v207]
  subst hG
  rw [res_v206]
  rfl

/-- One of the optimiser's results for the up scales. -/
theorem res_v181 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x13 : S4096x688.Idx → BitVec 32) (x14 : S4096x43.Idx → BitVec 8) (x15 : S4096x172.Idx → EReal) : val_main_v181 (F := Ideal) x0 x1 x2 x3 x4 x5 x8 x9 x13 x14 x15 = adamUpDs (specDsUp x0 x1 x2 x3 x4 x5 x8 x9 x13 x14 x15) := by
  refine ext_ix2 _ _ fun n k => ?_
  rw [refDsUp]
  rfl

/-- One of the optimiser's results for the up scales. -/
theorem res_v216 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x11 : S11008x64.Idx → EReal) (x13 : S4096x688.Idx → BitVec 32) (x14 : S4096x43.Idx → BitVec 8) (x15 : S4096x172.Idx → EReal) : val_main_v216 (F := Ideal) x0 x1 x2 x3 x4 x5 x8 x9 x11 x13 x14 x15 = adamUpM (specDsUp x0 x1 x2 x3 x4 x5 x8 x9 x13 x14 x15) x11 := by
  refine ext_ix2 _ _ fun n k => ?_
  generalize hG : (adamUpM (specDsUp x0 x1 x2 x3 x4 x5 x8 x9 x13 x14 x15) x11) (ix2 n k) = G
  pointwise [val_main_v216, val_main_v213, val_main_v215, val_main_v212, val_main_v214, val_main_cst_28, val_main_cst_29]
  subst hG
  rw [refDsUp]
  rfl

/-- One of the optimiser's results for the up scales. -/
theorem res_v222 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x12 : S11008x64.Idx → EReal) (x13 : S4096x688.Idx → BitVec 32) (x14 : S4096x43.Idx → BitVec 8) (x15 : S4096x172.Idx → EReal) : val_main_v222 (F := Ideal) x0 x1 x2 x3 x4 x5 x8 x9 x12 x13 x14 x15 = adamUpV (specDsUp x0 x1 x2 x3 x4 x5 x8 x9 x13 x14 x15) x12 := by
  refine ext_ix2 _ _ fun n k => ?_
  generalize hG : (adamUpV (specDsUp x0 x1 x2 x3 x4 x5 x8 x9 x13 x14 x15) x12) (ix2 n k) = G
  pointwise [val_main_v222, val_main_v218, val_main_v221, val_main_v217, val_main_v220, val_main_v219, val_main_cst_30, val_main_cst_31]
  subst hG
  rw [refDsUp]
  rfl

/-- One of the optimiser's results for the up scales. -/
theorem res_v232 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x11 : S11008x64.Idx → EReal) (x12 : S11008x64.Idx → EReal) (x13 : S4096x688.Idx → BitVec 32) (x14 : S4096x43.Idx → BitVec 8) (x15 : S4096x172.Idx → EReal) (x18 : S3.Idx → EReal) (x19 : S3.Idx → EReal) (x20 : S_.Idx → EReal) (x21 : S_.Idx → EReal) : val_main_v232 (F := Ideal) x0 x1 x2 x3 x4 x5 x8 x9 x11 x12 x13 x14 x15 x18 x19 x20 x21 = adamUpStep (hyper x18 x19 x20 x21 1) (specDsUp x0 x1 x2 x3 x4 x5 x8 x9 x13 x14 x15) x11 x12 := by
  refine ext_ix2 _ _ fun n k => ?_
  generalize hG : (adamUpStep (hyper x18 x19 x20 x21 1) (specDsUp x0 x1 x2 x3 x4 x5 x8 x9 x13 x14 x15) x11 x12) (ix2 n k) = G
  pointwise [val_main_v232, val_main_v226, val_main_v231, val_main_v225, val_main_v224, val_main_v229, val_main_v230, val_main_v209, val_main_v223, val_main_v228, val_main_v211, val_main_v208, val_main_v227, val_main_v210]
  subst hG
  rw [res_v216, res_v222]
  rfl

/-- One of the optimiser's results for the up scales. -/
theorem res_v233 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x11 : S11008x64.Idx → EReal) (x12 : S11008x64.Idx → EReal) (x13 : S4096x688.Idx → BitVec 32) (x14 : S4096x43.Idx → BitVec 8) (x15 : S4096x172.Idx → EReal) (x18 : S3.Idx → EReal) (x19 : S3.Idx → EReal) (x20 : S_.Idx → EReal) (x21 : S_.Idx → EReal) : val_main_v233 (F := Ideal) x0 x1 x2 x3 x4 x5 x8 x9 x10 x11 x12 x13 x14 x15 x18 x19 x20 x21 = adamUpS (hyper x18 x19 x20 x21 1) (specDsUp x0 x1 x2 x3 x4 x5 x8 x9 x13 x14 x15) x10 x11 x12 := by
  refine ext_ix2 _ _ fun n k => ?_
  generalize hG : (adamUpS (hyper x18 x19 x20 x21 1) (specDsUp x0 x1 x2 x3 x4 x5 x8 x9 x13 x14 x15) x10 x11 x12) (ix2 n k) = G
  pointwise [val_main_v233]
  subst hG
  rw [res_v232]
  rfl

/-- One of the optimiser's results for the down scales. -/
theorem res_v167 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) : val_main_v167 (F := Ideal) x0 x1 x2 x3 x4 x5 x8 x9 x10 x13 x14 = adamDownDs (specDsDown x0 x1 x2 x3 x4 x5 x8 x9 x10 x13 x14) := by
  refine ext_ix2 _ _ fun n k => ?_
  rw [refDsDown]
  rfl

/-- One of the optimiser's results for the down scales. -/
theorem res_v242 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x16 : S4096x172.Idx → EReal) : val_main_v242 (F := Ideal) x0 x1 x2 x3 x4 x5 x8 x9 x10 x13 x14 x16 = adamDownM (specDsDown x0 x1 x2 x3 x4 x5 x8 x9 x10 x13 x14) x16 := by
  refine ext_ix2 _ _ fun n k => ?_
  generalize hG : (adamDownM (specDsDown x0 x1 x2 x3 x4 x5 x8 x9 x10 x13 x14) x16) (ix2 n k) = G
  pointwise [val_main_v242, val_main_v239, val_main_v241, val_main_v238, val_main_v240, val_main_cst_32, val_main_cst_33]
  subst hG
  rw [refDsDown]
  rfl

/-- One of the optimiser's results for the down scales. -/
theorem res_v248 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x17 : S4096x172.Idx → EReal) : val_main_v248 (F := Ideal) x0 x1 x2 x3 x4 x5 x8 x9 x10 x13 x14 x17 = adamDownV (specDsDown x0 x1 x2 x3 x4 x5 x8 x9 x10 x13 x14) x17 := by
  refine ext_ix2 _ _ fun n k => ?_
  generalize hG : (adamDownV (specDsDown x0 x1 x2 x3 x4 x5 x8 x9 x10 x13 x14) x17) (ix2 n k) = G
  pointwise [val_main_v248, val_main_v244, val_main_v247, val_main_v243, val_main_v246, val_main_v245, val_main_cst_34, val_main_cst_35]
  subst hG
  rw [refDsDown]
  rfl

/-- One of the optimiser's results for the down scales. -/
theorem res_v258 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x16 : S4096x172.Idx → EReal) (x17 : S4096x172.Idx → EReal) (x18 : S3.Idx → EReal) (x19 : S3.Idx → EReal) (x20 : S_.Idx → EReal) (x21 : S_.Idx → EReal) : val_main_v258 (F := Ideal) x0 x1 x2 x3 x4 x5 x8 x9 x10 x13 x14 x16 x17 x18 x19 x20 x21 = adamDownStep (hyper x18 x19 x20 x21 2) (specDsDown x0 x1 x2 x3 x4 x5 x8 x9 x10 x13 x14) x16 x17 := by
  refine ext_ix2 _ _ fun n k => ?_
  generalize hG : (adamDownStep (hyper x18 x19 x20 x21 2) (specDsDown x0 x1 x2 x3 x4 x5 x8 x9 x10 x13 x14) x16 x17) (ix2 n k) = G
  pointwise [val_main_v258, val_main_v252, val_main_v257, val_main_v251, val_main_v250, val_main_v255, val_main_v256, val_main_v235, val_main_v249, val_main_v254, val_main_v237, val_main_v234, val_main_v253, val_main_v236]
  subst hG
  rw [res_v242, res_v248]
  rfl

/-- One of the optimiser's results for the down scales. -/
theorem res_v259 (x0 : S3x2048x4096.Idx → EReal) (x1 : S3x2048x4096.Idx → EReal) (x2 : S4096.Idx → EReal) (x3 : S11008x256.Idx → BitVec 32) (x4 : S11008x16.Idx → BitVec 8) (x5 : S11008x64.Idx → EReal) (x8 : S11008x256.Idx → BitVec 32) (x9 : S11008x16.Idx → BitVec 8) (x10 : S11008x64.Idx → EReal) (x13 : S4096x688.Idx → BitVec 32) (x14 : S4096x43.Idx → BitVec 8) (x15 : S4096x172.Idx → EReal) (x16 : S4096x172.Idx → EReal) (x17 : S4096x172.Idx → EReal) (x18 : S3.Idx → EReal) (x19 : S3.Idx → EReal) (x20 : S_.Idx → EReal) (x21 : S_.Idx → EReal) : val_main_v259 (F := Ideal) x0 x1 x2 x3 x4 x5 x8 x9 x10 x13 x14 x15 x16 x17 x18 x19 x20 x21 = adamDownS (hyper x18 x19 x20 x21 2) (specDsDown x0 x1 x2 x3 x4 x5 x8 x9 x10 x13 x14) x15 x16 x17 := by
  refine ext_ix2 _ _ fun n k => ?_
  generalize hG : (adamDownS (hyper x18 x19 x20 x21 2) (specDsDown x0 x1 x2 x3 x4 x5 x8 x9 x10 x13 x14) x15 x16 x17) (ix2 n k) = G
  pointwise [val_main_v259]
  subst hG
  rw [res_v258]
  rfl

end Cert.Bridge
end
-- ==== Proof.AlgebraicMain.lean ====
module

public import proofs.«01_k».proof.Proof.KernelRun
public import proofs.«01_k».proof.Proof.RefResults
public import proofs.«01_k».proof.Proof.Gen.ReferenceIdeal.Run
public import proofs.«01_k».proof.Defs

@[expose] public section

set_option maxRecDepth 16384
set_option maxHeartbeats 8000000

noncomputable section

namespace Cert.Bridge

open Idealize.ShloMosaic Idealize.ShloMosaic.TcCoe Idealize.SL.Sem
open Cert.KernelIdeal.Gen (hyper batchesAt adamGateDs adamGateM adamGateV adamGateStep adamGateS adamUpDs adamUpM adamUpV adamUpStep adamUpS adamDownDs adamDownM adamDownV adamDownStep adamDownS specAct specGate specUp specDown specHidden specDGate specDUp specOut specDsGate specDsUp specDsDown)

/-- The reference's result at arguments equal to the kernel's. -/
theorem at_v144 {y0 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h2 : y2 = x2) (h3 : y3 = x3) (h4 : y4 = x4) (h5 : y5 = x5) (h8 : y8 = x8) (h9 : y9 = x9) (h10 : y10 = x10) (h13 : y13 = x13) (h14 : y14 = x14) (h15 : y15 = x15) :
    Cert.ReferenceIdeal.Read.val_main_v144 (F := Ideal) y0 y2 y3 y4 y5 y8 y9 y10 y13 y14 y15 = fun i : Cert.KernelIdeal.S3x2048x4096.Idx => batchesAt (n := 4096) (specOut x0 x2 x3 x4 x5 x8 x9 x10 x13 x14 x15) (i 0) (i 1) (i 2) := by
  subst h0 h2 h3 h4 h5 h8 h9 h10 h13 h14 h15
  exact res_v144 _ _ _ _ _ _ _ _ _ _ _

/-- The reference's result at arguments equal to the kernel's. -/
theorem at_v160 {y0 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {x0 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} (h0 : y0 = x0) (h2 : y2 = x2) (h3 : y3 = x3) (h4 : y4 = x4) (h5 : y5 = x5) (h8 : y8 = x8) (h9 : y9 = x9) (h10 : y10 = x10) :
    Cert.ReferenceIdeal.Read.val_main_v160 (F := Ideal) y0 y2 y3 y4 y5 y8 y9 y10 = fun i : Cert.KernelIdeal.S3x2048x11008.Idx => batchesAt (n := 11008) (specHidden x0 x2 x3 x4 x5 x8 x9 x10) (i 0) (i 1) (i 2) := by
  subst h0 h2 h3 h4 h5 h8 h9 h10
  exact res_v160 _ _ _ _ _ _ _ _

/-- The reference's result at arguments equal to the kernel's. -/
theorem at_v174 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) (h15 : y15 = x15) :
    Cert.ReferenceIdeal.Read.val_main_v174 (F := Ideal) y0 y1 y2 y3 y4 y5 y8 y9 y10 y13 y14 y15 = adamGateDs (specDsGate x0 x1 x2 x3 x4 x5 x8 x9 x10 x13 x14 x15) := by
  subst h0 h1 h2 h3 h4 h5 h8 h9 h10 h13 h14 h15
  exact res_v174 _ _ _ _ _ _ _ _ _ _ _ _

/-- The reference's result at arguments equal to the kernel's. -/
theorem at_v206 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y6 : Cert.ReferenceIdeal.S11008x64.Idx → EReal} {y7 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x6 : Cert.KernelIdeal.S11008x64.Idx → EReal} {x7 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h13 : y13 = x13) (h14 : y14 = x14) (h15 : y15 = x15) (h18 : y18 = x18) (h19 : y19 = x19) (h20 : y20 = x20) (h21 : y21 = x21) :
    Cert.ReferenceIdeal.Read.val_main_v206 (F := Ideal) y0 y1 y2 y3 y4 y5 y6 y7 y8 y9 y10 y13 y14 y15 y18 y19 y20 y21 = adamGateStep (hyper x18 x19 x20 x21 0) (specDsGate x0 x1 x2 x3 x4 x5 x8 x9 x10 x13 x14 x15) x6 x7 := by
  subst h0 h1 h2 h3 h4 h5 h6 h7 h8 h9 h10 h13 h14 h15 h18 h19 h20 h21
  exact res_v206 _ _ _ _ _ _ _ _ _ _ _ _ _ _ _ _ _ _

/-- The reference's result at arguments equal to the kernel's. -/
theorem at_v207 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y6 : Cert.ReferenceIdeal.S11008x64.Idx → EReal} {y7 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x6 : Cert.KernelIdeal.S11008x64.Idx → EReal} {x7 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h13 : y13 = x13) (h14 : y14 = x14) (h15 : y15 = x15) (h18 : y18 = x18) (h19 : y19 = x19) (h20 : y20 = x20) (h21 : y21 = x21) :
    Cert.ReferenceIdeal.Read.val_main_v207 (F := Ideal) y0 y1 y2 y3 y4 y5 y6 y7 y8 y9 y10 y13 y14 y15 y18 y19 y20 y21 = adamGateS (hyper x18 x19 x20 x21 0) (specDsGate x0 x1 x2 x3 x4 x5 x8 x9 x10 x13 x14 x15) x5 x6 x7 := by
  subst h0 h1 h2 h3 h4 h5 h6 h7 h8 h9 h10 h13 h14 h15 h18 h19 h20 h21
  exact res_v207 _ _ _ _ _ _ _ _ _ _ _ _ _ _ _ _ _ _

/-- The reference's result at arguments equal to the kernel's. -/
theorem at_v190 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y6 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x6 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h6 : y6 = x6) (h8 : y8 = x8) (h9 : y9 = x9) (h10 : y10 = x10) (h13 : y13 = x13) (h14 : y14 = x14) (h15 : y15 = x15) :
    Cert.ReferenceIdeal.Read.val_main_v190 (F := Ideal) y0 y1 y2 y3 y4 y5 y6 y8 y9 y10 y13 y14 y15 = adamGateM (specDsGate x0 x1 x2 x3 x4 x5 x8 x9 x10 x13 x14 x15) x6 := by
  subst h0 h1 h2 h3 h4 h5 h6 h8 h9 h10 h13 h14 h15
  exact res_v190 _ _ _ _ _ _ _ _ _ _ _ _ _

/-- The reference's result at arguments equal to the kernel's. -/
theorem at_v196 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y7 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x7 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h7 : y7 = x7) (h8 : y8 = x8) (h9 : y9 = x9) (h10 : y10 = x10) (h13 : y13 = x13) (h14 : y14 = x14) (h15 : y15 = x15) :
    Cert.ReferenceIdeal.Read.val_main_v196 (F := Ideal) y0 y1 y2 y3 y4 y5 y7 y8 y9 y10 y13 y14 y15 = adamGateV (specDsGate x0 x1 x2 x3 x4 x5 x8 x9 x10 x13 x14 x15) x7 := by
  subst h0 h1 h2 h3 h4 h5 h7 h8 h9 h10 h13 h14 h15
  exact res_v196 _ _ _ _ _ _ _ _ _ _ _ _ _

/-- The reference's result at arguments equal to the kernel's. -/
theorem at_v181 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h13 : y13 = x13) (h14 : y14 = x14) (h15 : y15 = x15) :
    Cert.ReferenceIdeal.Read.val_main_v181 (F := Ideal) y0 y1 y2 y3 y4 y5 y8 y9 y13 y14 y15 = adamUpDs (specDsUp x0 x1 x2 x3 x4 x5 x8 x9 x13 x14 x15) := by
  subst h0 h1 h2 h3 h4 h5 h8 h9 h13 h14 h15
  exact res_v181 _ _ _ _ _ _ _ _ _ _ _

/-- The reference's result at arguments equal to the kernel's. -/
theorem at_v232 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y11 : Cert.ReferenceIdeal.S11008x64.Idx → EReal} {y12 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x11 : Cert.KernelIdeal.S11008x64.Idx → EReal} {x12 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h8 : y8 = x8) (h9 : y9 = x9) (h11 : y11 = x11) (h12 : y12 = x12) (h13 : y13 = x13) (h14 : y14 = x14) (h15 : y15 = x15) (h18 : y18 = x18) (h19 : y19 = x19) (h20 : y20 = x20) (h21 : y21 = x21) :
    Cert.ReferenceIdeal.Read.val_main_v232 (F := Ideal) y0 y1 y2 y3 y4 y5 y8 y9 y11 y12 y13 y14 y15 y18 y19 y20 y21 = adamUpStep (hyper x18 x19 x20 x21 1) (specDsUp x0 x1 x2 x3 x4 x5 x8 x9 x13 x14 x15) x11 x12 := by
  subst h0 h1 h2 h3 h4 h5 h8 h9 h11 h12 h13 h14 h15 h18 h19 h20 h21
  exact res_v232 _ _ _ _ _ _ _ _ _ _ _ _ _ _ _ _ _

/-- The reference's result at arguments equal to the kernel's. -/
theorem at_v233 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y11 : Cert.ReferenceIdeal.S11008x64.Idx → EReal} {y12 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x11 : Cert.KernelIdeal.S11008x64.Idx → EReal} {x12 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h8 : y8 = x8) (h9 : y9 = x9) (h10 : y10 = x10) (h11 : y11 = x11) (h12 : y12 = x12) (h13 : y13 = x13) (h14 : y14 = x14) (h15 : y15 = x15) (h18 : y18 = x18) (h19 : y19 = x19) (h20 : y20 = x20) (h21 : y21 = x21) :
    Cert.ReferenceIdeal.Read.val_main_v233 (F := Ideal) y0 y1 y2 y3 y4 y5 y8 y9 y10 y11 y12 y13 y14 y15 y18 y19 y20 y21 = adamUpS (hyper x18 x19 x20 x21 1) (specDsUp x0 x1 x2 x3 x4 x5 x8 x9 x13 x14 x15) x10 x11 x12 := by
  subst h0 h1 h2 h3 h4 h5 h8 h9 h10 h11 h12 h13 h14 h15 h18 h19 h20 h21
  exact res_v233 _ _ _ _ _ _ _ _ _ _ _ _ _ _ _ _ _ _

/-- The reference's result at arguments equal to the kernel's. -/
theorem at_v216 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y11 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x11 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h11 : y11 = x11) (h13 : y13 = x13) (h14 : y14 = x14) (h15 : y15 = x15) :
    Cert.ReferenceIdeal.Read.val_main_v216 (F := Ideal) y0 y1 y2 y3 y4 y5 y8 y9 y11 y13 y14 y15 = adamUpM (specDsUp x0 x1 x2 x3 x4 x5 x8 x9 x13 x14 x15) x11 := by
  subst h0 h1 h2 h3 h4 h5 h8 h9 h11 h13 h14 h15
  exact res_v216 _ _ _ _ _ _ _ _ _ _ _ _

/-- The reference's result at arguments equal to the kernel's. -/
theorem at_v222 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y12 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x12 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h12 : y12 = x12) (h13 : y13 = x13) (h14 : y14 = x14) (h15 : y15 = x15) :
    Cert.ReferenceIdeal.Read.val_main_v222 (F := Ideal) y0 y1 y2 y3 y4 y5 y8 y9 y12 y13 y14 y15 = adamUpV (specDsUp x0 x1 x2 x3 x4 x5 x8 x9 x13 x14 x15) x12 := by
  subst h0 h1 h2 h3 h4 h5 h8 h9 h12 h13 h14 h15
  exact res_v222 _ _ _ _ _ _ _ _ _ _ _ _

/-- The reference's result at arguments equal to the kernel's. -/
theorem at_v167 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) :
    Cert.ReferenceIdeal.Read.val_main_v167 (F := Ideal) y0 y1 y2 y3 y4 y5 y8 y9 y10 y13 y14 = adamDownDs (specDsDown x0 x1 x2 x3 x4 x5 x8 x9 x10 x13 x14) := by
  subst h0 h1 h2 h3 h4 h5 h8 h9 h10 h13 h14
  exact res_v167 _ _ _ _ _ _ _ _ _ _ _

/-- The reference's result at arguments equal to the kernel's. -/
theorem at_v258 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y16 : Cert.ReferenceIdeal.S4096x172.Idx → EReal} {y17 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x16 : Cert.KernelIdeal.S4096x172.Idx → EReal} {x17 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) (h16 : y16 = x16) (h17 : y17 = x17) (h18 : y18 = x18) (h19 : y19 = x19) (h20 : y20 = x20) (h21 : y21 = x21) :
    Cert.ReferenceIdeal.Read.val_main_v258 (F := Ideal) y0 y1 y2 y3 y4 y5 y8 y9 y10 y13 y14 y16 y17 y18 y19 y20 y21 = adamDownStep (hyper x18 x19 x20 x21 2) (specDsDown x0 x1 x2 x3 x4 x5 x8 x9 x10 x13 x14) x16 x17 := by
  subst h0 h1 h2 h3 h4 h5 h8 h9 h10 h13 h14 h16 h17 h18 h19 h20 h21
  exact res_v258 _ _ _ _ _ _ _ _ _ _ _ _ _ _ _ _ _

/-- The reference's result at arguments equal to the kernel's. -/
theorem at_v259 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y15 : Cert.ReferenceIdeal.S4096x172.Idx → EReal} {y16 : Cert.ReferenceIdeal.S4096x172.Idx → EReal} {y17 : Cert.ReferenceIdeal.S4096x172.Idx → EReal} {y18 : Cert.ReferenceIdeal.S3.Idx → EReal} {y19 : Cert.ReferenceIdeal.S3.Idx → EReal} {y20 : Cert.ReferenceIdeal.S_.Idx → EReal} {y21 : Cert.ReferenceIdeal.S_.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x15 : Cert.KernelIdeal.S4096x172.Idx → EReal} {x16 : Cert.KernelIdeal.S4096x172.Idx → EReal} {x17 : Cert.KernelIdeal.S4096x172.Idx → EReal} {x18 : Cert.KernelIdeal.S3.Idx → EReal} {x19 : Cert.KernelIdeal.S3.Idx → EReal} {x20 : Cert.KernelIdeal.S_.Idx → EReal} {x21 : Cert.KernelIdeal.S_.Idx → EReal} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) (h15 : y15 = x15) (h16 : y16 = x16) (h17 : y17 = x17) (h18 : y18 = x18) (h19 : y19 = x19) (h20 : y20 = x20) (h21 : y21 = x21) :
    Cert.ReferenceIdeal.Read.val_main_v259 (F := Ideal) y0 y1 y2 y3 y4 y5 y8 y9 y10 y13 y14 y15 y16 y17 y18 y19 y20 y21 = adamDownS (hyper x18 x19 x20 x21 2) (specDsDown x0 x1 x2 x3 x4 x5 x8 x9 x10 x13 x14) x15 x16 x17 := by
  subst h0 h1 h2 h3 h4 h5 h8 h9 h10 h13 h14 h15 h16 h17 h18 h19 h20 h21
  exact res_v259 _ _ _ _ _ _ _ _ _ _ _ _ _ _ _ _ _ _

/-- The reference's result at arguments equal to the kernel's. -/
theorem at_v242 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y16 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x16 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) (h16 : y16 = x16) :
    Cert.ReferenceIdeal.Read.val_main_v242 (F := Ideal) y0 y1 y2 y3 y4 y5 y8 y9 y10 y13 y14 y16 = adamDownM (specDsDown x0 x1 x2 x3 x4 x5 x8 x9 x10 x13 x14) x16 := by
  subst h0 h1 h2 h3 h4 h5 h8 h9 h10 h13 h14 h16
  exact res_v242 _ _ _ _ _ _ _ _ _ _ _ _

/-- The reference's result at arguments equal to the kernel's. -/
theorem at_v248 {y0 : Cert.ReferenceIdeal.S3x2048x4096.Idx → EReal} {y1 : Cert.ReferenceIdeal.S3x2048x4096.Idx → EReal} {y2 : Cert.ReferenceIdeal.S4096.Idx → EReal} {y3 : Cert.ReferenceIdeal.S11008x256.Idx → BitVec 32} {y4 : Cert.ReferenceIdeal.S11008x16.Idx → BitVec 8} {y5 : Cert.ReferenceIdeal.S11008x64.Idx → EReal} {y8 : Cert.ReferenceIdeal.S11008x256.Idx → BitVec 32} {y9 : Cert.ReferenceIdeal.S11008x16.Idx → BitVec 8} {y10 : Cert.ReferenceIdeal.S11008x64.Idx → EReal} {y13 : Cert.ReferenceIdeal.S4096x688.Idx → BitVec 32} {y14 : Cert.ReferenceIdeal.S4096x43.Idx → BitVec 8} {y17 : Cert.ReferenceIdeal.S4096x172.Idx → EReal} {x0 : Cert.KernelIdeal.S3x2048x4096.Idx → EReal} {x1 : Cert.KernelIdeal.S3x2048x4096.Idx → EReal} {x2 : Cert.KernelIdeal.S4096.Idx → EReal} {x3 : Cert.KernelIdeal.S11008x256.Idx → BitVec 32} {x4 : Cert.KernelIdeal.S11008x16.Idx → BitVec 8} {x5 : Cert.KernelIdeal.S11008x64.Idx → EReal} {x8 : Cert.KernelIdeal.S11008x256.Idx → BitVec 32} {x9 : Cert.KernelIdeal.S11008x16.Idx → BitVec 8} {x10 : Cert.KernelIdeal.S11008x64.Idx → EReal} {x13 : Cert.KernelIdeal.S4096x688.Idx → BitVec 32} {x14 : Cert.KernelIdeal.S4096x43.Idx → BitVec 8} {x17 : Cert.KernelIdeal.S4096x172.Idx → EReal} (h0 : y0 = x0) (h1 : y1 = x1) (h2 : y2 = x2) (h3 : y3 = x3) (h4 : y4 = x4) (h5 : y5 = x5) (h8 : y8 = x8) (h9 : y9 = x9) (h10 : y10 = x10) (h13 : y13 = x13) (h14 : y14 = x14) (h17 : y17 = x17) :
    Cert.ReferenceIdeal.Read.val_main_v248 (F := Ideal) y0 y1 y2 y3 y4 y5 y8 y9 y10 y13 y14 y17 = adamDownV (specDsDown x0 x1 x2 x3 x4 x5 x8 x9 x10 x13 x14) x17 := by
  subst h0 h1 h2 h3 h4 h5 h8 h9 h10 h13 h14 h17
  exact res_v248 _ _ _ _ _ _ _ _ _ _ _ _

theorem algebraic : @Cert.algebraic_KernelIdeal_ReferenceIdeal Cert.KernelIdeal.Gen.facts Cert.ReferenceIdeal.Gen.facts := by
  intro m g m' g' _ hargs
  refine ⟨fun c => fun i : Cert.KernelIdeal.S3x2048x4096.Idx => batchesAt (n := 4096) (specOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (i 0) (i 1) (i 2), fun c => fun i : Cert.KernelIdeal.S3x2048x11008.Idx => batchesAt (n := 11008) (specHidden (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (i 0) (i 1) (i 2), fun c => adamGateDs (specDsGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))), fun c => adamGateStep (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 0) (specDsGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => adamGateS (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 0) (specDsGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => adamGateM (specDsGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg6)), fun c => adamGateV (specDsGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg7)), fun c => adamUpDs (specDsUp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))), fun c => adamUpStep (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 1) (specDsUp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => adamUpS (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 1) (specDsUp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => adamUpM (specDsUp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg11)), fun c => adamUpV (specDsUp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg12)), fun c => adamDownDs (specDsDown (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))), fun c => adamDownStep (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 2) (specDsDown (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), fun c => adamDownS (hyper (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) 2) (specDsDown (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), fun c => adamDownM (specDsDown (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg16)), fun c => adamDownV (specDsDown (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg17)), (θ_run _ _ _).mono (fun _ h => h.1) (Cert.KernelIdeal.Gen.run_values m g), ?_⟩
  refine (θ_run _ _ _).mono (fun r h c => ?_) (Cert.ReferenceIdeal.Value.run (F := Ideal) m' g')
  obtain ⟨a0, a1, a2, a3, a4, a5, a6, a7, a8, a9, a10, a11, a12, a13, a14, a15, a16, a17, a18, a19, a20, a21⟩ := hargs c
  obtain ⟨r0, r1, r2, r3, r4, r5, r6, r7, r8, r9, r10, r11, r12, r13, r14, r15, r16, rest⟩ := h c
  exact ⟨(r0.trans (Cert.ReferenceIdeal.Read.val_main_v144_eq _)).trans (at_v144 a0 a2 a3 a4 a5 a8 a9 a10 a13 a14 a15), (r1.trans (Cert.ReferenceIdeal.Read.val_main_v160_eq _)).trans (at_v160 a0 a2 a3 a4 a5 a8 a9 a10), (r2.trans (Cert.ReferenceIdeal.Read.val_main_v174_eq _)).trans (at_v174 a0 a1 a2 a3 a4 a5 a8 a9 a10 a13 a14 a15), (r3.trans (Cert.ReferenceIdeal.Read.val_main_v206_eq _)).trans (at_v206 a0 a1 a2 a3 a4 a5 a6 a7 a8 a9 a10 a13 a14 a15 a18 a19 a20 a21), (r4.trans (Cert.ReferenceIdeal.Read.val_main_v207_eq _)).trans (at_v207 a0 a1 a2 a3 a4 a5 a6 a7 a8 a9 a10 a13 a14 a15 a18 a19 a20 a21), (r5.trans (Cert.ReferenceIdeal.Read.val_main_v190_eq _)).trans (at_v190 a0 a1 a2 a3 a4 a5 a6 a8 a9 a10 a13 a14 a15), (r6.trans (Cert.ReferenceIdeal.Read.val_main_v196_eq _)).trans (at_v196 a0 a1 a2 a3 a4 a5 a7 a8 a9 a10 a13 a14 a15), (r7.trans (Cert.ReferenceIdeal.Read.val_main_v181_eq _)).trans (at_v181 a0 a1 a2 a3 a4 a5 a8 a9 a13 a14 a15), (r8.trans (Cert.ReferenceIdeal.Read.val_main_v232_eq _)).trans (at_v232 a0 a1 a2 a3 a4 a5 a8 a9 a11 a12 a13 a14 a15 a18 a19 a20 a21), (r9.trans (Cert.ReferenceIdeal.Read.val_main_v233_eq _)).trans (at_v233 a0 a1 a2 a3 a4 a5 a8 a9 a10 a11 a12 a13 a14 a15 a18 a19 a20 a21), (r10.trans (Cert.ReferenceIdeal.Read.val_main_v216_eq _)).trans (at_v216 a0 a1 a2 a3 a4 a5 a8 a9 a11 a13 a14 a15), (r11.trans (Cert.ReferenceIdeal.Read.val_main_v222_eq _)).trans (at_v222 a0 a1 a2 a3 a4 a5 a8 a9 a12 a13 a14 a15), (r12.trans (Cert.ReferenceIdeal.Read.val_main_v167_eq _)).trans (at_v167 a0 a1 a2 a3 a4 a5 a8 a9 a10 a13 a14), (r13.trans (Cert.ReferenceIdeal.Read.val_main_v258_eq _)).trans (at_v258 a0 a1 a2 a3 a4 a5 a8 a9 a10 a13 a14 a16 a17 a18 a19 a20 a21), (r14.trans (Cert.ReferenceIdeal.Read.val_main_v259_eq _)).trans (at_v259 a0 a1 a2 a3 a4 a5 a8 a9 a10 a13 a14 a15 a16 a17 a18 a19 a20 a21), (r15.trans (Cert.ReferenceIdeal.Read.val_main_v242_eq _)).trans (at_v242 a0 a1 a2 a3 a4 a5 a8 a9 a10 a13 a14 a16), (r16.trans (Cert.ReferenceIdeal.Read.val_main_v248_eq _)).trans (at_v248 a0 a1 a2 a3 a4 a5 a8 a9 a10 a13 a14 a17), rest⟩

end Cert.Bridge
end
-- ==== Proof.DxAcc.lean ====
module

public import proofs.«01_k».proof.Proof.Gen.DxIdeal.Frame
public import proofs.«01_k».proof.Proof.Gen.DxIdeal.Value
public import Idealize.ShloMosaic.Lib.Pipeline.ValueKit
public import Idealize.ShloMosaic.Lib.Pipeline.ReadBack
public import Idealize.ShloMosaic.Lib.Pipeline.CanonAppend
public import Idealize.ShloMosaic.Lib.Pipeline.Covers
public import Idealize.ShloMosaic.Lib.Pointwise
public import Idealize.ShloMosaic.Lib.WholeRead

@[expose] public section

set_option maxRecDepth 16384

noncomputable section

namespace Cert.DxIdeal.Gen

open Idealize.ShloMosaic Idealize.ShloMosaic.TcCoe Idealize.ShloMosaic.Tactic
open Idealize.SL Idealize.SL.RA Idealize.SL.Sem
open Idealize.ShloMosaic.Pipeline (Dat Cfg Window)

/-- One grid point's contribution to the gradient of the normalised row. -/
def accTerm (d0 d1 : S512x256.Idx → EReal) (w0 w1 : S4096x256.Idx → EReal) (y : S512x4096.Idx) : EReal :=
  (∑ p : Fin 256, d0 (ix2 (y 0) p) * w0 (ix2 (y 1) p)) + ∑ p : Fin 256, d1 (ix2 (y 0) p) * w1 (ix2 (y 1) p)

/-- The sum a tile stores, at the coordinates of the block. -/
theorem accClose (xs : S512x4096.Idx → EReal) (d0 d1 : S512x256.Idx → EReal) (w0 w1 : S4096x256.Idx → EReal) (y : S512x4096.Idx)
    (a : Fin 512) (b : Fin 4096) (h0 : (y 0).val = a.val) (h1 : (y 1).val = b.val) :
    xs (ix2 a b) + ((∑ p : Fin 256, d0 (ix2 a p) * w0 (ix2 b p)) + ∑ p : Fin 256, d1 (ix2 a p) * w1 (ix2 b p))
      = xs y + accTerm d0 d1 w0 w1 y := by
  obtain rfl : y 0 = a := Fin.ext h0
  obtain rfl : y 1 = b := Fin.ext h1
  have e : (ix2 (y 0) (y 1) : S512x4096.Idx) = y := by funext k; fin_cases k <;> rfl
  rw [e]; rfl

/-- Where the first pieces of a list hold an index, the later ones do not matter. -/
theorem canon_append_left {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨_, hm, _⟩ := h; exact absurd hm List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hy⟩ := h
      rcases List.mem_cons.mp hq with rfl | hq
      · exact absurd hy hm
      · exact ⟨q, hq, hy⟩

/-- The same for a list of nine pieces whose first eight hold the index. -/
theorem canon_drop_last (p1 p2 p3 p4 p5 p6 p7 p8 q : View.Piece (Elt Ideal) S512x4096 .f32) (y : S512x4096.Idx) (G : EReal)
    (h : ∃ p ∈ [p1, p2, p3, p4, p5, p6, p7, p8], y ∈ p.1.set) (hG : View.canon [p1, p2, p3, p4, p5, p6, p7, p8] y = G) :
    View.canon [p1, p2, p3, p4, p5, p6, p7, p8, q] y = G :=
  (canon_append_left [q] y [p1, p2, p3, p4, p5, p6, p7, p8] h).trans hG

set_option maxHeartbeats 4000000 in
/-- The first point of a row of points stores its own contribution. -/
theorem acc_A (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : cond0_0 i) (hc1 : ¬cond0_1 i)
    (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (y : S512x4096.Idx) :
    sout0_A_0 c i arg2 harg2 arg3 harg3 arg4 harg4 arg5 harg5 arg6 harg6 arg7 harg7 arg8 harg8 arg9 harg9 arg10 harg10 arg11 harg11 hc0 hc1 x0 x1 x2 x3 x4 x5 x6 y = 0 + accTerm x0 x1 x2 x3 y := by
  generalize hG : 0 + accTerm x0 x1 x2 x3 y = G
  frame_open
  simp (disch := decide) only [↓ View.readCov_skip, ↓ View.readCov_cons_toLoadRect, ↓ View.readCov_fill]
  frame_out
  refine canon_drop_last _ _ _ _ _ _ _ _ _ _ _ (View.cover_of_tiledL (s := S512x4096) _ S512x512.size (by sl_kernel_rfl) y) ?_
  canon_tiles x h
  all_goals
    unfold_payloads
    pointwise
    subst hG
    exact (zero_add _).symm.trans (accClose (fun _ => 0) _ _ _ _ _ _ _ h0 h1)

set_option maxHeartbeats 4000000 in
/-- A middle point adds its contribution to what the point before left. -/
theorem acc_B (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : ¬cond0_0 i) (hc1 : ¬cond0_1 i)
    (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (xs0 : Vec Ideal S512x4096 .f32) (y : S512x4096.Idx) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 y = xs0 y + accTerm x0 x1 x2 x3 y := by
  generalize hG : xs0 y + accTerm x0 x1 x2 x3 y = G
  frame_out
  canon_tiles x h
  all_goals
    unfold_payloads
    pointwise
    subst hG
    exact accClose _ _ _ _ _ _ _ _ h0 h1

set_option maxHeartbeats 4000000 in
/-- The last point of a row of points adds its contribution too. -/
theorem acc_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : ¬cond0_0 i) (hc1 : cond0_1 i)
    (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (xs0 : Vec Ideal S512x4096 .f32) (y : S512x4096.Idx) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 y = xs0 y + accTerm x0 x1 x2 x3 y := by
  generalize hG : xs0 y + accTerm x0 x1 x2 x3 y = G
  frame_out
  canon_tiles x h
  all_goals
    unfold_payloads
    pointwise
    subst hG
    exact accClose _ _ _ _ _ _ _ _ h0 h1

end Cert.DxIdeal.Gen
end
-- ==== Proof.DxRows.lean ====
module

public import proofs.«01_k».proof.Proof.Gen.DxIdeal.Frame
public import proofs.«01_k».proof.Proof.Gen.DxIdeal.Value
public import Idealize.ShloMosaic.Lib.Pipeline.ValueKit
public import Idealize.ShloMosaic.Lib.Pipeline.ReadBack
public import Idealize.ShloMosaic.Lib.Pipeline.CanonAppend
public import Idealize.ShloMosaic.Lib.Pipeline.Covers
public import Idealize.ShloMosaic.Lib.Pointwise
public import Idealize.ShloMosaic.Lib.WholeRead

@[expose] public section

set_option maxRecDepth 16384

noncomputable section

namespace Cert.DxIdeal.Gen

open Idealize.ShloMosaic Idealize.ShloMosaic.TcCoe Idealize.ShloMosaic.Tactic
open Idealize.SL Idealize.SL.RA Idealize.SL.Sem
open Idealize.ShloMosaic.Pipeline (Dat Cfg Window)

/-- The reciprocal root mean square of a row. -/
def invRms (x : Fin 4096 → EReal) : EReal :=
  Ideal.div 1 (Ideal.sqrt (Ideal.div (∑ k, x k * x k) (Ideal.ofBits FTy.f32 1166016512#32) + Ideal.ofBits FTy.f32 925353388#32))

/-- The row's correction term: the reciprocal root mean square times the mean of the weighted gradient against the row. -/
def rowC (acc x nw : Fin 4096 → EReal) : EReal :=
  invRms x * Ideal.div (∑ k, acc k * nw k * x k) (Ideal.ofBits FTy.f32 1166016512#32)

/-- One entry of the gradient of the row before normalisation, added to the gradient that arrives around it. -/
def rowDx (acc x nw dy : Fin 4096 → EReal) (b : Fin 4096) : EReal :=
  dy b + invRms x * (acc b * nw b - x b * invRms x * rowC acc x nw)

/-- A block's rows of the gradient. -/
def blockDx (acc x dy : S512x4096.Idx → EReal) (nw : S1x4096.Idx → EReal) (y : S512x4096.Idx) : EReal :=
  rowDx (fun k => acc (ix2 (y 0) k)) (fun k => x (ix2 (y 0) k)) (fun k => nw (ix2 0 k)) (fun k => dy (ix2 (y 0) k)) (y 1)

/-- A block's correction terms. -/
def blockC (acc x : S512x4096.Idx → EReal) (nw : S1x4096.Idx → EReal) (y : S512x1.Idx) : EReal :=
  rowC (fun k => acc (ix2 (y 0) k)) (fun k => x (ix2 (y 0) k)) (fun k => nw (ix2 0 k))

/-- The stored rows, at an index. -/
theorem pay8_eq (x acc dy : S16x4096.Idx → EReal) (nw : S1x4096.Idx → EReal) (a : Fin 16) (b : Fin 4096) :
    k0_pay8 (F := Ideal) x acc nw dy (ix2 a b)
      = rowDx (fun k => acc (ix2 a k)) (fun k => x (ix2 a k)) (fun k => nw (ix2 0 k)) (fun k => dy (ix2 a k)) b := by
  generalize hG : rowDx (fun k => acc (ix2 a k)) (fun k => x (ix2 a k)) (fun k => nw (ix2 0 k)) (fun k => dy (ix2 a k)) b = G
  pointwise [k0_pay8, k0_pay7, k0_pay6, k0_pay5, k0_pay4]
  subst hG
  rfl

/-- The stored correction terms, at an index. -/
theorem pay7_eq (x acc : S16x4096.Idx → EReal) (nw : S1x4096.Idx → EReal) (a : Fin 16) (b : Fin 1) :
    k0_pay7 (F := Ideal) x acc nw (ix2 a b)
      = rowC (fun k => acc (ix2 a k)) (fun k => x (ix2 a k)) (fun k => nw (ix2 0 k)) := by
  generalize hG : rowC (fun k => acc (ix2 a k)) (fun k => x (ix2 a k)) (fun k => nw (ix2 0 k)) = G
  pointwise [k0_pay7, k0_pay6, k0_pay5, k0_pay4]
  subst hG
  rfl

/-- A read of sixteen rows of a buffer. -/
theorem read_rows {sp : Space} {e : EltTy} (v : View sig .tc sp S512x4096 e) (X : v.ty.Contents (Elt Ideal)) (k : Fin k0_t1_loop.trips)
    (inb : ∀ a, (k0_off1 k) a + S16x4096.size a ≤ S512x4096.size a) (r : Fin 512) (a : Fin 16) (hr : r.val = 16 * k.val + a.val) (b : Fin 4096) :
    v.readAt (Elt Ideal) (Rect.unit (s := S512x4096) (k0_off1 k) S16x4096.size inb).toLoadRect X (ix2 a b) = v.read (Elt Ideal) X (ix2 r b) := by
  rw [View.readAt_apply]
  refine congrArg (v.read (Elt Ideal) X) (funext fun d => Fin.ext ?_)
  refine (Rect.idx_unit_val _ _ _ _ _).trans ?_
  fin_cases d
  · exact (congrArg (· + a.val) (congrFun (k0_off1_eq k) 0)).trans hr.symm
  · exact (congrArg (· + b.val) (congrFun (k0_off1_eq k) 1)).trans (Nat.zero_add _)

/-- A read of the whole norm weight. -/
theorem read_weight {sp : Space} {e : EltTy} (v : View sig .tc sp S1x4096 e) (X : v.ty.Contents (Elt Ideal))
    (inb : ∀ a, (![0, 0] : Fin 2 → Nat) a + S1x4096.size a ≤ S1x4096.size a) (b : Fin 4096) :
    v.readAt (Elt Ideal) (Rect.unit (s := S1x4096) ![0, 0] S1x4096.size inb).toLoadRect X (ix2 0 b) = v.read (Elt Ideal) X (ix2 0 b) := by
  rw [View.readAt_apply]
  refine congrArg (v.read (Elt Ideal) X) (funext fun d => Fin.ext ?_)
  refine (Rect.idx_unit_val _ _ _ _ _).trans ?_
  fin_cases d
  · rfl
  · exact Nat.zero_add _

/-- The rows one trip of the loop stores. -/
theorem trip_rows (c : Dev nD) (bd : Option Variants.none.V) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (k0_h2 : k0_cond2 i = 1#1) (X6 : BufTy.Contents (Elt Ideal) arg6.view.ty) (X7 : BufTy.Contents (Elt Ideal) arg7.view.ty) (X8 : BufTy.Contents (Elt Ideal) arg8.view.ty) (X11 : BufTy.Contents (Elt Ideal) arg11.view.ty) (k : Fin k0_t1_loop.trips) (acc x dy : S512x4096.Idx → EReal) (nw : S1x4096.Idx → EReal)
    (e6 : arg6.view.read (Elt Ideal) X6 = x) (e7 : arg7.view.read (Elt Ideal) X7 = dy) (e8 : arg8.view.read (Elt Ideal) X8 = nw) (e11 : arg11.view.read (Elt Ideal) X11 = acc) :
    ∀ p ∈ (tripL_k0_t1 (F := Ideal) Variants.none c bd i arg2 harg2 arg3 harg3 arg4 harg4 arg5 harg5 arg6 harg6 arg7 harg7 arg8 harg8 arg9 harg9 arg10 harg10 arg11 harg11 k0_h2 X6 X7 X8 X11 k).1, ∀ z : p.1.shape.Idx, p.2 z = blockDx acc x dy nw (p.1.emb z) := by
  subst e6 e7 e8 e11
  unfold tripL_k0_t1 trip_k0_t1
  dsimp only
  intro p hp
  obtain rfl := List.mem_singleton.mp hp
  intro z
  obtain ⟨a, b, rfl⟩ : ∃ (a : Fin 16) (b : Fin 4096), z = (ix2 a b : S16x4096.Idx) := ⟨z 0, z 1, by funext d; fin_cases d <;> rfl⟩
  have hb : ((Rect.unit (s := S512x4096) (k0_off1 k) S16x4096.size (k0_off1_inb i k k0_h2)).emb (ix2 a b : S16x4096.Idx) 1) = b := Fin.ext (by
    refine (ValueKit.rect_emb_unit_val _ _ _ _ _).trans ?_
    exact (congrArg (· + b.val) (congrFun (k0_off1_eq k) 1)).trans (Nat.zero_add _))
  have ha : ((Rect.unit (s := S512x4096) (k0_off1 k) S16x4096.size (k0_off1_inb i k k0_h2)).emb (ix2 a b : S16x4096.Idx) 0).val = 16 * k.val + a.val := by
    refine (ValueKit.rect_emb_unit_val _ _ _ _ _).trans ?_
    exact congrArg (· + a.val) (congrFun (k0_off1_eq k) 0)
  dsimp only
  refine (pay8_eq _ _ _ _ a b).trans ?_
  unfold blockDx
  rw [hb]
  congr 1
  · exact funext fun j => read_rows _ _ _ _ _ _ ha j
  · exact funext fun j => read_rows _ _ _ _ _ _ ha j
  · exact funext fun j => read_weight _ _ _ j
  · exact funext fun j => read_rows _ _ _ _ _ _ ha j

/-- The correction terms one trip of the loop stores. -/
theorem trip_terms (c : Dev nD) (bd : Option Variants.none.V) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (k0_h2 : k0_cond2 i = 1#1) (X6 : BufTy.Contents (Elt Ideal) arg6.view.ty) (X7 : BufTy.Contents (Elt Ideal) arg7.view.ty) (X8 : BufTy.Contents (Elt Ideal) arg8.view.ty) (X11 : BufTy.Contents (Elt Ideal) arg11.view.ty) (k : Fin k0_t1_loop.trips) (acc x dy : S512x4096.Idx → EReal) (nw : S1x4096.Idx → EReal)
    (e6 : arg6.view.read (Elt Ideal) X6 = x) (e7 : arg7.view.read (Elt Ideal) X7 = dy) (e8 : arg8.view.read (Elt Ideal) X8 = nw) (e11 : arg11.view.read (Elt Ideal) X11 = acc) :
    ∀ p ∈ (tripL_k0_t1 (F := Ideal) Variants.none c bd i arg2 harg2 arg3 harg3 arg4 harg4 arg5 harg5 arg6 harg6 arg7 harg7 arg8 harg8 arg9 harg9 arg10 harg10 arg11 harg11 k0_h2 X6 X7 X8 X11 k).2, ∀ z : p.1.shape.Idx, p.2 z = blockC acc x nw (p.1.emb z) := by
  subst e6 e7 e8 e11
  unfold tripL_k0_t1 trip_k0_t1
  dsimp only
  intro p hp
  obtain rfl := List.mem_singleton.mp hp
  intro z
  obtain ⟨a, b, rfl⟩ : ∃ (a : Fin 16) (b : Fin 1), z = (ix2 a b : S16x1.Idx) := ⟨z 0, z 1, by funext d; fin_cases d <;> rfl⟩
  have ha : ((Rect.unit (s := S512x1) (k0_off2 k) S16x1.size (k0_off2_inb i k k0_h2)).emb (ix2 a b : S16x1.Idx) 0).val = 16 * k.val + a.val := by
    refine (ValueKit.rect_emb_unit_val _ _ _ _ _).trans ?_
    exact congrArg (· + a.val) (congrFun (k0_off2_eq k) 0)
  dsimp only
  refine (pay7_eq _ _ _ a b).trans ?_
  unfold blockC
  congr 1
  · exact funext fun j => read_rows _ _ _ _ _ _ ha j
  · exact funext fun j => read_rows _ _ _ _ _ _ ha j
  · exact funext fun j => read_weight _ _ _ j

/-- Every piece the loop has stored before trip `n` restricts the block's rows. -/
theorem loop_rows (c : Dev nD) (bd : Option Variants.none.V) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (k0_h2 : k0_cond2 i = 1#1) (X6 : BufTy.Contents (Elt Ideal) arg6.view.ty) (X7 : BufTy.Contents (Elt Ideal) arg7.view.ty) (X8 : BufTy.Contents (Elt Ideal) arg8.view.ty) (X11 : BufTy.Contents (Elt Ideal) arg11.view.ty) (acc x dy : S512x4096.Idx → EReal) (nw : S1x4096.Idx → EReal)
    (e6 : arg6.view.read (Elt Ideal) X6 = x) (e7 : arg7.view.read (Elt Ideal) X7 = dy) (e8 : arg8.view.read (Elt Ideal) X8 = nw) (e11 : arg11.view.read (Elt Ideal) X11 = acc) :
    ∀ n : Nat, ∀ p ∈ (pb_k0_t1 (F := Ideal) Variants.none c bd i arg2 harg2 arg3 harg3 arg4 harg4 arg5 harg5 arg6 harg6 arg7 harg7 arg8 harg8 arg9 harg9 arg10 harg10 arg11 harg11 k0_h2 X6 X7 X8 X11 n).1, ∀ z : p.1.shape.Idx, p.2 z = blockDx acc x dy nw (p.1.emb z)
  | 0 => fun p hp => absurd hp List.not_mem_nil
  | n + 1 => by
    rw [pb_k0_t1.eq_2]
    unfold pb_k0_t1Step
    split
    · intro p hp
      rcases List.mem_append.mp hp with hp | hp
      · exact trip_rows c bd i arg2 harg2 arg3 harg3 arg4 harg4 arg5 harg5 arg6 harg6 arg7 harg7 arg8 harg8 arg9 harg9 arg10 harg10 arg11 harg11 k0_h2 X6 X7 X8 X11 _ acc x dy nw e6 e7 e8 e11 p hp
      · exact loop_rows c bd i arg2 harg2 arg3 harg3 arg4 harg4 arg5 harg5 arg6 harg6 arg7 harg7 arg8 harg8 arg9 harg9 arg10 harg10 arg11 harg11 k0_h2 X6 X7 X8 X11 acc x dy nw e6 e7 e8 e11 n p hp
    · exact loop_rows c bd i arg2 harg2 arg3 harg3 arg4 harg4 arg5 harg5 arg6 harg6 arg7 harg7 arg8 harg8 arg9 harg9 arg10 harg10 arg11 harg11 k0_h2 X6 X7 X8 X11 acc x dy nw e6 e7 e8 e11 n

/-- Every piece the loop has stored before trip `n` restricts the block's correction terms. -/
theorem loop_terms (c : Dev nD) (bd : Option Variants.none.V) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (k0_h2 : k0_cond2 i = 1#1) (X6 : BufTy.Contents (Elt Ideal) arg6.view.ty) (X7 : BufTy.Contents (Elt Ideal) arg7.view.ty) (X8 : BufTy.Contents (Elt Ideal) arg8.view.ty) (X11 : BufTy.Contents (Elt Ideal) arg11.view.ty) (acc x dy : S512x4096.Idx → EReal) (nw : S1x4096.Idx → EReal)
    (e6 : arg6.view.read (Elt Ideal) X6 = x) (e7 : arg7.view.read (Elt Ideal) X7 = dy) (e8 : arg8.view.read (Elt Ideal) X8 = nw) (e11 : arg11.view.read (Elt Ideal) X11 = acc) :
    ∀ n : Nat, ∀ p ∈ (pb_k0_t1 (F := Ideal) Variants.none c bd i arg2 harg2 arg3 harg3 arg4 harg4 arg5 harg5 arg6 harg6 arg7 harg7 arg8 harg8 arg9 harg9 arg10 harg10 arg11 harg11 k0_h2 X6 X7 X8 X11 n).2, ∀ z : p.1.shape.Idx, p.2 z = blockC acc x nw (p.1.emb z)
  | 0 => fun p hp => absurd hp List.not_mem_nil
  | n + 1 => by
    rw [pb_k0_t1.eq_2]
    unfold pb_k0_t1Step
    split
    · intro p hp
      rcases List.mem_append.mp hp with hp | hp
      · exact trip_terms c bd i arg2 harg2 arg3 harg3 arg4 harg4 arg5 harg5 arg6 harg6 arg7 harg7 arg8 harg8 arg9 harg9 arg10 harg10 arg11 harg11 k0_h2 X6 X7 X8 X11 _ acc x dy nw e6 e7 e8 e11 p hp
      · exact loop_terms c bd i arg2 harg2 arg3 harg3 arg4 harg4 arg5 harg5 arg6 harg6 arg7 harg7 arg8 harg8 arg9 harg9 arg10 harg10 arg11 harg11 k0_h2 X6 X7 X8 X11 acc x dy nw e6 e7 e8 e11 n p hp
    · exact loop_terms c bd i arg2 harg2 arg3 harg3 arg4 harg4 arg5 harg5 arg6 harg6 arg7 harg7 arg8 harg8 arg9 harg9 arg10 harg10 arg11 harg11 k0_h2 X6 X7 X8 X11 acc x dy nw e6 e7 e8 e11 n

/-- What the accumulator holds when the loop reads it. -/
theorem scratch_read (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : ¬cond0_0 i) (hc1 : cond0_1 i) (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (xs0 : Vec Ideal S512x4096 .f32) :
    arg11.view.read (Elt Ideal) (arg11.view.writes (Elt Ideal) arg11.view.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1) = sout0_C_0 c i arg2 harg2 arg3 harg3 arg4 harg4 arg5 harg5 arg6 harg6 arg7 harg7 arg8 harg8 arg9 harg9 arg10 harg10 arg11 harg11 hc0 hc1 x0 x1 x2 x3 x4 x5 x6 xs0 := by
  unfold sout0_C_0
  exact (View.read_writes_junk_eq_canon _ _).trans (View.read_writes_junk_eq_canon _ _).symm

set_option maxHeartbeats 4000000 in
/-- The last point of a row of points stores the block's gradient. -/
theorem out_rows (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : ¬cond0_0 i) (hc1 : cond0_1 i) (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (xs0 : Vec Ideal S512x4096 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = blockDx (sout0_C_0 c i arg2 harg2 arg3 harg3 arg4 harg4 arg5 harg5 arg6 harg6 arg7 harg7 arg8 harg8 arg9 harg9 arg10 harg10 arg11 harg11 hc0 hc1 x0 x1 x2 x3 x4 x5 x6 xs0) x4 x5 x6 := by
  funext y
  unfold out0_C_7
  refine View.read_writes_apply_of_pieces (Val := Elt Ideal) _ _ (blockDx (sout0_C_0 c i arg2 harg2 arg3 harg3 arg4 harg4 arg5 harg5 arg6 harg6 arg7 harg7 arg8 harg8 arg9 harg9 arg10 harg10 arg11 harg11 hc0 hc1 x0 x1 x2 x3 x4 x5 x6 xs0) x4 x5 x6) _ ?_ y (cover0_C_7 c i arg2 harg2 arg3 harg3 arg4 harg4 arg5 harg5 arg6 harg6 arg7 harg7 arg8 harg8 arg9 harg9 arg10 harg10 arg11 harg11 hc0 hc1 x0 x1 x2 x3 x4 x5 x6 xs0 y)
  have h := loop_rows c none i arg2 harg2 arg3 harg3 arg4 harg4 arg5 harg5 arg6 harg6 arg7 harg7 arg8 harg8 arg9 harg9 arg10 harg10 arg11 harg11 hc1 (harg6.unread x4) (harg7.unread x5) (harg8.unread x6) _ _ x4 x5 x6 (harg6.read_unread x4) (harg7.read_unread x5) (harg8.read_unread x6) (scratch_read c i arg2 harg2 arg3 harg3 arg4 harg4 arg5 harg5 arg6 harg6 arg7 harg7 arg8 harg8 arg9 harg9 arg10 harg10 arg11 harg11 hc0 hc1 x0 x1 x2 x3 x4 x5 x6 xs0)
  unfold kernelRun0_C at h ⊢
  dsimp only at h ⊢
  exact h _

set_option maxHeartbeats 4000000 in
/-- The last point of a row of points stores the block's correction terms. -/
theorem out_terms (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .bf16) (harg9 : arg9.IsWhole) (arg10 : Memref sig .tc .vmem S512x1 .f32) (harg10 : arg10.IsWhole) (arg11 : Memref sig .tc .vmem S512x4096 .f32) (harg11 : arg11.IsWhole) (hc0 : ¬cond0_0 i) (hc1 : cond0_1 i) (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S1x4096 .f32) (xs0 : Vec Ideal S512x4096 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 = blockC (sout0_C_0 c i arg2 harg2 arg3 harg3 arg4 harg4 arg5 harg5 arg6 harg6 arg7 harg7 arg8 harg8 arg9 harg9 arg10 harg10 arg11 harg11 hc0 hc1 x0 x1 x2 x3 x4 x5 x6 xs0) x4 x6 := by
  funext y
  unfold out0_C_8
  refine View.read_writes_apply_of_pieces (Val := Elt Ideal) _ _ (blockC (sout0_C_0 c i arg2 harg2 arg3 harg3 arg4 harg4 arg5 harg5 arg6 harg6 arg7 harg7 arg8 harg8 arg9 harg9 arg10 harg10 arg11 harg11 hc0 hc1 x0 x1 x2 x3 x4 x5 x6 xs0) x4 x6) _ ?_ y (cover0_C_8 c i arg2 harg2 arg3 harg3 arg4 harg4 arg5 harg5 arg6 harg6 arg7 harg7 arg8 harg8 arg9 harg9 arg10 harg10 arg11 harg11 hc0 hc1 x0 x1 x2 x3 x4 x5 x6 xs0 y)
  have h := loop_terms c none i arg2 harg2 arg3 harg3 arg4 harg4 arg5 harg5 arg6 harg6 arg7 harg7 arg8 harg8 arg9 harg9 arg10 harg10 arg11 harg11 hc1 (harg6.unread x4) (harg7.unread x5) (harg8.unread x6) _ _ x4 x5 x6 (harg6.read_unread x4) (harg7.read_unread x5) (harg8.read_unread x6) (scratch_read c i arg2 harg2 arg3 harg3 arg4 harg4 arg5 harg5 arg6 harg6 arg7 harg7 arg8 harg8 arg9 harg9 arg10 harg10 arg11 harg11 hc0 hc1 x0 x1 x2 x3 x4 x5 x6 xs0)
  unfold kernelRun0_C at h ⊢
  dsimp only at h ⊢
  exact h _

end Cert.DxIdeal.Gen
end
-- ==== Proof.DxValue.lean ====
module

public import proofs.«01_k».proof.Proof.DxAcc
public import proofs.«01_k».proof.Proof.DxRows
public import proofs.«01_k».proof.Proof.Gen.DxIdeal.Value
public import Idealize.ShloMosaic.Lib.Pipeline.ValueKit
public import Idealize.ShloMosaic.Lib.Pipeline.ReadBack
public import Idealize.ShloMosaic.Lib.Pipeline.CanonAppend
public import Idealize.ShloMosaic.Lib.Pipeline.Covers
public import Idealize.ShloMosaic.Lib.Pointwise
public import Idealize.ShloMosaic.Lib.WholeRead

@[expose] public section

set_option maxRecDepth 16384

noncomputable section

namespace Cert.DxIdeal.Gen

open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ)

theorem idx0 : ∀ t : Fin cfg0.N, win0_0.index t = ![t.val / 43, t.val % 43] ∧ win0_1.index t = ![t.val / 43, t.val % 43]
    ∧ win0_2.index t = ![0, t.val % 43] ∧ win0_3.index t = ![0, t.val % 43] ∧ win0_4.index t = ![t.val / 43, 0]
    ∧ win0_5.index t = ![t.val / 43, 0] ∧ win0_6.index t = ![0, 0] ∧ win0_7.index t = ![t.val / 43, 0] ∧ win0_8.index t = ![t.val / 43, 0] := by
  decide +kernel

theorem covers0_7 : (cfg0.win 7).Covers := by decide +kernel
theorem covers0_8 : (cfg0.win 8).Covers := by decide +kernel

/-- The gradient of a normalised row, over the whole arrays. -/
def gradRow (d0 d1 : S6144x11008.Idx → EReal) (w0 w1 : S4096x11008.Idx → EReal) (r : Fin 6144) (k : Fin 4096) : EReal :=
  (∑ q : Fin 11008, d0 (ix2 r q) * w0 (ix2 k q)) + ∑ q : Fin 11008, d1 (ix2 r q) * w1 (ix2 k q)

/-- The gradient of the input rows, over the whole arrays. -/
def dxG (d0 d1 : S6144x11008.Idx → EReal) (w0 w1 : S4096x11008.Idx → EReal) (x dy : S6144x4096.Idx → EReal) (nw : S1x4096.Idx → EReal)
    (i : S6144x4096.Idx) : EReal :=
  rowDx (gradRow d0 d1 w0 w1 (i 0)) (fun k => x (ix2 (i 0) k)) (fun k => nw (ix2 0 k)) (fun k => dy (ix2 (i 0) k)) (i 1)

/-- The correction terms, over the whole arrays. -/
def termG (d0 d1 : S6144x11008.Idx → EReal) (w0 w1 : S4096x11008.Idx → EReal) (x : S6144x4096.Idx → EReal) (nw : S1x4096.Idx → EReal)
    (i : S6144x1.Idx) : EReal :=
  rowC (gradRow d0 d1 w0 w1 (i 0)) (fun k => x (ix2 (i 0) k)) (fun k => nw (ix2 0 k))

/-- A gradient block's entry. -/
theorem blk0_at (c : Dev nD) (t : Fin cfg0.N) (a : Fin 512) (b : Fin 256) (r : Fin 6144) (q : Fin 11008)
    (hr : r.val = 512 * (t.val / 43) + a.val) (hq : q.val = 256 * (t.val % 43) + b.val) :
    iblk m c 0 t (ix2 a b) = V m c (Pipeline.arrRef spec0 0) (ix2 r q) := by
  blk_point [iblk, idx0 t] <;> omega

/-- A gradient block's entry. -/
theorem blk1_at (c : Dev nD) (t : Fin cfg0.N) (a : Fin 512) (b : Fin 256) (r : Fin 6144) (q : Fin 11008)
    (hr : r.val = 512 * (t.val / 43) + a.val) (hq : q.val = 256 * (t.val % 43) + b.val) :
    iblk m c 1 t (ix2 a b) = V m c (Pipeline.arrRef spec0 1) (ix2 r q) := by
  blk_point [iblk, idx0 t] <;> omega

/-- A weight block's entry. -/
theorem blk2_at (c : Dev nD) (t : Fin cfg0.N) (a : Fin 4096) (b : Fin 256) (r : Fin 4096) (q : Fin 11008)
    (hr : r.val = a.val) (hq : q.val = 256 * (t.val % 43) + b.val) :
    iblk m c 2 t (ix2 a b) = V m c (Pipeline.arrRef spec0 2) (ix2 r q) := by
  blk_point [iblk, idx0 t] <;> omega

/-- A weight block's entry. -/
theorem blk3_at (c : Dev nD) (t : Fin cfg0.N) (a : Fin 4096) (b : Fin 256) (r : Fin 4096) (q : Fin 11008)
    (hr : r.val = a.val) (hq : q.val = 256 * (t.val % 43) + b.val) :
    iblk m c 3 t (ix2 a b) = V m c (Pipeline.arrRef spec0 3) (ix2 r q) := by
  blk_point [iblk, idx0 t] <;> omega

/-- An input block's entry. -/
theorem blk4_at (c : Dev nD) (t : Fin cfg0.N) (a : Fin 512) (b : Fin 4096) (r : Fin 6144) (q : Fin 4096)
    (hr : r.val = 512 * (t.val / 43) + a.val) (hq : q.val = b.val) :
    iblk m c 4 t (ix2 a b) = V m c (Pipeline.arrRef spec0 4) (ix2 r q) := by
  blk_point [iblk, idx0 t] <;> omega

/-- A block's entry of the gradient that arrives. -/
theorem blk5_at (c : Dev nD) (t : Fin cfg0.N) (a : Fin 512) (b : Fin 4096) (r : Fin 6144) (q : Fin 4096)
    (hr : r.val = 512 * (t.val / 43) + a.val) (hq : q.val = b.val) :
    iblk m c 5 t (ix2 a b) = V m c (Pipeline.arrRef spec0 5) (ix2 r q) := by
  blk_point [iblk, idx0 t] <;> omega

/-- The norm weight's entry. -/
theorem blk6_at (c : Dev nD) (t : Fin cfg0.N) (a : Fin 1) (b : Fin 4096) (r : Fin 1) (q : Fin 4096)
    (hr : r.val = a.val) (hq : q.val = b.val) :
    iblk m c 6 t (ix2 a b) = V m c (Pipeline.arrRef spec0 6) (ix2 r q) := by
  blk_point [iblk, idx0 t] <;> omega

/-- What the accumulator holds at the last point of a row of points: the contributions of the row's points. -/
theorem scratch_sum (c : Dev nD) (t : Fin cfg0.N) (hr : t.val % 43 = 43 - 1) (y : S512x4096.Idx) :
    (outsAt0 m c t.val t.isLt).2.2 y = ∑ s : Fin 43, accTerm (iblk m c 0 ⟨43 * (t.val / 43) + s.val, Pipeline.run_point_lt_of_flush t hr s⟩)
      (iblk m c 1 ⟨43 * (t.val / 43) + s.val, Pipeline.run_point_lt_of_flush t hr s⟩) (iblk m c 2 ⟨43 * (t.val / 43) + s.val, Pipeline.run_point_lt_of_flush t hr s⟩)
      (iblk m c 3 ⟨43 * (t.val / 43) + s.val, Pipeline.run_point_lt_of_flush t hr s⟩) y := by
  refine (Pipeline.eq_sum_fin_of_reset_step_apply_of_flush (fun n h => (outsAt0 m c n h).2.2) 43 (fun _ => (0 : EReal))
    (fun t y => accTerm (iblk m c 0 t) (iblk m c 1 t) (iblk m c 2 t) (iblk m c 3 t) y) (fun t h0 y => ?_) (fun t h0 y => ?_) t hr y).trans (zero_add _)
  · have h1 : ¬t.val % 43 = 42 := by omega
    rw [outsAt0_A m c t h0 h1]
    dsimp only
    rw [acc_A]
  · by_cases h1 : t.val % 43 = 42
    · rw [outsAt0_C m c t h0 h1]
      dsimp only
      rw [acc_C]
    · rw [outsAt0_B m c t h0 h1]
      dsimp only
      rw [acc_B]

/-- The accumulator at the last point of a row of points, over the whole arrays. -/
theorem scratch_at (c : Dev nD) (t : Fin cfg0.N) (hr : t.val % 43 = 43 - 1) (a : Fin 512) (k : Fin 4096) (r : Fin 6144)
    (ha : r.val = 512 * (t.val / 43) + a.val) :
    (outsAt0 m c t.val t.isLt).2.2 (ix2 a k) = gradRow (V m c (Pipeline.arrRef spec0 0)) (V m c (Pipeline.arrRef spec0 1)) (V m c (Pipeline.arrRef spec0 2)) (V m c (Pipeline.arrRef spec0 3)) r k := by
  rw [scratch_sum m c t hr]
  unfold accTerm gradRow
  rw [Finset.sum_add_distrib]
  refine congrArg₂ (· + ·) (Fin.sum_mul_add_congr fun s p hl => ?_) (Fin.sum_mul_add_congr fun s p hl => ?_)
  · refine congrArg₂ (· * ·) ?_ ?_
    · exact blk0_at m c _ a p r _ (by dsimp only; omega) (by dsimp only; omega)
    · exact blk2_at m c _ k p k _ rfl (by dsimp only; omega)
  · refine congrArg₂ (· * ·) ?_ ?_
    · exact blk1_at m c _ a p r _ (by dsimp only; omega) (by dsimp only; omega)
    · exact blk3_at m c _ k p k _ rfl (by dsimp only; omega)

set_option maxHeartbeats 4000000 in
/-- The rows stored at the last point of a row of points, from the accumulator there. -/
theorem rows_at (c : Dev nD) (t : Fin cfg0.N) (hr : t.val % 43 = 42) :
    (outsAt0 m c t.val t.isLt).1 = blockDx (outsAt0 m c t.val t.isLt).2.2 (iblk m c 4 t) (iblk m c 5 t) (iblk m c 6 t) := by
  have h0 : ¬t.val % 43 = 0 := by omega
  rw [outsAt0_C m c t h0 hr]
  dsimp only
  rw [out_rows]

set_option maxHeartbeats 4000000 in
/-- The correction terms stored there. -/
theorem terms_at (c : Dev nD) (t : Fin cfg0.N) (hr : t.val % 43 = 42) :
    (outsAt0 m c t.val t.isLt).2.1 = blockC (outsAt0 m c t.val t.isLt).2.2 (iblk m c 4 t) (iblk m c 6 t) := by
  have h0 : ¬t.val % 43 = 0 := by omega
  rw [outsAt0_C m c t h0 hr]
  dsimp only
  rw [out_terms]

/-- Equal rows give equal entries. -/
theorem congrArgs4 {a a' x x' n n' d d' : Fin 4096 → EReal} (h1 : a = a') (h2 : x = x') (h3 : n = n') (h4 : d = d') (b : Fin 4096) :
    rowDx a x n d b = rowDx a' x' n' d' b := by
  rw [h1, h2, h3, h4]

/-- Equal rows give equal correction terms. -/
theorem congrArgs3 {a a' x x' n n' : Fin 4096 → EReal} (h1 : a = a') (h2 : x = x') (h3 : n = n') : rowC a x n = rowC a' x' n' := by
  rw [h1, h2, h3]

/-- The call's first result. -/
theorem arr0_7 (c : Dev nD) : (dats m 0 c).arrAt 7 cfg0.N
    = dxG (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) := by
  refine (dats m 0 c).arrAt_eq_of_covers 7 _ covers0_7 fun t hf y => ?_
  have hr : t.val % 43 = 42 := (flush0_7 t).mp hf
  blk_simp
  rw [after0_7, rows_at m c t hr]
  unfold blockDx dxG
  have e0 : ((win0_7.blk t).view.emb y 0).val = 512 * (t.val / 43) + (y 0).val := by
    blk_simp [idx0 t]
    omega
  have e1 : y 1 = (win0_7.blk t).view.emb y 1 := Fin.ext (by
    blk_simp [idx0 t])
  rw [← e1]
  refine congrArgs4 (funext fun k => ?_) (funext fun k => ?_) (funext fun k => ?_) (funext fun k => ?_) _
  · exact scratch_at m c t hr _ k _ e0
  · exact blk4_at m c t _ _ _ _ e0 rfl
  · exact blk6_at m c t _ _ _ _ rfl rfl
  · exact blk5_at m c t _ _ _ _ e0 rfl

/-- The call's second result. -/
theorem arr0_8 (c : Dev nD) : (dats m 0 c).arrAt 8 cfg0.N
    = termG (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 6)) := by
  refine (dats m 0 c).arrAt_eq_of_covers 8 _ covers0_8 fun t hf y => ?_
  have hr : t.val % 43 = 42 := (flush0_8 t).mp hf
  blk_simp
  rw [after0_8, terms_at m c t hr]
  unfold blockC termG
  have e0 : ((win0_8.blk t).view.emb y 0).val = 512 * (t.val / 43) + (y 0).val := by
    blk_simp [idx0 t]
    omega
  refine congrArgs3 (funext fun k => ?_) (funext fun k => ?_) (funext fun k => ?_)
  · exact scratch_at m c t hr _ k _ e0
  · exact blk4_at m c t _ _ _ _ e0 rfl
  · exact blk6_at m c t _ _ _ _ rfl rfl

end Cert.DxIdeal.Gen
end
-- ==== Proof.DxAlgebraic.lean ====
module

public import proofs.«01_k».proof.Proof.DxValue
public import proofs.«01_k».proof.Proof.Gen.DxReferenceIdeal.Read
public import proofs.«01_k».proof.Proof.Gen.DxReferenceIdeal.Run
public import Idealize.ShloMosaic.Lib.StableHlo.RunRead
public import proofs.«01_k».proof.Defs
public import proofs.«01_k».proof.Proof.Gen.DxIdeal.Value
public import Idealize.ShloMosaic.Lib.Pipeline.ValueKit
public import Idealize.ShloMosaic.Lib.Pipeline.ReadBack
public import Idealize.ShloMosaic.Lib.Pipeline.CanonAppend
public import Idealize.ShloMosaic.Lib.Pipeline.Covers
public import Idealize.ShloMosaic.Lib.Pointwise
public import Idealize.ShloMosaic.Lib.WholeRead

@[expose] public section

set_option maxRecDepth 16384

noncomputable section

namespace Cert.DxIdeal.Gen

open Idealize.ShloMosaic Idealize.ShloMosaic.TcCoe Idealize.ShloMosaic.Tactic
open Idealize.SL Idealize.SL.RA Idealize.SL.Sem

/-- The norm weight as a row. -/
def weightRow (x : S4096.Idx → EReal) (i : S1x4096.Idx) : EReal := x (ix1 (i 1))

/-- The norm weight's row holds the norm weight. -/
theorem host0_v0 (U : Valuation τ sig (Elt Ideal)) : StableHlo.after hostOps0 U (Proc.devRef .tc main_v0) = weightRow (U (Proc.devRef .tc main_arg6)) := by
  after_reads_simp
  funext i
  obtain ⟨a, b, rfl⟩ : ∃ (a : Fin 1) (b : Fin 4096), i = (ix2 a b : S1x4096.Idx) := ⟨i 0, i 1, by funext d; fin_cases d <;> rfl⟩
  generalize hG : (weightRow (U (Proc.devRef .tc main_arg6))) (ix2 a b) = G
  pointwise
  subst hG
  rfl

variable (m : (ℓ : Loc nD τ sig) → Buf (Elt Ideal) ℓ)

/-- The call's first result, from the arguments. -/
theorem dx_value (c : Dev nD) : (dats m 0 c).arrAt 7 cfg0.N
    = dxG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (weightRow (m ((c : Thread nD τ).loc main_arg6))) := by
  rw [arr0_7]
  rw [show V m c (Pipeline.arrRef spec0 0) = (m ((c : Thread nD τ).loc main_arg0)) from V_main_arg0 m c, show V m c (Pipeline.arrRef spec0 1) = (m ((c : Thread nD τ).loc main_arg1)) from V_main_arg1 m c,
    show V m c (Pipeline.arrRef spec0 2) = (m ((c : Thread nD τ).loc main_arg2)) from V_main_arg2 m c, show V m c (Pipeline.arrRef spec0 3) = (m ((c : Thread nD τ).loc main_arg3)) from V_main_arg3 m c,
    show V m c (Pipeline.arrRef spec0 4) = (m ((c : Thread nD τ).loc main_arg4)) from V_main_arg4 m c, show V m c (Pipeline.arrRef spec0 5) = (m ((c : Thread nD τ).loc main_arg5)) from V_main_arg5 m c,
    show V m c (Pipeline.arrRef spec0 6) = weightRow (m ((c : Thread nD τ).loc main_arg6)) from host0_v0 (fun b => m (c, b))]

/-- The call's second result, from the arguments. -/
theorem term_value (c : Dev nD) : (dats m 0 c).arrAt 8 cfg0.N
    = termG (m ((c : Thread nD τ).loc main_arg0)) (m ((c : Thread nD τ).loc main_arg1)) (m ((c : Thread nD τ).loc main_arg2)) (m ((c : Thread nD τ).loc main_arg3)) (m ((c : Thread nD τ).loc main_arg4)) (weightRow (m ((c : Thread nD τ).loc main_arg6))) := by
  rw [arr0_8]
  rw [show V m c (Pipeline.arrRef spec0 0) = (m ((c : Thread nD τ).loc main_arg0)) from V_main_arg0 m c, show V m c (Pipeline.arrRef spec0 1) = (m ((c : Thread nD τ).loc main_arg1)) from V_main_arg1 m c,
    show V m c (Pipeline.arrRef spec0 2) = (m ((c : Thread nD τ).loc main_arg2)) from V_main_arg2 m c, show V m c (Pipeline.arrRef spec0 3) = (m ((c : Thread nD τ).loc main_arg3)) from V_main_arg3 m c,
    show V m c (Pipeline.arrRef spec0 4) = (m ((c : Thread nD τ).loc main_arg4)) from V_main_arg4 m c,
    show V m c (Pipeline.arrRef spec0 6) = weightRow (m ((c : Thread nD τ).loc main_arg6)) from host0_v0 (fun b => m (c, b))]

end Cert.DxIdeal.Gen

namespace Cert.DxBridge

open Idealize.ShloMosaic Idealize.ShloMosaic.TcCoe Idealize.ShloMosaic.Tactic
open Idealize.SL.Sem
open Cert.DxReferenceIdeal Cert.DxReferenceIdeal.Read
open Cert.DxIdeal.Gen (dxG termG gradRow weightRow rowDx rowC invRms dx_value term_value)

/-- The reference's first result. -/
theorem ref_rows (x0 x1 : S6144x11008.Idx → EReal) (x2 x3 : S4096x11008.Idx → EReal) (x4 x5 : S6144x4096.Idx → EReal) (x6 : S4096.Idx → EReal) :
    val_main_v32 (F := Ideal) x0 x1 x2 x3 x4 x5 x6 = dxG x0 x1 x2 x3 x4 x5 (weightRow x6) := by
  funext i
  obtain ⟨r, k, rfl⟩ : ∃ (a : Fin 6144) (b : Fin 4096), i = (ix2 a b : S6144x4096.Idx) := ⟨i 0, i 1, by funext d; fin_cases d <;> rfl⟩
  generalize hG : (dxG x0 x1 x2 x3 x4 x5 (weightRow x6)) (ix2 r k) = G
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4]
  subst hG
  rfl

/-- The reference's second result. -/
theorem ref_terms (x0 x1 : S6144x11008.Idx → EReal) (x2 x3 : S4096x11008.Idx → EReal) (x4 : S6144x4096.Idx → EReal) (x6 : S4096.Idx → EReal) :
    val_main_v22 (F := Ideal) x0 x1 x2 x3 x4 x6 = termG x0 x1 x2 x3 x4 (weightRow x6) := by
  funext i
  obtain ⟨r, k, rfl⟩ : ∃ (a : Fin 6144) (b : Fin 1), i = (ix2 a b : S6144x1.Idx) := ⟨i 0, i 1, by funext d; fin_cases d <;> rfl⟩
  generalize hG : (termG x0 x1 x2 x3 x4 (weightRow x6)) (ix2 r k) = G
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, val_main_cst_3, val_main_cst_4]
  subst hG
  rfl

/-- The reference's first result at arguments equal to the kernel's. -/
theorem at_rows {y0 y1 x0 x1 : S6144x11008.Idx → EReal} {y2 y3 x2 x3 : S4096x11008.Idx → EReal} {y4 y5 x4 x5 : S6144x4096.Idx → EReal} {y6 x6 : S4096.Idx → EReal}
    (h0 : y0 = x0) (h1 : y1 = x1) (h2 : y2 = x2) (h3 : y3 = x3) (h4 : y4 = x4) (h5 : y5 = x5) (h6 : y6 = x6) :
    val_main_v32 (F := Ideal) y0 y1 y2 y3 y4 y5 y6 = dxG x0 x1 x2 x3 x4 x5 (weightRow x6) := by
  subst h0 h1 h2 h3 h4 h5 h6
  exact ref_rows _ _ _ _ _ _ _

/-- The reference's second result at arguments equal to the kernel's. -/
theorem at_terms {y0 y1 x0 x1 : S6144x11008.Idx → EReal} {y2 y3 x2 x3 : S4096x11008.Idx → EReal} {y4 x4 : S6144x4096.Idx → EReal} {y6 x6 : S4096.Idx → EReal}
    (h0 : y0 = x0) (h1 : y1 = x1) (h2 : y2 = x2) (h3 : y3 = x3) (h4 : y4 = x4) (h6 : y6 = x6) :
    val_main_v22 (F := Ideal) y0 y1 y2 y3 y4 y6 = termG x0 x1 x2 x3 x4 (weightRow x6) := by
  subst h0 h1 h2 h3 h4 h6
  exact ref_terms _ _ _ _ _ _

/-- The input-gradient call computes what the plain program computes. -/
theorem algebraic : @Cert.algebraic_DxIdeal_DxReferenceIdeal Cert.DxIdeal.Gen.facts Cert.DxReferenceIdeal.Gen.facts := by
  intro m g m' g' _ hargs
  refine ⟨fun c => dxG (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (weightRow (m ((c.tc : Thread Cert.DxIdeal.nD Cert.DxIdeal.τ).loc Cert.DxIdeal.main_arg6))),
    fun c => termG (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (weightRow (m ((c.tc : Thread Cert.DxIdeal.nD Cert.DxIdeal.τ).loc Cert.DxIdeal.main_arg6))), ?_, ?_⟩
  · refine (θ_run _ _ _).mono (fun r h c => ?_) (Cert.DxIdeal.Value.run_blocks (F := Ideal) m g)
    obtain ⟨r0, r1, rest⟩ := h c
    exact ⟨r0.trans (dx_value m c), r1.trans (term_value m c), rest⟩
  · refine (θ_run _ _ _).mono (fun r h c => ?_) (Cert.DxReferenceIdeal.Value.run (F := Ideal) m' g')
    obtain ⟨a0, a1, a2, a3, a4, a5, a6⟩ := hargs c
    obtain ⟨r0, r1, rest⟩ := h c
    exact ⟨(r0.trans (val_main_v32_eq _ _ _ _ _ _ _)).trans (at_rows a0 a1 a2 a3 a4 a5 a6), (r1.trans (val_main_v22_eq _ _ _ _ _ _)).trans (at_terms a0 a1 a2 a3 a4 a6), rest⟩

end Cert.DxBridge
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dx
public import proofs.«01_k».proof.Proof.Gen.Dx.Skeleton
public import proofs.«01_k».proof.Proof.Gen.Dx.Loops
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Loops
public import proofs.«01_k».proof.Proof.Gen.DxIdeal.Launch
public import proofs.«01_k».proof.Proof.Gen.DxIdeal.Points
public import proofs.«01_k».proof.Proof.Gen.DxIdeal.Frame
public import proofs.«01_k».proof.Proof.Gen.DxReferenceIdeal
public import proofs.«01_k».proof.Proof.Gen.ReferenceIdeal.Run
public import proofs.«01_k».proof.Proof.Gen.ReferenceIdeal.Read
public import proofs.«01_k».proof.Proof.Gen.DxReferenceIdeal.Run
public import proofs.«01_k».proof.Proof.Gen.DxReferenceIdeal.Read
public import proofs.«01_k».proof.Proof.Gen.DxIdeal.Value
public import proofs.«01_k».proof.Proof.AlgebraicMain
public import proofs.«01_k».proof.Proof.DxAlgebraic
public import Idealize.ShloMosaic.Adequacy
public import Idealize.ShloMosaic.Init

@[expose] public section

noncomputable section

namespace Cert.Proof

open Idealize.ShloMosaic Idealize.SL.Sem Cert.Kernel

/-- The plain program ends with its arguments unchanged; it declares no semaphore. -/
theorem frame_ReferenceIdeal : @Cert.quiescent_ReferenceIdeal Cert.ReferenceIdeal.Gen.facts := by
  intro m ρ _
  exact (θ_run Cert.ReferenceIdeal.defs _ _).mono (fun r h => ⟨fun c => (h c).2.2.2.2.2.2.2.2.2.2.2.2.2.2.2.2.2, Idealize.ShloMosaic.sem_eq_zero_of_no_sems (by decide) r.2⟩)
    (Cert.ReferenceIdeal.Value.run (F := Ideal) m ρ)

/-- The plain program of the input gradient ends with its arguments unchanged; it declares no semaphore. -/
theorem frame_DxReferenceIdeal : @Cert.quiescent_DxReferenceIdeal Cert.DxReferenceIdeal.Gen.facts := by
  intro m ρ _
  exact (θ_run Cert.DxReferenceIdeal.defs _ _).mono (fun r h => ⟨fun c => (h c).2.2, Idealize.ShloMosaic.sem_eq_zero_of_no_sems (by decide) r.2⟩)
    (Cert.DxReferenceIdeal.Value.run (F := Ideal) m ρ)

/-- The claims. -/
theorem claim : Cert.Claim := ⟨Cert.Kernel.Gen.facts, Cert.KernelIdeal.Gen.facts, Cert.ReferenceIdeal.Gen.facts, Cert.Dx.Gen.facts, Cert.DxIdeal.Gen.facts, Cert.DxReferenceIdeal.Gen.facts,
  fun m ρ _ => Cert.Kernel.Gen.frame m ρ, fun m ρ _ => Cert.KernelIdeal.Gen.frame m ρ, frame_ReferenceIdeal,
  fun m ρ _ => Cert.Dx.Gen.frame m ρ, fun m ρ _ => Cert.DxIdeal.Gen.frame m ρ, frame_DxReferenceIdeal,
  trivial, Cert.Bridge.algebraic, trivial, Cert.DxBridge.algebraic⟩

end Cert.Proof

end
